-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PleFirst (m : (ℓ : Loc Cert.PleFirst.nD Cert.PleFirst.τ Cert.PleFirst.sig) → Buf (Elt Bits) ℓ) : Prop :=
  True

def Pre_PleFirstIdeal (m : (ℓ : Loc Cert.PleFirstIdeal.nD Cert.PleFirstIdeal.τ Cert.PleFirstIdeal.sig) → Buf (Elt Ideal) ℓ) : Prop :=
  True

def Pre_PleFirstRefIdeal (m : (ℓ : Loc Cert.PleFirstRefIdeal.nD Cert.PleFirstRefIdeal.τ Cert.PleFirstRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_rates_above_minus_infinity [hPre_rates_above_minus_infinity : Cert.Pre_rates_above_minus_infinity.Facts] (m : (ℓ : Loc Cert.SsdIdeal.nD Cert.SsdIdeal.τ Cert.SsdIdeal.sig) → Buf (Elt Ideal) ℓ) : Prop :=
  ∀ c : Dev Cert.SsdIdeal.nD,
    (Cert.Pre_rates_above_minus_infinity.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7)) (m ((c.tc : Thread Cert.SsdIdeal.nD Cert.SsdIdeal.τ).loc Cert.SsdIdeal.main_arg8)) (m ((c.tc : Thread Cert.SsdIdeal.nD Cert.SsdIdeal.τ).loc Cert.SsdIdeal.main_arg9)) (m ((c.tc : Thread Cert.SsdIdeal.nD Cert.SsdIdeal.τ).loc Cert.SsdIdeal.main_arg10))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_rates_above_minus_infinity [hPre_rates_above_minus_infinity : Cert.Pre_rates_above_minus_infinity.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_rates_above_minus_infinity.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7)) (m ((c.tc : Thread Cert.SsdRefIdeal.nD Cert.SsdRefIdeal.τ).loc Cert.SsdRefIdeal.main_arg8)) (m ((c.tc : Thread Cert.SsdRefIdeal.nD Cert.SsdRefIdeal.τ).loc Cert.SsdRefIdeal.main_arg9)) (m ((c.tc : Thread Cert.SsdRefIdeal.nD Cert.SsdRefIdeal.τ).loc Cert.SsdRefIdeal.main_arg10))) = (fun _ => 1#1)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_PleFirst [hPleFirst : Cert.PleFirst.Facts] : Prop :=
  ∀ (m : (ℓ : Loc Cert.PleFirst.nD Cert.PleFirst.τ Cert.PleFirst.sig) → Buf (Elt Bits) ℓ) (g : Dev Cert.PleFirst.nD → PrngReg), Pre_PleFirst m →
    θ_run (Cert.PleFirst.defs (F := Bits)) (onTc (τ := Cert.PleFirst.τ) (Cert.PleFirst.main (F := Bits))) ⟨m, fun _ => 0, g⟩ (fun r => (∀ c : Dev Cert.PleFirst.nD,
      r.2.mem ((c.tc : Thread Cert.PleFirst.nD Cert.PleFirst.τ).loc Cert.PleFirst.main_arg0) = m ((c.tc : Thread Cert.PleFirst.nD Cert.PleFirst.τ).loc Cert.PleFirst.main_arg0)
      ∧ r.2.mem ((c.tc : Thread Cert.PleFirst.nD Cert.PleFirst.τ).loc Cert.PleFirst.main_arg1) = m ((c.tc : Thread Cert.PleFirst.nD Cert.PleFirst.τ).loc Cert.PleFirst.main_arg1)
      ∧ r.2.mem ((c.tc : Thread Cert.PleFirst.nD Cert.PleFirst.τ).loc Cert.PleFirst.main_arg2) = m ((c.tc : Thread Cert.PleFirst.nD Cert.PleFirst.τ).loc Cert.PleFirst.main_arg2)
      ∧ r.2.mem ((c.tc : Thread Cert.PleFirst.nD Cert.PleFirst.τ).loc Cert.PleFirst.main_arg3) = m ((c.tc : Thread Cert.PleFirst.nD Cert.PleFirst.τ).loc Cert.PleFirst.main_arg3)
      ∧ r.2.mem ((c.tc : Thread Cert.PleFirst.nD Cert.PleFirst.τ).loc Cert.PleFirst.main_arg4) = m ((c.tc : Thread Cert.PleFirst.nD Cert.PleFirst.τ).loc Cert.PleFirst.main_arg4))
      ∧ r.2.sem = fun _ => 0)

def quiescent_PleFirstIdeal [hPleFirstIdeal : Cert.PleFirstIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg), Pre_PleFirstIdeal m →
    θ_run (Cert.PleFirstIdeal.defs (F := Ideal)) (onTc (τ := Cert.PleFirstIdeal.τ) (Cert.PleFirstIdeal.main (F := Ideal))) ⟨m, fun _ => 0, g⟩ (fun r => (∀ c : Dev Cert.PleFirstIdeal.nD,
      r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
      ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
      ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
      ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
      ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4))
      ∧ r.2.sem = fun _ => 0)

def quiescent_PleFirstRefIdeal [hPleFirstRefIdeal : Cert.PleFirstRefIdeal.Facts] : Prop :=
  ∀ (m : (ℓ : Loc Cert.PleFirstRefIdeal.nD Cert.PleFirstRefIdeal.τ Cert.PleFirstRefIdeal.sig) → Buf (Elt Ideal) ℓ) (g : Dev Cert.PleFirstRefIdeal.nD → PrngReg), Pre_PleFirstRefIdeal m →
    θ_run (Cert.PleFirstRefIdeal.defs (F := Ideal)) (onTc (τ := Cert.PleFirstRefIdeal.τ) (Cert.PleFirstRefIdeal.main (F := Ideal))) ⟨m, fun _ => 0, g⟩ (fun r => (∀ c : Dev Cert.PleFirstRefIdeal.nD,
      r.2.mem ((c.tc : Thread Cert.PleFirstRefIdeal.nD Cert.PleFirstRefIdeal.τ).loc Cert.PleFirstRefIdeal.main_arg0) = m ((c.tc : Thread Cert.PleFirstRefIdeal.nD Cert.PleFirstRefIdeal.τ).loc Cert.PleFirstRefIdeal.main_arg0)
      ∧ r.2.mem ((c.tc : Thread Cert.PleFirstRefIdeal.nD Cert.PleFirstRefIdeal.τ).loc Cert.PleFirstRefIdeal.main_arg1) = m ((c.tc : Thread Cert.PleFirstRefIdeal.nD Cert.PleFirstRefIdeal.τ).loc Cert.PleFirstRefIdeal.main_arg1)
      ∧ r.2.mem ((c.tc : Thread Cert.PleFirstRefIdeal.nD Cert.PleFirstRefIdeal.τ).loc Cert.PleFirstRefIdeal.main_arg2) = m ((c.tc : Thread Cert.PleFirstRefIdeal.nD Cert.PleFirstRefIdeal.τ).loc Cert.PleFirstRefIdeal.main_arg2)
      ∧ r.2.mem ((c.tc : Thread Cert.PleFirstRefIdeal.nD Cert.PleFirstRefIdeal.τ).loc Cert.PleFirstRefIdeal.main_arg3) = m ((c.tc : Thread Cert.PleFirstRefIdeal.nD Cert.PleFirstRefIdeal.τ).loc Cert.PleFirstRefIdeal.main_arg3)
      ∧ r.2.mem ((c.tc : Thread Cert.PleFirstRefIdeal.nD Cert.PleFirstRefIdeal.τ).loc Cert.PleFirstRefIdeal.main_arg4) = m ((c.tc : Thread Cert.PleFirstRefIdeal.nD Cert.PleFirstRefIdeal.τ).loc Cert.PleFirstRefIdeal.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdIdeal_pre_rates_above_minus_infinity [hSsdIdeal : Cert.SsdIdeal.Facts] [hPre_rates_above_minus_infinity : Cert.Pre_rates_above_minus_infinity.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_rates_above_minus_infinity m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9)
      ∧ r.2.mem ((c.tc : Thread Cert.SsdRefIdeal.nD Cert.SsdRefIdeal.τ).loc Cert.SsdRefIdeal.main_arg10) = m ((c.tc : Thread Cert.SsdRefIdeal.nD Cert.SsdRefIdeal.τ).loc Cert.SsdRefIdeal.main_arg10))
      ∧ r.2.sem = fun _ => 0)

def quiescent_SsdRefIdeal_pre_rates_above_minus_infinity [hSsdRefIdeal : Cert.SsdRefIdeal.Facts] [hPre_rates_above_minus_infinity : Cert.Pre_rates_above_minus_infinity.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_rates_above_minus_infinity m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9)
      ∧ r.2.mem ((c.tc : Thread Cert.SsdRefIdeal.nD Cert.SsdRefIdeal.τ).loc Cert.SsdRefIdeal.main_arg10) = m ((c.tc : Thread Cert.SsdRefIdeal.nD Cert.SsdRefIdeal.τ).loc Cert.SsdRefIdeal.main_arg10))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v9)) (v1 : (c : Dev Cert.InprojIdeal.nD) → Buf (Elt Ideal) ((c.tc : Thread Cert.InprojIdeal.nD Cert.InprojIdeal.τ).loc Cert.InprojIdeal.main_v10)) (v2 : (c : Dev Cert.InprojIdeal.nD) → Buf (Elt Ideal) ((c.tc : Thread Cert.InprojIdeal.nD Cert.InprojIdeal.τ).loc Cert.InprojIdeal.main_v11)) (v3 : (c : Dev Cert.InprojIdeal.nD) → Buf (Elt Ideal) ((c.tc : Thread Cert.InprojIdeal.nD Cert.InprojIdeal.τ).loc Cert.InprojIdeal.main_v12)) (v4 : (c : Dev Cert.InprojIdeal.nD) → Buf (Elt Ideal) ((c.tc : Thread Cert.InprojIdeal.nD Cert.InprojIdeal.τ).loc Cert.InprojIdeal.main_v13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9) = v0 c
          ∧ r.2.mem ((c.tc : Thread Cert.InprojIdeal.nD Cert.InprojIdeal.τ).loc Cert.InprojIdeal.main_v10) = v1 c
          ∧ r.2.mem ((c.tc : Thread Cert.InprojIdeal.nD Cert.InprojIdeal.τ).loc Cert.InprojIdeal.main_v11) = v2 c
          ∧ r.2.mem ((c.tc : Thread Cert.InprojIdeal.nD Cert.InprojIdeal.τ).loc Cert.InprojIdeal.main_v12) = v3 c
          ∧ r.2.mem ((c.tc : Thread Cert.InprojIdeal.nD Cert.InprojIdeal.τ).loc Cert.InprojIdeal.main_v13) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v24) = v0 c
          ∧ r.2.mem ((c.tc : Thread Cert.InprojRefIdeal.nD Cert.InprojRefIdeal.τ).loc Cert.InprojRefIdeal.main_v25) = v1 c
          ∧ r.2.mem ((c.tc : Thread Cert.InprojRefIdeal.nD Cert.InprojRefIdeal.τ).loc Cert.InprojRefIdeal.main_v21) = v2 c
          ∧ r.2.mem ((c.tc : Thread Cert.InprojRefIdeal.nD Cert.InprojRefIdeal.τ).loc Cert.InprojRefIdeal.main_v26) = v3 c
          ∧ r.2.mem ((c.tc : Thread Cert.InprojRefIdeal.nD Cert.InprojRefIdeal.τ).loc Cert.InprojRefIdeal.main_v27) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v45) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Merge_MergeIdeal : Prop :=
  IdealRules.named_const.Statement Cert.MergeIdeal.κ "gelu_cubic" .bf16 0x3D37#16 ((12003091 / 268435456 : ℝ) : EReal)
  ∧ IdealRules.named_const.Statement Cert.MergeIdeal.κ "sqrt_2_over_pi" .bf16 0x3F4C#16 ((6693141 / 8388608 : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v21_0)) (v1 : (c : Dev Cert.MergeIdeal.nD) → Buf (Elt Ideal) ((c.tc : Thread Cert.MergeIdeal.nD Cert.MergeIdeal.τ).loc Cert.MergeIdeal.main_v21_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21_0) = v0 c
          ∧ r.2.mem ((c.tc : Thread Cert.MergeIdeal.nD Cert.MergeIdeal.τ).loc Cert.MergeIdeal.main_v21_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v89) = v0 c
          ∧ r.2.mem ((c.tc : Thread Cert.MergeRefIdeal.nD Cert.MergeRefIdeal.τ).loc Cert.MergeRefIdeal.main_v90) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_PleFirst_PleFirstIdeal : Prop :=
  True

def algebraic_PleFirstIdeal_PleFirstRefIdeal [hPleFirstIdeal : Cert.PleFirstIdeal.Facts] [hPleFirstRefIdeal : Cert.PleFirstRefIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg)
    (m' : (ℓ : Loc Cert.PleFirstRefIdeal.nD Cert.PleFirstRefIdeal.τ Cert.PleFirstRefIdeal.sig) → Buf (Elt Ideal) ℓ) (g' : Dev Cert.PleFirstRefIdeal.nD → PrngReg), Pre_PleFirstIdeal m →
    (∀ c : Dev Cert.PleFirstIdeal.nD,
      m' ((c.tc : Thread Cert.PleFirstRefIdeal.nD Cert.PleFirstRefIdeal.τ).loc Cert.PleFirstRefIdeal.main_arg0) = m ((c.tc : Thread Cert.PleFirstIdeal.nD Cert.PleFirstIdeal.τ).loc Cert.PleFirstIdeal.main_arg0)
      ∧ m' ((c.tc : Thread Cert.PleFirstRefIdeal.nD Cert.PleFirstRefIdeal.τ).loc Cert.PleFirstRefIdeal.main_arg1) = m ((c.tc : Thread Cert.PleFirstIdeal.nD Cert.PleFirstIdeal.τ).loc Cert.PleFirstIdeal.main_arg1)
      ∧ m' ((c.tc : Thread Cert.PleFirstRefIdeal.nD Cert.PleFirstRefIdeal.τ).loc Cert.PleFirstRefIdeal.main_arg2) = m ((c.tc : Thread Cert.PleFirstIdeal.nD Cert.PleFirstIdeal.τ).loc Cert.PleFirstIdeal.main_arg2)
      ∧ m' ((c.tc : Thread Cert.PleFirstRefIdeal.nD Cert.PleFirstRefIdeal.τ).loc Cert.PleFirstRefIdeal.main_arg3) = m ((c.tc : Thread Cert.PleFirstIdeal.nD Cert.PleFirstIdeal.τ).loc Cert.PleFirstIdeal.main_arg3)
      ∧ m' ((c.tc : Thread Cert.PleFirstRefIdeal.nD Cert.PleFirstRefIdeal.τ).loc Cert.PleFirstRefIdeal.main_arg4) = m ((c.tc : Thread Cert.PleFirstIdeal.nD Cert.PleFirstIdeal.τ).loc Cert.PleFirstIdeal.main_arg4)) →
    ∃ (v0 : (c : Dev Cert.PleFirstIdeal.nD) → Buf (Elt Ideal) ((c.tc : Thread Cert.PleFirstIdeal.nD Cert.PleFirstIdeal.τ).loc Cert.PleFirstIdeal.main_v7)),
      θ_run (Cert.PleFirstIdeal.defs (F := Ideal)) (onTc (τ := Cert.PleFirstIdeal.τ) (Cert.PleFirstIdeal.main (F := Ideal))) ⟨m, fun _ => 0, g⟩ (fun r => ∀ c : Dev Cert.PleFirstIdeal.nD,
          r.2.mem ((c.tc : Thread Cert.PleFirstIdeal.nD Cert.PleFirstIdeal.τ).loc Cert.PleFirstIdeal.main_v7) = v0 c
          ∧ r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
          ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
          ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
          ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
          ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4))
      ∧ θ_run (Cert.PleFirstRefIdeal.defs (F := Ideal)) (onTc (τ := Cert.PleFirstRefIdeal.τ) (Cert.PleFirstRefIdeal.main (F := Ideal))) ⟨m', fun _ => 0, g'⟩ (fun r => ∀ c : Dev Cert.PleFirstRefIdeal.nD,
          r.2.mem ((c.tc : Thread Cert.PleFirstRefIdeal.nD Cert.PleFirstRefIdeal.τ).loc Cert.PleFirstRefIdeal.main_v32) = v0 c
          ∧ r.2.mem ((c.tc : Thread Cert.PleFirstRefIdeal.nD Cert.PleFirstRefIdeal.τ).loc Cert.PleFirstRefIdeal.main_arg0) = m' ((c.tc : Thread Cert.PleFirstRefIdeal.nD Cert.PleFirstRefIdeal.τ).loc Cert.PleFirstRefIdeal.main_arg0)
          ∧ r.2.mem ((c.tc : Thread Cert.PleFirstRefIdeal.nD Cert.PleFirstRefIdeal.τ).loc Cert.PleFirstRefIdeal.main_arg1) = m' ((c.tc : Thread Cert.PleFirstRefIdeal.nD Cert.PleFirstRefIdeal.τ).loc Cert.PleFirstRefIdeal.main_arg1)
          ∧ r.2.mem ((c.tc : Thread Cert.PleFirstRefIdeal.nD Cert.PleFirstRefIdeal.τ).loc Cert.PleFirstRefIdeal.main_arg2) = m' ((c.tc : Thread Cert.PleFirstRefIdeal.nD Cert.PleFirstRefIdeal.τ).loc Cert.PleFirstRefIdeal.main_arg2)
          ∧ r.2.mem ((c.tc : Thread Cert.PleFirstRefIdeal.nD Cert.PleFirstRefIdeal.τ).loc Cert.PleFirstRefIdeal.main_arg3) = m' ((c.tc : Thread Cert.PleFirstRefIdeal.nD Cert.PleFirstRefIdeal.τ).loc Cert.PleFirstRefIdeal.main_arg3)
          ∧ r.2.mem ((c.tc : Thread Cert.PleFirstRefIdeal.nD Cert.PleFirstRefIdeal.τ).loc Cert.PleFirstRefIdeal.main_arg4) = m' ((c.tc : Thread Cert.PleFirstRefIdeal.nD Cert.PleFirstRefIdeal.τ).loc Cert.PleFirstRefIdeal.main_arg4))

def preserves_Ssd_SsdIdeal : Prop :=
  True

def algebraic_SsdIdeal_SsdRefIdeal_pre_rates_above_minus_infinity [hSsdIdeal : Cert.SsdIdeal.Facts] [hSsdRefIdeal : Cert.SsdRefIdeal.Facts] [hPre_rates_above_minus_infinity : Cert.Pre_rates_above_minus_infinity.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_rates_above_minus_infinity m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)
      ∧ m' ((c.tc : Thread Cert.SsdRefIdeal.nD Cert.SsdRefIdeal.τ).loc Cert.SsdRefIdeal.main_arg9) = m ((c.tc : Thread Cert.SsdIdeal.nD Cert.SsdIdeal.τ).loc Cert.SsdIdeal.main_arg9)
      ∧ m' ((c.tc : Thread Cert.SsdRefIdeal.nD Cert.SsdRefIdeal.τ).loc Cert.SsdRefIdeal.main_arg10) = m ((c.tc : Thread Cert.SsdIdeal.nD Cert.SsdIdeal.τ).loc Cert.SsdIdeal.main_arg10)) →
    ∃ (v0 : (c : Dev Cert.SsdIdeal.nD) → Buf (Elt Ideal) ((c.tc : Thread Cert.SsdIdeal.nD Cert.SsdIdeal.τ).loc Cert.SsdIdeal.main_v69_0)) (v1 : (c : Dev Cert.SsdIdeal.nD) → Buf (Elt Ideal) ((c.tc : Thread Cert.SsdIdeal.nD Cert.SsdIdeal.τ).loc Cert.SsdIdeal.main_v69_1)) (v2 : (c : Dev Cert.SsdIdeal.nD) → Buf (Elt Ideal) ((c.tc : Thread Cert.SsdIdeal.nD Cert.SsdIdeal.τ).loc Cert.SsdIdeal.main_v69_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v69_0) = v0 c
          ∧ r.2.mem ((c.tc : Thread Cert.SsdIdeal.nD Cert.SsdIdeal.τ).loc Cert.SsdIdeal.main_v69_1) = v1 c
          ∧ r.2.mem ((c.tc : Thread Cert.SsdIdeal.nD Cert.SsdIdeal.τ).loc Cert.SsdIdeal.main_v69_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
          ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v131) = v0 c
          ∧ r.2.mem ((c.tc : Thread Cert.SsdRefIdeal.nD Cert.SsdRefIdeal.τ).loc Cert.SsdRefIdeal.main_v132) = v1 c
          ∧ r.2.mem ((c.tc : Thread Cert.SsdRefIdeal.nD Cert.SsdRefIdeal.τ).loc Cert.SsdRefIdeal.main_v133) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8)
          ∧ r.2.mem ((c.tc : Thread Cert.SsdRefIdeal.nD Cert.SsdRefIdeal.τ).loc Cert.SsdRefIdeal.main_arg9) = m' ((c.tc : Thread Cert.SsdRefIdeal.nD Cert.SsdRefIdeal.τ).loc Cert.SsdRefIdeal.main_arg9)
          ∧ r.2.mem ((c.tc : Thread Cert.SsdRefIdeal.nD Cert.SsdRefIdeal.τ).loc Cert.SsdRefIdeal.main_arg10) = m' ((c.tc : Thread Cert.SsdRefIdeal.nD Cert.SsdRefIdeal.τ).loc Cert.SsdRefIdeal.main_arg10))

def Claim : Prop :=
  ∃ (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hMerge : Cert.Merge.Facts) (hMergeIdeal : Cert.MergeIdeal.Facts) (hMergeRefIdeal : Cert.MergeRefIdeal.Facts) (hPleFirst : Cert.PleFirst.Facts) (hPleFirstIdeal : Cert.PleFirstIdeal.Facts) (hPleFirstRefIdeal : Cert.PleFirstRefIdeal.Facts) (hSsd : Cert.Ssd.Facts) (hSsdIdeal : Cert.SsdIdeal.Facts) (hSsdRefIdeal : Cert.SsdRefIdeal.Facts) (hPre_rates_above_minus_infinity : Cert.Pre_rates_above_minus_infinity.Facts),
    quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Merge (hMerge := hMerge)
    ∧ quiescent_MergeIdeal (hMergeIdeal := hMergeIdeal)
    ∧ quiescent_MergeRefIdeal (hMergeRefIdeal := hMergeRefIdeal)
    ∧ quiescent_PleFirst (hPleFirst := hPleFirst)
    ∧ quiescent_PleFirstIdeal (hPleFirstIdeal := hPleFirstIdeal)
    ∧ quiescent_PleFirstRefIdeal (hPleFirstRefIdeal := hPleFirstRefIdeal)
    ∧ quiescent_Ssd (hSsd := hSsd)
    ∧ quiescent_SsdIdeal (hSsdIdeal := hSsdIdeal)
    ∧ quiescent_SsdIdeal_pre_rates_above_minus_infinity (hSsdIdeal := hSsdIdeal) (hPre_rates_above_minus_infinity := hPre_rates_above_minus_infinity)
    ∧ quiescent_SsdRefIdeal (hSsdRefIdeal := hSsdRefIdeal)
    ∧ quiescent_SsdRefIdeal_pre_rates_above_minus_infinity (hSsdRefIdeal := hSsdRefIdeal) (hPre_rates_above_minus_infinity := hPre_rates_above_minus_infinity)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Merge_MergeIdeal
    ∧ algebraic_MergeIdeal_MergeRefIdeal (hMergeIdeal := hMergeIdeal) (hMergeRefIdeal := hMergeRefIdeal)
    ∧ preserves_PleFirst_PleFirstIdeal
    ∧ algebraic_PleFirstIdeal_PleFirstRefIdeal (hPleFirstIdeal := hPleFirstIdeal) (hPleFirstRefIdeal := hPleFirstRefIdeal)
    ∧ preserves_Ssd_SsdIdeal
    ∧ algebraic_SsdIdeal_SsdRefIdeal_pre_rates_above_minus_infinity (hSsdIdeal := hSsdIdeal) (hSsdRefIdeal := hSsdRefIdeal) (hPre_rates_above_minus_infinity := hPre_rates_above_minus_infinity)
-- ==== Pre_rates_above_minus_infinity.lean ====
abbrev S16x64x2048 : Shape := ⟨3, ![16, 64, 2048]⟩
abbrev S16x64x3072 : Shape := ⟨3, ![16, 64, 3072]⟩
abbrev S16x64x32 : Shape := ⟨3, ![16, 64, 32]⟩
abbrev S2x16x3x3072 : Shape := ⟨4, ![2, 16, 3, 3072]⟩
abbrev S2x16x32x64x128 : Shape := ⟨5, ![2, 16, 32, 64, 128]⟩
abbrev S2x4x3072 : Shape := ⟨3, ![2, 4, 3072]⟩
abbrev S2x3072 : Shape := ⟨2, ![2, 3072]⟩
abbrev S2x32 : Shape := ⟨2, ![2, 32]⟩
abbrev S2x2048 : Shape := ⟨2, ![2, 2048]⟩
abbrev S1x32 : Shape := ⟨2, ![1, 32]⟩
abbrev S32 : Shape := ⟨1, ![32]⟩
abbrev S_ : Shape := ⟨0, ![]⟩

class Facts : Prop where
  slices_S2x32_S1x32_0_0 : S2x32.Slices ![0, 0] S1x32
  shapeCasts_S1x32_S32 : S1x32.ShapeCasts S32
  bcast_S_S32 : S_.BroadcastsInDim S32 (![] : Fin 0 → Fin S32.rank)

variable [Facts]

def fn {F : FTy → Type} [FloatOps F] (main_arg0 : FVec F S16x64x2048 .f32) (main_arg1 : FVec F S16x64x3072 .f32) (main_arg2 : FVec F S16x64x32 .f32) (main_arg3 : FVec F S2x16x3x3072 .f32) (main_arg4 : FVec F S2x16x32x64x128 .f32) (main_arg5 : FVec F S2x4x3072 .f32) (main_arg6 : FVec F S2x3072 .f32) (main_arg7 : FVec F S2x32 .f32) (main_arg8 : FVec F S2x32 .f32) (main_arg9 : FVec F S2x32 .f32) (main_arg10 : FVec F S2x2048 .f32) : IVec S32 1 :=
  let main_v0 : FVec F S1x32 .f32 := (extractStridedSlice S1x32 ![0, 0] · slices_S2x32_S1x32_0_0) main_arg8
  let main_v1 : FVec F S32 .f32 := shapeCast S32 main_v0 shapeCasts_S1x32_S32
  let main_cst : FVec F S_ .f32 := constant S_ .f32 0xFF800000#32
  let main_v2 : FVec F S32 .f32 := broadcastInDim S32 ![] bcast_S_S32 main_cst
  let main_v3 : IVec S32 1 := cmpf .ogt main_v1 main_v2
  main_v3
-- ==== Inproj.lean ====
abbrev S4x8192x2048 : Shape := ⟨3, ![4, 8192, 2048]⟩
abbrev S2x2048 : Shape := ⟨2, ![2, 2048]⟩
abbrev S2x2048x11296 : Shape := ⟨3, ![2, 2048, 11296]⟩
abbrev S2x11296x2048 : Shape := ⟨3, ![2, 11296, 2048]⟩
abbrev S2x32x2048 : Shape := ⟨3, ![2, 32, 2048]⟩
abbrev S_ : Shape := ⟨0, ![]⟩
abbrev S2x128x2048 : Shape := ⟨3, ![2, 128, 2048]⟩
abbrev S32768x2048 : Shape := ⟨2, ![32768, 2048]⟩
abbrev S1x2048 : Shape := ⟨2, ![1, 2048]⟩
abbrev S2048 : Shape := ⟨1, ![2048]⟩
abbrev S32768x12288 : Shape := ⟨2, ![32768, 12288]⟩
abbrev S32768x128 : Shape := ⟨2, ![32768, 128]⟩
abbrev S1024x2048 : Shape := ⟨2, ![1024, 2048]⟩
abbrev S1x1024x2048 : Shape := ⟨3, ![1, 1024, 2048]⟩
abbrev S1x128x2048 : Shape := ⟨3, ![1, 128, 2048]⟩
abbrev S1024x1024 : Shape := ⟨2, ![1024, 1024]⟩
abbrev S1024x128 : Shape := ⟨2, ![1024, 128]⟩
abbrev S512x2048 : Shape := ⟨2, ![512, 2048]⟩
abbrev S512 : Shape := ⟨1, ![512]⟩
abbrev S512x1 : Shape := ⟨2, ![512, 1]⟩
abbrev S128x2048 : Shape := ⟨2, ![128, 2048]⟩
abbrev S512x128 : Shape := ⟨2, ![512, 128]⟩
abbrev S512x1024 : Shape := ⟨2, ![512, 1024]⟩
abbrev S32768x3072 : Shape := ⟨2, ![32768, 3072]⟩
abbrev S32768x32 : Shape := ⟨2, ![32768, 32]⟩
abbrev S32768x4096 : Shape := ⟨2, ![32768, 4096]⟩

abbrev nBuf : Space → Nat
  | .hbm => 20
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S2x2048, .f32⟩
  | .hbm, ⟨2, _⟩ => ⟨S2x2048x11296, .f32⟩
  | .hbm, ⟨3, _⟩ => ⟨S2x11296x2048, .f32⟩
  | .hbm, ⟨4, _⟩ => ⟨S2x11296x2048, .bf16⟩
  | .hbm, ⟨5, _⟩ => ⟨S2x32x2048, .bf16⟩
  | .hbm, ⟨6, _⟩ => ⟨S_, .i32⟩
  | .hbm, ⟨7, _⟩ => ⟨S_, .bf16⟩
  | .hbm, ⟨8, _⟩ => ⟨S2x128x2048, .bf16⟩
  | .hbm, ⟨9, _⟩ => ⟨S32768x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S32768x12288, .bf16⟩
  | .hbm, ⟨14, _⟩ => ⟨S32768x128, .f32⟩
  | .hbm, ⟨15, _⟩ => ⟨S32768x2048, .bf16⟩
  | .hbm, ⟨16, _⟩ => ⟨S32768x3072, .bf16⟩
  | .hbm, ⟨17, _⟩ => ⟨S32768x32, .f32⟩
  | .hbm, ⟨18, _⟩ => ⟨S32768x2048, .bf16⟩
  | .hbm, ⟨19, _⟩ => ⟨S32768x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1x128x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 11], ![false, false]⟩

def k0_mult1 (i : grid0.Coords) : BitVec 32 :=
  let arg1 : BitVec 32 := BitVec.ofNat 32 (i 1).val
  let c3_i32 : BitVec 32 := 3#32
  let v0 : BitVec 1 := Scalar.cmpi .slt arg1 c3_i32
  let c2048_i32 : BitVec 32 := 2048#32
  let c1024_i32 : BitVec 32 := 1024#32
  let v1 : BitVec 32 := Scalar.muli arg1 c1024_i32
  let v2 : BitVec 32 := Scalar.addi c2048_i32 v1
  let c5_i32 : BitVec 32 := 5#32
  let v3 : BitVec 1 := Scalar.cmpi .slt arg1 c5_i32
  let c3_i32_0 : BitVec 32 := 3#32
  let v4 : BitVec 32 := Scalar.subi arg1 c3_i32_0
  let c1024_i32_1 : BitVec 32 := 1024#32
  let v5 : BitVec 32 := Scalar.muli v4 c1024_i32_1
  let c5152_i32 : BitVec 32 := 5152#32
  let c3_i32_2 : BitVec 32 := 3#32
  let v6 : BitVec 32 := Scalar.subi arg1 c3_i32_2
  let c2_i32 : BitVec 32 := 2#32
  let v7 : BitVec 32 := Scalar.subi v6 c2_i32
  let c1024_i32_3 : BitVec 32 := 1024#32
  let v8 : BitVec 32 := Scalar.muli v7 c1024_i32_3
  let v9 : BitVec 32 := Scalar.addi c5152_i32 v8
  let v10 : BitVec 32 := Scalar.select v3 v5 v9
  let v11 : BitVec 32 := Scalar.select v0 v2 v10
  v11
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c1024_i32 : BitVec 32 := 1024#32
  let v1 : BitVec 32 := Scalar.muli arg1 c1024_i32
  let c2048_i32 : BitVec 32 := 2048#32
  let v2 : BitVec 32 := Scalar.addi c2048_i32 v1
  let c5_i32 : BitVec 32 := 5#32
  let v3 : BitVec 1 := Scalar.cmpi .slt arg1 c5_i32
  let c3_i32_0 : BitVec 32 := 3#32
  let v4 : BitVec 32 := Scalar.subi arg1 c3_i32_0
  let c1024_i32_1 : BitVec 32 := 1024#32
  let v5 : BitVec 32 := Scalar.muli v4 c1024_i32_1
  let c3_i32_2 : BitVec 32 := 3#32
  let v6 : BitVec 32 := Scalar.subi arg1 c3_i32_2
  let c2_i32 : BitVec 32 := 2#32
  let v7 : BitVec 32 := Scalar.subi v6 c2_i32
  let c1024_i32_3 : BitVec 32 := 1024#32
  let v8 : BitVec 32 := Scalar.muli v7 c1024_i32_3
  let c5152_i32 : BitVec 32 := 5152#32
  let v9 : BitVec 32 := Scalar.addi c5152_i32 v8
  let v10 : BitVec 32 := Scalar.select v3 v5 v9
  let v11 : BitVec 32 := Scalar.select v0 v2 v10
  let v12 : BitVec 32 := v11
  let c0_i32 : BitVec 32 := 0#32
  let c0_i32_4 : BitVec 32 := 0#32
  let c0_i32_5 : BitVec 32 := 0#32
  ![c0_i32.toNat, v12.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg1 c5_i32
  let c1_i32 : BitVec 32 := 1#32
  let v1 : BitVec 32 := Scalar.addi arg1 c1_i32
  let v2 : BitVec 32 := Scalar.select v0 v1 arg1
  let c0_i32 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojRefIdeal.lean ====
abbrev S4x8192x2048 : Shape := ⟨3, ![4, 8192, 2048]⟩
abbrev S2x2048 : Shape := ⟨2, ![2, 2048]⟩
abbrev S2x2048x11296 : Shape := ⟨3, ![2, 2048, 11296]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x11296 : Shape := ⟨3, ![1, 2048, 11296]⟩
abbrev S2048x11296 : Shape := ⟨2, ![2048, 11296]⟩
abbrev S32768x11296 : Shape := ⟨2, ![32768, 11296]⟩
abbrev S32768x3072 : Shape := ⟨2, ![32768, 3072]⟩
abbrev S32768x32 : Shape := ⟨2, ![32768, 32]⟩
abbrev S32768x4096 : Shape := ⟨2, ![32768, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048, .f32⟩
  | .hbm, ⟨2, _⟩ => ⟨S2x2048x11296, .f32⟩
  | .hbm, ⟨3, _⟩ => ⟨S32768x2048, .f32⟩
  | .hbm, ⟨4, _⟩ => ⟨S1x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S1x2048x11296, .f32⟩
  | .hbm, ⟨23, _⟩ => ⟨S2048x11296, .f32⟩
  | .hbm, ⟨24, _⟩ => ⟨S32768x11296, .f32⟩
  | .hbm, ⟨25, _⟩ => ⟨S32768x2048, .f32⟩
  | .hbm, ⟨26, _⟩ => ⟨S32768x3072, .f32⟩
  | .hbm, ⟨27, _⟩ => ⟨S32768x32, .f32⟩
  | .hbm, ⟨28, _⟩ => ⟨S32768x2048, .f32⟩
  | .hbm, ⟨29, _⟩ => ⟨S32768x4096, .f32⟩
  | .hbm, ⟨30, _⟩ => ⟨S32768x2048, .bf16⟩
  | .hbm, ⟨31, _⟩ => ⟨S32768x3072, .bf16⟩
  | .hbm, ⟨32, _⟩ => ⟨S32768x2048, .bf16⟩
  | .hbm, ⟨33, _⟩ => ⟨S32768x4096, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Ffn.lean ====
abbrev S4x8192x2048 : Shape := ⟨3, ![4, 8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S32768x2048 : Shape := ⟨2, ![32768, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S32768x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2x2048x5632, .bf16⟩
  | .hbm, ⟨10, _⟩ => ⟨S2x2048x5632, .bf16⟩
  | .hbm, ⟨11, _⟩ => ⟨S2x5632x2048, .bf16⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S4x8192x2048 : Shape := ⟨3, ![4, 8192, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S32768x2048, .f32⟩
  | .hbm, ⟨6, _⟩ => ⟨S1x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S1x2048x5632, .f32⟩
  | .hbm, ⟨25, _⟩ => ⟨S2048x5632, .f32⟩
  | .hbm, ⟨26, _⟩ => ⟨S32768x5632, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S1x2048x5632, .f32⟩
  | .hbm, ⟨37, _⟩ => ⟨S2048x5632, .f32⟩
  | .hbm, ⟨38, _⟩ => ⟨S32768x5632, .f32⟩
  | .hbm, ⟨39, _⟩ => ⟨S32768x5632, .f32⟩
  | .hbm, ⟨40, _⟩ => ⟨S1x5632x2048, .f32⟩
  | .hbm, ⟨41, _⟩ => ⟨S5632x2048, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Ple.lean ====
abbrev S4x8192x2048 : Shape := ⟨3, ![4, 8192, 2048]⟩
abbrev S2x4x8192x256 : Shape := ⟨4, ![2, 4, 8192, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S32768x2048 : Shape := ⟨2, ![32768, 2048]⟩
abbrev S2x32768x256 : Shape := ⟨3, ![2, 32768, 256]⟩
abbrev S1x2048 : Shape := ⟨2, ![1, 2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S2048x2048 : Shape := ⟨2, ![2048, 2048]⟩

abbrev nBuf : Space → Nat
  | .hbm => 15
  | .vmem => 10
  | .smem => 0
  | _ => 0

abbrev bufTy : (tb : Table) → Fin (tcTables nBuf tb) → BufTy
  | .hbm, ⟨0, _⟩ => ⟨S4x8192x2048, .f32⟩
  | .hbm, ⟨1, _⟩ => ⟨S2x4x8192x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S32768x2048, .f32⟩
  | .hbm, ⟨7, _⟩ => ⟨S2x32768x256, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2x2048x2048, .bf16⟩
  | .hbm, ⟨12, _⟩ => ⟨S2x256x2048, .bf16⟩
  | .hbm, ⟨13, _⟩ => ⟨S1x2048, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S4x8192x2048 : Shape := ⟨3, ![4, 8192, 2048]⟩
abbrev S2x4x8192x256 : Shape := ⟨4, ![2, 4, 8192, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x4x8192x256 : Shape := ⟨4, ![1, 4, 8192, 256]⟩
abbrev S4x8192x256 : Shape := ⟨3, ![4, 8192, 256]⟩
abbrev S32768x256 : Shape := ⟨2, ![32768, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x4x8192x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S1x4x8192x256, .f32⟩
  | .hbm, ⟨26, _⟩ => ⟨S4x8192x256, .f32⟩
  | .hbm, ⟨27, _⟩ => ⟨S32768x256, .f32⟩
  | .hbm, ⟨28, _⟩ => ⟨S1x256x2048, .f32⟩
  | .hbm, ⟨29, _⟩ => ⟨S256x2048, .f32⟩
  | .hbm, ⟨30, _⟩ => ⟨S32768x2048, .f32⟩
  | .hbm, ⟨31, _⟩ => ⟨S1x2048x2048, .f32⟩
  | .hbm, ⟨32, _⟩ => ⟨S2048x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Merge.lean ====
abbrev S16x64x2048 : Shape := ⟨3, ![16, 64, 2048]⟩
abbrev S16x64x4096 : Shape := ⟨3, ![16, 64, 4096]⟩
abbrev S2x1024 : Shape := ⟨2, ![2, 1024]⟩
abbrev S2x8x128x128 : Shape := ⟨4, ![2, 8, 128, 128]⟩
abbrev S2x8x128 : Shape := ⟨3, ![2, 8, 128]⟩
abbrev S2x2048x2048 : Shape := ⟨3, ![2, 2048, 2048]⟩
abbrev S2x1024x2048 : Shape := ⟨3, ![2, 1024, 2048]⟩
abbrev S16x64x6144 : Shape := ⟨3, ![16, 64, 6144]⟩
abbrev S1024x6144 : Shape := ⟨2, ![1024, 6144]⟩
abbrev S_ : Shape := ⟨0, ![]⟩
abbrev S1024x12288 : Shape := ⟨2, ![1024, 12288]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S128x8 : Shape := ⟨2, ![128, 8]⟩
abbrev S1024x2048 : Shape := ⟨2, ![1024, 2048]⟩
abbrev S1024x1024 : Shape := ⟨2, ![1024, 1024]⟩
abbrev S256x2048 : Shape := ⟨2, ![256, 2048]⟩
abbrev S256x6144 : Shape := ⟨2, ![256, 6144]⟩
abbrev S1x2048x2048 : Shape := ⟨3, ![1, 2048, 2048]⟩
abbrev S1x1024x2048 : Shape := ⟨3, ![1, 1024, 2048]⟩
abbrev S256x1024 : Shape := ⟨2, ![256, 1024]⟩
abbrev S2048x2048 : Shape := ⟨2, ![2048, 2048]⟩
abbrev S256 : Shape := ⟨1, ![256]⟩
abbrev S256x1 : Shape := ⟨2, ![256, 1]⟩
abbrev S64x64 : Shape := ⟨2, ![64, 64]⟩
abbrev S1x64x64 : Shape := ⟨3, ![1, 64, 64]⟩
abbrev S64x1 : Shape := ⟨2, ![64, 1]⟩
abbrev S64x128 : Shape := ⟨2, ![64, 128]⟩
abbrev S64x1024 : Shape := ⟨2, ![64, 1024]⟩

abbrev nBuf : Space → Nat
  | .hbm => 36
  | .vmem => 17
  | .smem => 0
  | _ => 0

abbrev bufTy : (tb : Table) → Fin (tcTables nBuf tb) → BufTy
  | .hbm, ⟨0, _⟩ => ⟨S16x64x2048, .f32⟩
  | .hbm, ⟨1, _⟩ => ⟨S16x64x2048, .f32⟩
  | .hbm, ⟨2, _⟩ => ⟨S16x64x4096, .f32⟩
  | .hbm, ⟨3, _⟩ => ⟨S16x64x2048, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x2048x2048, .f32⟩
  | .hbm, ⟨9, _⟩ => ⟨S2x1024x2048, .f32⟩
  | .hbm, ⟨10, _⟩ => ⟨S2x2048x2048, .f32⟩
  | .hbm, ⟨11, _⟩ => ⟨S16x64x6144, .f32⟩
  | .hbm, ⟨12, _⟩ => ⟨S1024x6144, .f32⟩
  | .hbm, ⟨13, _⟩ => ⟨S1024x6144, .bf16⟩
  | .hbm, ⟨14, _⟩ => ⟨S_, .i32⟩
  | .hbm, ⟨15, _⟩ => ⟨S_, .bf16⟩
  | .hbm, ⟨16, _⟩ => ⟨S1024x12288, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x8x128x128, .f32⟩
  | .hbm, ⟨24, _⟩ => ⟨S8x128x128, .f32⟩
  | .hbm, ⟨25, _⟩ => ⟨S1x8x128, .f32⟩
  | .hbm, ⟨26, _⟩ => ⟨S8x128, .f32⟩
  | .hbm, ⟨27, _⟩ => ⟨S128x8, .f32⟩
  | .hbm, ⟨28, _⟩ => ⟨S1024x2048, .f32⟩
  | .hbm, ⟨29, _⟩ => ⟨S1024x2048, .bf16⟩
  | .hbm, ⟨30, _⟩ => ⟨S1024x2048, .f32⟩
  | .hbm, ⟨31, _⟩ => ⟨S2x2048x2048, .bf16⟩
  | .hbm, ⟨32, _⟩ => ⟨S2x1024x2048, .bf16⟩
  | .hbm, ⟨33, _⟩ => ⟨S2x2048x2048, .bf16⟩
  | .hbm, ⟨34, _⟩ => ⟨S1024x2048, .f32⟩
  | .hbm, ⟨35, _⟩ => ⟨S1024x1024, .f32⟩
  | .local _ .vmem, ⟨0, _⟩ => ⟨S256x2048, .bf16⟩
  | .local _ .vmem, ⟨1, _⟩ => ⟨S256x2048, .bf16⟩
  | .local _ .vmem, ⟨2, _⟩ => ⟨S256x6144, .bf16⟩
  | .local _ .vmem, ⟨3, _⟩ => ⟨S256x6144, .bf16⟩
  | .local _ .vmem, ⟨4, _⟩ => ⟨S256x2048, .f32⟩
  | .local _ .vmem, ⟨5, _⟩ => ⟨S256x2048, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1x2048x2048, .bf16⟩
  | .local _ .vmem, ⟨11, _⟩ => ⟨S1x1024x2048, .bf16⟩
  | .local _ .vmem, ⟨12, _⟩ => ⟨S1x2048x2048, .bf16⟩
  | .local _ .vmem, ⟨13, _⟩ => ⟨S256x2048, .f32⟩
  | .local _ .vmem, ⟨14, _⟩ => ⟨S256x2048, .f32⟩
  | .local _ .vmem, ⟨15, _⟩ => ⟨S256x1024, .f32⟩
  | .local _ .vmem, ⟨16, _⟩ => ⟨S256x1024, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeIdeal.lean ====
variable {F : FTy → Type} [FloatOps F] [Named F]
def κ : String → Option EReal := fun
  | "gelu_cubic" => some ((12003091 / 268435456 : ℝ) : EReal)
  | "sqrt_2_over_pi" => some ((6693141 / 8388608 : ℝ) : EReal)
  | _ => none
-- ==== MergeRefIdeal.lean ====
abbrev S16x64x2048 : Shape := ⟨3, ![16, 64, 2048]⟩
abbrev S16x64x4096 : Shape := ⟨3, ![16, 64, 4096]⟩
abbrev S2x1024 : Shape := ⟨2, ![2, 1024]⟩
abbrev S2x8x128x128 : Shape := ⟨4, ![2, 8, 128, 128]⟩
abbrev S2x8x128 : Shape := ⟨3, ![2, 8, 128]⟩
abbrev S2x2048x2048 : Shape := ⟨3, ![2, 2048, 2048]⟩
abbrev S2x1024x2048 : Shape := ⟨3, ![2, 1024, 2048]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S16x64x1024 : Shape := ⟨3, ![16, 64, 1024]⟩
abbrev S16x64 : Shape := ⟨2, ![16, 64]⟩
abbrev S16x64x1 : Shape := ⟨3, ![16, 64, 1]⟩
abbrev S1x1x1024 : Shape := ⟨3, ![1, 1, 1024]⟩
abbrev S64x64 : Shape := ⟨2, ![64, 64]⟩
abbrev S1x64x64 : Shape := ⟨3, ![1, 64, 64]⟩
abbrev S8x64x64 : Shape := ⟨3, ![8, 64, 64]⟩
abbrev S16x1x64x8x128 : Shape := ⟨5, ![16, 1, 64, 8, 128]⟩
abbrev S8x64 : Shape := ⟨2, ![8, 64]⟩
abbrev S64x8 : Shape := ⟨2, ![64, 8]⟩
abbrev S8x16x1x128x64 : Shape := ⟨5, ![8, 16, 1, 128, 64]⟩
abbrev S1x1x64x8x1 : Shape := ⟨5, ![1, 1, 64, 8, 1]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S16x64x2048, .f32⟩
  | .hbm, ⟨2, _⟩ => ⟨S16x64x4096, .f32⟩
  | .hbm, ⟨3, _⟩ => ⟨S16x64x2048, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x2048x2048, .f32⟩
  | .hbm, ⟨9, _⟩ => ⟨S2x1024x2048, .f32⟩
  | .hbm, ⟨10, _⟩ => ⟨S2x2048x2048, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x8x128x128, .f32⟩
  | .hbm, ⟨16, _⟩ => ⟨S8x128x128, .f32⟩
  | .hbm, ⟨17, _⟩ => ⟨S1x8x128, .f32⟩
  | .hbm, ⟨18, _⟩ => ⟨S8x128, .f32⟩
  | .hbm, ⟨19, _⟩ => ⟨S16x64x2048, .f32⟩
  | .hbm, ⟨20, _⟩ => ⟨S16x64x2048, .f32⟩
  | .hbm, ⟨21, _⟩ => ⟨S_, .f32⟩
  | .hbm, ⟨22, _⟩ => ⟨S16x64x2048, .f32⟩
  | .hbm, ⟨23, _⟩ => ⟨S16x64x2048, .f32⟩
  | .hbm, ⟨24, _⟩ => ⟨S16x64x2048, .f32⟩
  | .hbm, ⟨25, _⟩ => ⟨S_, .f32⟩
  | .hbm, ⟨26, _⟩ => ⟨S16x64x2048, .f32⟩
  | .hbm, ⟨27, _⟩ => ⟨S16x64x2048, .f32⟩
  | .hbm, ⟨28, _⟩ => ⟨S16x64x2048, .f32⟩
  | .hbm, ⟨29, _⟩ => ⟨S_, .f32⟩
  | .hbm, ⟨30, _⟩ => ⟨S16x64x2048, .f32⟩
  | .hbm, ⟨31, _⟩ => ⟨S16x64x2048, .f32⟩
  | .hbm, ⟨32, _⟩ => ⟨S_, .f32⟩
  | .hbm, ⟨33, _⟩ => ⟨S16x64x2048, .f32⟩
  | .hbm, ⟨34, _⟩ => ⟨S16x64x2048, .f32⟩
  | .hbm, ⟨35, _⟩ => ⟨S16x64x2048, .f32⟩
  | .hbm, ⟨36, _⟩ => ⟨S16x64x1024, .f32⟩
  | .hbm, ⟨37, _⟩ => ⟨S16x64x1024, .f32⟩
  | .hbm, ⟨38, _⟩ => ⟨S_, .f32⟩
  | .hbm, ⟨39, _⟩ => ⟨S16x64, .f32⟩
  | .hbm, ⟨40, _⟩ => ⟨S16x64x1, .f32⟩
  | .hbm, ⟨41, _⟩ => ⟨S_, .f32⟩
  | .hbm, ⟨42, _⟩ => ⟨S16x64x1, .f32⟩
  | .hbm, ⟨43, _⟩ => ⟨S16x64x1, .f32⟩
  | .hbm, ⟨44, _⟩ => ⟨S16x64x1024, .f32⟩
  | .hbm, ⟨45, _⟩ => ⟨S16x64x1024, .f32⟩
  | .hbm, ⟨46, _⟩ => ⟨S16x64x1024, .f32⟩
  | .hbm, ⟨47, _⟩ => ⟨S_, .f32⟩
  | .hbm, ⟨48, _⟩ => ⟨S16x64, .f32⟩
  | .hbm, ⟨49, _⟩ => ⟨S16x64x1, .f32⟩
  | .hbm, ⟨50, _⟩ => ⟨S_, .f32⟩
  | .hbm, ⟨51, _⟩ => ⟨S16x64x1, .f32⟩
  | .hbm, ⟨52, _⟩ => ⟨S16x64x1, .f32⟩
  | .hbm, ⟨53, _⟩ => ⟨S16x64x1024, .f32⟩
  | .hbm, ⟨54, _⟩ => ⟨S16x64x1024, .f32⟩
  | .hbm, ⟨55, _⟩ => ⟨S_, .f32⟩
  | .hbm, ⟨56, _⟩ => ⟨S16x64x1, .f32⟩
  | .hbm, ⟨57, _⟩ => ⟨S16x64x1, .f32⟩
  | .hbm, ⟨58, _⟩ => ⟨S16x64x1, .f32⟩
  | .hbm, ⟨59, _⟩ => ⟨S16x64x1024, .f32⟩
  | .hbm, ⟨60, _⟩ => ⟨S16x64x1024, .f32⟩
  | .hbm, ⟨61, _⟩ => ⟨S1x1x1024, .f32⟩
  | .hbm, ⟨62, _⟩ => ⟨S16x64x1024, .f32⟩
  | .hbm, ⟨63, _⟩ => ⟨S16x64x1024, .f32⟩
  | .hbm, ⟨64, _⟩ => ⟨S1x1x1024, .f32⟩
  | .hbm, ⟨65, _⟩ => ⟨S16x64x1024, .f32⟩
  | .hbm, ⟨66, _⟩ => ⟨S16x64x1024, .f32⟩
  | .hbm, ⟨67, _⟩ => ⟨S_, .i1⟩
  | .hbm, ⟨68, _⟩ => ⟨S64x64, .i1⟩
  | .hbm, ⟨69, _⟩ => ⟨S64x64, .i32⟩
  | .hbm, ⟨70, _⟩ => ⟨S_, .i32⟩
  | .hbm, ⟨71, _⟩ => ⟨S64x64, .i32⟩
  | .hbm, ⟨72, _⟩ => ⟨S64x64, .i32⟩
  | .hbm, ⟨73, _⟩ => ⟨S64x64, .i32⟩
  | .hbm, ⟨74, _⟩ => ⟨S64x64, .i1⟩
  | .hbm, ⟨75, _⟩ => ⟨S_, .i1⟩
  | .hbm, ⟨76, _⟩ => ⟨S64x64, .i1⟩
  | .hbm, ⟨77, _⟩ => ⟨S64x64, .i1⟩
  | .hbm, ⟨78, _⟩ => ⟨S1x64x64, .i1⟩
  | .hbm, ⟨79, _⟩ => ⟨S8x64x64, .f32⟩
  | .hbm, ⟨80, _⟩ => ⟨S_, .f32⟩
  | .hbm, ⟨81, _⟩ => ⟨S_, .f32⟩
  | .hbm, ⟨82, _⟩ => ⟨S8x64x64, .i1⟩
  | .hbm, ⟨83, _⟩ => ⟨S8x64x64, .f32⟩
  | .hbm, ⟨84, _⟩ => ⟨S8x64x64, .f32⟩
  | .hbm, ⟨85, _⟩ => ⟨S16x1x64x8x128, .f32⟩
  | .hbm, ⟨86, _⟩ => ⟨S8x64, .f32⟩
  | .hbm, ⟨87, _⟩ => ⟨S64x8, .f32⟩
  | .hbm, ⟨88, _⟩ => ⟨S8x16x1x128x64, .f32⟩
  | .hbm, ⟨89, _⟩ => ⟨S16x1x64x8x128, .f32⟩
  | .hbm, ⟨90, _⟩ => ⟨S1x1x64x8x1, .f32⟩
  | .hbm, ⟨91, _⟩ => ⟨S16x1x64x8x128, .f32⟩
  | .hbm, ⟨92, _⟩ => ⟨S16x1x64x8x128, .f32⟩
  | .hbm, ⟨93, _⟩ => ⟨S16x64x1024, .f32⟩
  | .hbm, ⟨94, _⟩ => ⟨S16x64x1024, .f32⟩
  | .hbm, ⟨95, _⟩ => ⟨S16x64x2048, .f32⟩
  | .hbm, ⟨96, _⟩ => ⟨S16x64x2048, .f32⟩
  | .hbm, ⟨97, _⟩ => ⟨S16x64x2048, .f32⟩
  | .hbm, ⟨98, _⟩ => ⟨S_, .f32⟩
  | .hbm, ⟨99, _⟩ => ⟨S16x64x2048, .f32⟩
  | .hbm, ⟨100, _⟩ => ⟨S16x64x2048, .f32⟩
  | .hbm, ⟨101, _⟩ => ⟨S_, .f32⟩
  | .hbm, ⟨102, _⟩ => ⟨S16x64x2048, .f32⟩
  | .hbm, ⟨103, _⟩ => ⟨S16x64x2048, .f32⟩
  | .hbm, ⟨104, _⟩ => ⟨S16x64x2048, .f32⟩
  | .hbm, ⟨105, _⟩ => ⟨S16x64x2048, .f32⟩
  | .hbm, ⟨106, _⟩ => ⟨S16x64x2048, .f32⟩
  | .hbm, ⟨107, _⟩ => ⟨S_, .f32⟩
  | .hbm, ⟨108, _⟩ => ⟨S16x64x2048, .f32⟩
  | .hbm, ⟨109, _⟩ => ⟨S16x64x2048, .f32⟩
  | .hbm, ⟨110, _⟩ => ⟨S_, .f32⟩
  | .hbm, ⟨111, _⟩ => ⟨S16x64x2048, .f32⟩
  | .hbm, ⟨112, _⟩ => ⟨S16x64x2048, .f32⟩
  | .hbm, ⟨113, _⟩ => ⟨S1x2048x2048, .f32⟩
  | .hbm, ⟨114, _⟩ => ⟨S2048x2048, .f32⟩
  | .hbm, ⟨115, _⟩ => ⟨S16x64x2048, .f32⟩
  | .hbm, ⟨116, _⟩ => ⟨S16x64x2048, .f32⟩
  | .hbm, ⟨117, _⟩ => ⟨S1x1024x2048, .f32⟩
  | .hbm, ⟨118, _⟩ => ⟨S1024x2048, .f32⟩
  | .hbm, ⟨119, _⟩ => ⟨S16x64x2048, .f32⟩
  | .hbm, ⟨120, _⟩ => ⟨S16x64x2048, .f32⟩
  | .hbm, ⟨121, _⟩ => ⟨S16x64x2048, .f32⟩
  | .hbm, ⟨122, _⟩ => ⟨S1x2048x2048, .f32⟩
  | .hbm, ⟨123, _⟩ => ⟨S2048x2048, .f32⟩
  | .hbm, ⟨124, _⟩ => ⟨S16x64x2048, .f32⟩
  | .hbm, ⟨125, _⟩ => ⟨S16x64x2048, .f32⟩
  | .hbm, ⟨126, _⟩ => ⟨S1024x2048, .f32⟩
  | .hbm, ⟨127, _⟩ => ⟨S1024x1024, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c : Ref sig .tc := ⟨.hbm, 67, rfl⟩
abbrev main_v47 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩

abbrev nD : Nat := 1
abbrev τ : Topo := Topo.v7x

variable {F : FTy → Type} [FloatOps F]
-- ==== PleFirst.lean ====
abbrev S4x8192x2048 : Shape := ⟨3, ![4, 8192, 2048]⟩
abbrev S2x4x8192x256 : Shape := ⟨4, ![2, 4, 8192, 256]⟩
abbrev S2x2048 : Shape := ⟨2, ![2, 2048]⟩
abbrev S2x2048x2048 : Shape := ⟨3, ![2, 2048, 2048]⟩
abbrev S2x256x2048 : Shape := ⟨3, ![2, 256, 2048]⟩
abbrev S32768x2048 : Shape := ⟨2, ![32768, 2048]⟩
abbrev S2x32768x256 : Shape := ⟨3, ![2, 32768, 256]⟩
abbrev S1x2048 : Shape := ⟨2, ![1, 2048]⟩
abbrev S2048 : Shape := ⟨1, ![2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S2048x2048 : Shape := ⟨2, ![2048, 2048]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x2048, .f32⟩
  | .hbm, ⟨1, _⟩ => ⟨S2x4x8192x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S32768x2048, .f32⟩
  | .hbm, ⟨6, _⟩ => ⟨S2x32768x256, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2048x2048, .bf16⟩
  | .hbm, ⟨11, _⟩ => ⟨S2x256x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S512x2048, .f32⟩
  | .local _ .vmem, ⟨8, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleFirstRefIdeal.lean ====
abbrev S4x8192x2048 : Shape := ⟨3, ![4, 8192, 2048]⟩
abbrev S2x4x8192x256 : Shape := ⟨4, ![2, 4, 8192, 256]⟩
abbrev S2x2048 : Shape := ⟨2, ![2, 2048]⟩
abbrev S2x2048x2048 : Shape := ⟨3, ![2, 2048, 2048]⟩
abbrev S2x256x2048 : Shape := ⟨3, ![2, 256, 2048]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x4x8192x256 : Shape := ⟨4, ![1, 4, 8192, 256]⟩
abbrev S4x8192x256 : Shape := ⟨3, ![4, 8192, 256]⟩
abbrev S32768x256 : Shape := ⟨2, ![32768, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x4x8192x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S32768x2048, .f32⟩
  | .hbm, ⟨6, _⟩ => ⟨S1x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S1x4x8192x256, .f32⟩
  | .hbm, ⟨25, _⟩ => ⟨S4x8192x256, .f32⟩
  | .hbm, ⟨26, _⟩ => ⟨S32768x256, .f32⟩
  | .hbm, ⟨27, _⟩ => ⟨S1x256x2048, .f32⟩
  | .hbm, ⟨28, _⟩ => ⟨S256x2048, .f32⟩
  | .hbm, ⟨29, _⟩ => ⟨S32768x2048, .f32⟩
  | .hbm, ⟨30, _⟩ => ⟨S1x2048x2048, .f32⟩
  | .hbm, ⟨31, _⟩ => ⟨S2048x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Ssd.lean ====
abbrev S16x64x2048 : Shape := ⟨3, ![16, 64, 2048]⟩
abbrev S16x64x3072 : Shape := ⟨3, ![16, 64, 3072]⟩
abbrev S16x64x32 : Shape := ⟨3, ![16, 64, 32]⟩
abbrev S2x16x3x3072 : Shape := ⟨4, ![2, 16, 3, 3072]⟩
abbrev S2x16x32x64x128 : Shape := ⟨5, ![2, 16, 32, 64, 128]⟩
abbrev S2x4x3072 : Shape := ⟨3, ![2, 4, 3072]⟩
abbrev S2x3072 : Shape := ⟨2, ![2, 3072]⟩
abbrev S2x32 : Shape := ⟨2, ![2, 32]⟩
abbrev S2x2048 : Shape := ⟨2, ![2, 2048]⟩
abbrev S16x64x5120 : Shape := ⟨3, ![16, 64, 5120]⟩
abbrev S1024x5120 : Shape := ⟨2, ![1024, 5120]⟩
abbrev S_ : Shape := ⟨0, ![]⟩
abbrev S1024x12288 : Shape := ⟨2, ![1024, 12288]⟩
abbrev S2048 : Shape := ⟨1, ![2048]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S1x4x3072 : Shape := ⟨3, ![1, 4, 3072]⟩
abbrev S4x3072 : Shape := ⟨2, ![4, 3072]⟩
abbrev S1x3072 : Shape := ⟨2, ![1, 3072]⟩
abbrev S3072 : Shape := ⟨1, ![3072]⟩
abbrev S1x32 : Shape := ⟨2, ![1, 32]⟩
abbrev S32 : Shape := ⟨1, ![32]⟩
abbrev S1x128 : Shape := ⟨2, ![1, 128]⟩
abbrev S32x64 : Shape := ⟨2, ![32, 64]⟩
abbrev S1024x32 : Shape := ⟨2, ![1024, 32]⟩
abbrev S1024x128 : Shape := ⟨2, ![1024, 128]⟩
abbrev S1x16x3x3072 : Shape := ⟨4, ![1, 16, 3, 3072]⟩
abbrev S16x3x3072 : Shape := ⟨3, ![16, 3, 3072]⟩
abbrev S2x16x16x128x128 : Shape := ⟨5, ![2, 16, 16, 128, 128]⟩
abbrev S16x16x3072 : Shape := ⟨3, ![16, 16, 3072]⟩
abbrev S16x64x12288 : Shape := ⟨3, ![16, 64, 12288]⟩
abbrev S16x64x128 : Shape := ⟨3, ![16, 64, 128]⟩
abbrev S64 : Shape := ⟨1, ![64]⟩
abbrev S64x1 : Shape := ⟨2, ![64, 1]⟩
abbrev S64x128 : Shape := ⟨2, ![64, 128]⟩
abbrev S192x128 : Shape := ⟨2, ![192, 128]⟩
abbrev S64x64 : Shape := ⟨2, ![64, 64]⟩
abbrev S16x16x128x128 : Shape := ⟨4, ![16, 16, 128, 128]⟩
abbrev S4x64x5120 : Shape := ⟨3, ![4, 64, 5120]⟩
abbrev S4x64x128 : Shape := ⟨3, ![4, 64, 128]⟩
abbrev S4x16x3072 : Shape := ⟨3, ![4, 16, 3072]⟩
abbrev S1x4x16x128x128 : Shape := ⟨5, ![1, 4, 16, 128, 128]⟩
abbrev S4x64x2048 : Shape := ⟨3, ![4, 64, 2048]⟩
abbrev S4x3x3072 : Shape := ⟨3, ![4, 3, 3072]⟩
abbrev S4x16x128x128 : Shape := ⟨4, ![4, 16, 128, 128]⟩
abbrev S4x64x3072 : Shape := ⟨3, ![4, 64, 3072]⟩
abbrev S4x4x128x512 : Shape := ⟨4, ![4, 4, 128, 512]⟩
abbrev S64x3072 : Shape := ⟨2, ![64, 3072]⟩
abbrev S1x64x3072 : Shape := ⟨3, ![1, 64, 3072]⟩
abbrev S1x16x3072 : Shape := ⟨3, ![1, 16, 3072]⟩
abbrev S16x3072 : Shape := ⟨2, ![16, 3072]⟩
abbrev S1x1x1x128x128 : Shape := ⟨5, ![1, 1, 1, 128, 128]⟩
abbrev S128x128 : Shape := ⟨2, ![128, 128]⟩
abbrev S1x1x128x128 : Shape := ⟨4, ![1, 1, 128, 128]⟩
abbrev S128x3072 : Shape := ⟨2, ![128, 3072]⟩
abbrev S192x3072 : Shape := ⟨2, ![192, 3072]⟩
abbrev S64x2048 : Shape := ⟨2, ![64, 2048]⟩
abbrev S1x64x128 : Shape := ⟨3, ![1, 64, 128]⟩
abbrev S16x128 : Shape := ⟨2, ![16, 128]⟩
abbrev S16x2048 : Shape := ⟨2, ![16, 2048]⟩
abbrev S128x64 : Shape := ⟨2, ![128, 64]⟩
abbrev S1x4x128x512 : Shape := ⟨4, ![1, 4, 128, 512]⟩
abbrev S4x128x512 : Shape := ⟨3, ![4, 128, 512]⟩
abbrev S1x128x512 : Shape := ⟨3, ![1, 128, 512]⟩
abbrev S128x512 : Shape := ⟨2, ![128, 512]⟩
abbrev S64x512 : Shape := ⟨2, ![64, 512]⟩
abbrev S1x512 : Shape := ⟨2, ![1, 512]⟩
abbrev S1x64 : Shape := ⟨2, ![1, 64]⟩
abbrev S1x64x2048 : Shape := ⟨3, ![1, 64, 2048]⟩
abbrev S1x3x3072 : Shape := ⟨3, ![1, 3, 3072]⟩
abbrev S3x3072 : Shape := ⟨2, ![3, 3072]⟩

abbrev nBuf : Space → Nat
  | .hbm => 114
  | .vmem => 26
  | .smem => 0
  | _ => 0

abbrev bufTy : (tb : Table) → Fin (tcTables nBuf tb) → BufTy
  | .hbm, ⟨0, _⟩ => ⟨S16x64x2048, .f32⟩
  | .hbm, ⟨1, _⟩ => ⟨S16x64x3072, .f32⟩
  | .hbm, ⟨2, _⟩ => ⟨S16x64x32, .f32⟩
  | .hbm, ⟨3, _⟩ => ⟨S2x16x3x3072, .f32⟩
  | .hbm, ⟨4, _⟩ => ⟨S2x16x32x64x128, .f32⟩
  | .hbm, ⟨5, _⟩ => ⟨S2x4x3072, .f32⟩
  | .hbm, ⟨6, _⟩ => ⟨S2x3072, .f32⟩
  | .hbm, ⟨7, _⟩ => ⟨S2x32, .f32⟩
  | .hbm, ⟨8, _⟩ => ⟨S2x32, .f32⟩
  | .hbm, ⟨9, _⟩ => ⟨S2x32, .f32⟩
  | .hbm, ⟨10, _⟩ => ⟨S2x2048, .f32⟩
  | .hbm, ⟨11, _⟩ => ⟨S16x64x5120, .f32⟩
  | .hbm, ⟨12, _⟩ => ⟨S1024x5120, .f32⟩
  | .hbm, ⟨13, _⟩ => ⟨S1024x5120, .bf16⟩
  | .hbm, ⟨14, _⟩ => ⟨S_, .i32⟩
  | .hbm, ⟨15, _⟩ => ⟨S_, .bf16⟩
  | .hbm, ⟨16, _⟩ => ⟨S1024x12288, .bf16⟩
  | .hbm, ⟨17, _⟩ => ⟨S2048, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S128, .i32⟩
  | .hbm, ⟨37, _⟩ => ⟨S128x1, .i32⟩
  | .hbm, ⟨38, _⟩ => ⟨S1x2048, .i32⟩
  | .hbm, ⟨39, _⟩ => ⟨S128x2048, .i32⟩
  | .hbm, ⟨40, _⟩ => ⟨S128x2048, .i32⟩
  | .hbm, ⟨41, _⟩ => ⟨S128x2048, .i1⟩
  | .hbm, ⟨42, _⟩ => ⟨S128x2048, .bf16⟩
  | .hbm, ⟨43, _⟩ => ⟨S1x4x3072, .f32⟩
  | .hbm, ⟨44, _⟩ => ⟨S4x3072, .f32⟩
  | .hbm, ⟨45, _⟩ => ⟨S1x3072, .f32⟩
  | .hbm, ⟨46, _⟩ => ⟨S3072, .f32⟩
  | .hbm, ⟨47, _⟩ => ⟨S1x3072, .f32⟩
  | .hbm, ⟨48, _⟩ => ⟨S1x32, .f32⟩
  | .hbm, ⟨49, _⟩ => ⟨S32, .f32⟩
  | .hbm, ⟨50, _⟩ => ⟨S1x32, .f32⟩
  | .hbm, ⟨51, _⟩ => ⟨S_, .i32⟩
  | .hbm, ⟨52, _⟩ => ⟨S_, .f32⟩
  | .hbm, ⟨53, _⟩ => ⟨S1x128, .f32⟩
  | .hbm, ⟨54, _⟩ => ⟨S1x32, .f32⟩
  | .hbm, ⟨55, _⟩ => ⟨S32, .f32⟩
  | .hbm, ⟨56, _⟩ => ⟨S1x32, .f32⟩
  | .hbm, ⟨57, _⟩ => ⟨S_, .i32⟩
  | .hbm, ⟨58, _⟩ => ⟨S_, .f32⟩
  | .hbm, ⟨59, _⟩ => ⟨S1x128, .f32⟩
  | .hbm, ⟨60, _⟩ => ⟨S1x32, .f32⟩
  | .hbm, ⟨61, _⟩ => ⟨S32, .f32⟩
  | .hbm, ⟨62, _⟩ => ⟨S32x64, .f32⟩
  | .hbm, ⟨63, _⟩ => ⟨S2048, .f32⟩
  | .hbm, ⟨64, _⟩ => ⟨S1x2048, .f32⟩
  | .hbm, ⟨65, _⟩ => ⟨S1x2048, .f32⟩
  | .hbm, ⟨66, _⟩ => ⟨S2048, .f32⟩
  | .hbm, ⟨67, _⟩ => ⟨S1x2048, .f32⟩
  | .hbm, ⟨68, _⟩ => ⟨S1024x32, .f32⟩
  | .hbm, ⟨69, _⟩ => ⟨S_, .i32⟩
  | .hbm, ⟨70, _⟩ => ⟨S_, .f32⟩
  | .hbm, ⟨71, _⟩ => ⟨S1024x128, .f32⟩
  | .hbm, ⟨72, _⟩ => ⟨S1x16x3x3072, .f32⟩
  | .hbm, ⟨73, _⟩ => ⟨S16x3x3072, .f32⟩
  | .hbm, ⟨74, _⟩ => ⟨S2x16x16x128x128, .f32⟩
  | .hbm, ⟨75, _⟩ => ⟨S_, .i32⟩
  | .hbm, ⟨76, _⟩ => ⟨S_, .f32⟩
  | .hbm, ⟨77, _⟩ => ⟨S16x16x3072, .f32⟩
  | .hbm, ⟨78, _⟩ => ⟨S16x64x12288, .bf16⟩
  | .hbm, ⟨79, _⟩ => ⟨S16x64x128, .f32⟩
  | .hbm, ⟨80, _⟩ => ⟨S64, .i32⟩
  | .hbm, ⟨81, _⟩ => ⟨S64x1, .i32⟩
  | .hbm, ⟨82, _⟩ => ⟨S128, .i32⟩
  | .hbm, ⟨83, _⟩ => ⟨S1x128, .i32⟩
  | .hbm, ⟨84, _⟩ => ⟨S_, .i32⟩
  | .hbm, ⟨85, _⟩ => ⟨S64x1, .i32⟩
  | .hbm, ⟨86, _⟩ => ⟨S64x1, .i32⟩
  | .hbm, ⟨87, _⟩ => ⟨S64x128, .i32⟩
  | .hbm, ⟨88, _⟩ => ⟨S64x128, .i32⟩
  | .hbm, ⟨89, _⟩ => ⟨S64x128, .i1⟩
  | .hbm, ⟨90, _⟩ => ⟨S_, .i32⟩
  | .hbm, ⟨91, _⟩ => ⟨S64x1, .i32⟩
  | .hbm, ⟨92, _⟩ => ⟨S64x1, .i32⟩
  | .hbm, ⟨93, _⟩ => ⟨S64x128, .i32⟩
  | .hbm, ⟨94, _⟩ => ⟨S64x128, .i32⟩
  | .hbm, ⟨95, _⟩ => ⟨S64x128, .i1⟩
  | .hbm, ⟨96, _⟩ => ⟨S_, .i32⟩
  | .hbm, ⟨97, _⟩ => ⟨S64x1, .i32⟩
  | .hbm, ⟨98, _⟩ => ⟨S64x1, .i32⟩
  | .hbm, ⟨99, _⟩ => ⟨S64x128, .i32⟩
  | .hbm, ⟨100, _⟩ => ⟨S64x128, .i32⟩
  | .hbm, ⟨101, _⟩ => ⟨S64x128, .i1⟩
  | .hbm, ⟨102, _⟩ => ⟨S192x128, .i1⟩
  | .hbm, ⟨103, _⟩ => ⟨S192x128, .bf16⟩
  | .hbm, ⟨104, _⟩ => ⟨S64x64, .i32⟩
  | .hbm, ⟨105, _⟩ => ⟨S_, .i32⟩
  | .hbm, ⟨106, _⟩ => ⟨S64x64, .i32⟩
  | .hbm, ⟨107, _⟩ => ⟨S64x64, .i32⟩
  | .hbm, ⟨108, _⟩ => ⟨S64x64, .i32⟩
  | .hbm, ⟨109, _⟩ => ⟨S64x64, .i1⟩
  | .hbm, ⟨110, _⟩ => ⟨S64x64, .bf16⟩
  | .hbm, ⟨111, _⟩ => ⟨S16x64x2048, .bf16⟩
  | .hbm, ⟨112, _⟩ => ⟨S16x3x3072, .f32⟩
  | .hbm, ⟨113, _⟩ => ⟨S16x16x128x128, .f32⟩
  | .local _ .vmem, ⟨0, _⟩ => ⟨S4x64x5120, .bf16⟩
  | .local _ .vmem, ⟨1, _⟩ => ⟨S4x64x5120, .bf16⟩
  | .local _ .vmem, ⟨2, _⟩ => ⟨S4x64x128, .f32⟩
  | .local _ .vmem, ⟨3, _⟩ => ⟨S4x64x128, .f32⟩
  | .local _ .vmem, ⟨4, _⟩ => ⟨S4x16x3072, .f32⟩
  | .local _ .vmem, ⟨5, _⟩ => ⟨S4x16x3072, .f32⟩
  | .local _ .vmem, ⟨6, _⟩ => ⟨S1x4x16x128x128, .f32⟩
  | .local _ .vmem, ⟨7, _⟩ => ⟨S1x4x16x128x128, .f32⟩
  | .local _ .vmem, ⟨8, _⟩ => ⟨S4x3072, .f32⟩
  | .local _ .vmem, ⟨9, _⟩ => ⟨S1x3072, .f32⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S128x2048, .bf16⟩
  | .local _ .vmem, ⟨15, _⟩ => ⟨S192x128, .bf16⟩
  | .local _ .vmem, ⟨16, _⟩ => ⟨S64x64, .bf16⟩
  | .local _ .vmem, ⟨17, _⟩ => ⟨S4x64x2048, .bf16⟩
  | .local _ .vmem, ⟨18, _⟩ => ⟨S4x64x2048, .bf16⟩
  | .local _ .vmem, ⟨19, _⟩ => ⟨S4x3x3072, .f32⟩
  | .local _ .vmem, ⟨20, _⟩ => ⟨S4x3x3072, .f32⟩
  | .local _ .vmem, ⟨21, _⟩ => ⟨S4x16x128x128, .f32⟩
  | .local _ .vmem, ⟨22, _⟩ => ⟨S4x16x128x128, .f32⟩
  | .local _ .vmem, ⟨23, _⟩ => ⟨S4x64x3072, .bf16⟩
  | .local _ .vmem, ⟨24, _⟩ => ⟨S4x16x3072, .f32⟩
  | .local _ .vmem, ⟨25, _⟩ => ⟨S4x4x128x512, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_1 : Ref sig .tc := ⟨.hbm, 51, rfl⟩
abbrev main_call2_v0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_2 : Ref sig .tc := ⟨.hbm, 57, rfl⟩
abbrev main_call3_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_3 : Ref sig .tc := ⟨.hbm, 69, rfl⟩
abbrev main_call4_v0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_4 : Ref sig .tc := ⟨.hbm, 75, rfl⟩
abbrev main_call5_v0 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_6 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_7 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_8 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69_0 : Ref sig .tc := ⟨.hbm, 111, rfl⟩
abbrev main_v69_1 : Ref sig .tc := ⟨.hbm, 112, rfl⟩
abbrev main_v69_2 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_803 : BitVec 32 := 0#32
  let v2895 : BitVec 1 := Scalar.cmpi .eq arg1 c0_i32_803
  let v2896 : BitVec 32 := Scalar.extui v2895
  let c0_i32_804 : BitVec 32 := 0#32
  let v2897 : BitVec 1 := Scalar.cmpi .ne v2896 c0_i32_804
  v2897

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S192x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S4x64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x3x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S4x16x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== SsdRefIdeal.lean ====
abbrev S16x64x2048 : Shape := ⟨3, ![16, 64, 2048]⟩
abbrev S16x64x3072 : Shape := ⟨3, ![16, 64, 3072]⟩
abbrev S16x64x32 : Shape := ⟨3, ![16, 64, 32]⟩
abbrev S2x16x3x3072 : Shape := ⟨4, ![2, 16, 3, 3072]⟩
abbrev S2x16x32x64x128 : Shape := ⟨5, ![2, 16, 32, 64, 128]⟩
abbrev S2x4x3072 : Shape := ⟨3, ![2, 4, 3072]⟩
abbrev S2x3072 : Shape := ⟨2, ![2, 3072]⟩
abbrev S2x32 : Shape := ⟨2, ![2, 32]⟩
abbrev S2x2048 : Shape := ⟨2, ![2, 2048]⟩
abbrev S1x16x3x3072 : Shape := ⟨4, ![1, 16, 3, 3072]⟩
abbrev S16x3x3072 : Shape := ⟨3, ![16, 3, 3072]⟩
abbrev S16x67x3072 : Shape := ⟨3, ![16, 67, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S16x64x32x64 : Shape := ⟨4, ![16, 64, 32, 64]⟩
abbrev S16x64x512 : Shape := ⟨3, ![16, 64, 512]⟩
abbrev S16x64x4x128 : Shape := ⟨4, ![16, 64, 4, 128]⟩
abbrev S1x32 : Shape := ⟨2, ![1, 32]⟩
abbrev S32 : Shape := ⟨1, ![32]⟩
abbrev S1x1x32 : Shape := ⟨3, ![1, 1, 32]⟩
abbrev S64x64 : Shape := ⟨2, ![64, 64]⟩
abbrev S1x16x32x64x128 : Shape := ⟨5, ![1, 16, 32, 64, 128]⟩
abbrev S16x32x64x128 : Shape := ⟨4, ![16, 32, 64, 128]⟩
abbrev S16x64x1x32 : Shape := ⟨4, ![16, 64, 1, 32]⟩
abbrev S16x1x64x32 : Shape := ⟨4, ![16, 1, 64, 32]⟩
abbrev S16x64x64x32 : Shape := ⟨4, ![16, 64, 64, 32]⟩
abbrev S1x64x64x1 : Shape := ⟨4, ![1, 64, 64, 1]⟩
abbrev S16x4x64x64 : Shape := ⟨4, ![16, 4, 64, 64]⟩
abbrev S16x64x64x4 : Shape := ⟨4, ![16, 64, 64, 4]⟩
abbrev S16x64x64x4x8 : Shape := ⟨5, ![16, 64, 64, 4, 8]⟩
abbrev S16x64x32x1 : Shape := ⟨4, ![16, 64, 32, 1]⟩
abbrev S16x32x64x64 : Shape := ⟨4, ![16, 32, 64, 64]⟩
abbrev S16x4x8x64x128 : Shape := ⟨5, ![16, 4, 8, 64, 128]⟩
abbrev S16x4x8x64x64 : Shape := ⟨5, ![16, 4, 8, 64, 64]⟩
abbrev S16x64x4x8x64 : Shape := ⟨5, ![16, 64, 4, 8, 64]⟩
abbrev S16x1x32 : Shape := ⟨3, ![16, 1, 32]⟩
abbrev S16x64x4x8x128 : Shape := ⟨5, ![16, 64, 4, 8, 128]⟩
abbrev S16x64x32x128 : Shape := ⟨4, ![16, 64, 32, 128]⟩
abbrev S16x32 : Shape := ⟨2, ![16, 32]⟩
abbrev S16x32x1x1 : Shape := ⟨4, ![16, 32, 1, 1]⟩
abbrev S32x1 : Shape := ⟨2, ![32, 1]⟩
abbrev S1x1x32x1 : Shape := ⟨4, ![1, 1, 32, 1]⟩
abbrev S16x64x4x512 : Shape := ⟨4, ![16, 64, 4, 512]⟩
abbrev S16x64x4 : Shape := ⟨3, ![16, 64, 4]⟩
abbrev S16x64x4x1 : Shape := ⟨4, ![16, 64, 4, 1]⟩
abbrev S1x2048 : Shape := ⟨2, ![1, 2048]⟩
abbrev S2048 : Shape := ⟨1, ![2048]⟩
abbrev S1x1x2048 : Shape := ⟨3, ![1, 1, 2048]⟩
abbrev S16x16x128x128 : Shape := ⟨4, ![16, 16, 128, 128]⟩

abbrev nBuf : Space → Nat
  | .hbm => 192
  | .vmem => 0
  | .smem => 0
  | _ => 0

abbrev hbmTy0_0 (i : Nat) : BufTy := match i % 128 with
  | 0 => ⟨S16x64x2048, .f32⟩
  | 1 => ⟨S16x64x3072, .f32⟩
  | 2 => ⟨S16x64x32, .f32⟩
  | 3 => ⟨S2x16x3x3072, .f32⟩
  | 4 => ⟨S2x16x32x64x128, .f32⟩
  | 5 => ⟨S2x4x3072, .f32⟩
  | 6 => ⟨S2x3072, .f32⟩
  | 7 => ⟨S2x32, .f32⟩
  | 8 => ⟨S2x32, .f32⟩
  | 9 => ⟨S2x32, .f32⟩
  | 10 => ⟨S2x2048, .f32⟩
  | 11 => ⟨S1x16x3x3072, .f32⟩
  | 12 => ⟨S16x3x3072, .f32⟩
  | 13 => ⟨S16x67x3072, .f32⟩
  | 14 => ⟨S1x3072, .f32⟩
  | 15 => ⟨S3072, .f32⟩
  | 16 => ⟨S16x64x3072, .f32⟩
  | 17 => ⟨S1x1x3072, .f32⟩
  | 18 => ⟨S3072, .f32⟩
  | 19 => ⟨S1x1x3072, .f32⟩
  | 20 => ⟨S16x64x3072, .f32⟩
  | 21 => ⟨S16x64x3072, .f32⟩
  | 22 => ⟨S1x1x3072, .f32⟩
  | 23 => ⟨S16x64x3072, .f32⟩
  | 24 => ⟨S16x64x3072, .f32⟩
  | 25 => ⟨S16x64x3072, .f32⟩
  | 26 => ⟨S1x1x3072, .f32⟩
  | 27 => ⟨S3072, .f32⟩
  | 28 => ⟨S1x1x3072, .f32⟩
  | 29 => ⟨S16x64x3072, .f32⟩
  | 30 => ⟨S16x64x3072, .f32⟩
  | 31 => ⟨S16x64x3072, .f32⟩
  | 32 => ⟨S16x64x3072, .f32⟩
  | 33 => ⟨S1x1x3072, .f32⟩
  | 34 => ⟨S3072, .f32⟩
  | 35 => ⟨S1x1x3072, .f32⟩
  | 36 => ⟨S16x64x3072, .f32⟩
  | 37 => ⟨S16x64x3072, .f32⟩
  | 38 => ⟨S16x64x3072, .f32⟩
  | 39 => ⟨S16x64x3072, .f32⟩
  | 40 => ⟨S1x1x3072, .f32⟩
  | 41 => ⟨S3072, .f32⟩
  | 42 => ⟨S1x1x3072, .f32⟩
  | 43 => ⟨S16x64x3072, .f32⟩
  | 44 => ⟨S16x64x3072, .f32⟩
  | 45 => ⟨S16x64x3072, .f32⟩
  | 46 => ⟨S16x64x3072, .f32⟩
  | 47 => ⟨S16x64x3072, .f32⟩
  | 48 => ⟨S_, .f32⟩
  | 49 => ⟨S16x64x3072, .f32⟩
  | 50 => ⟨S16x64x3072, .f32⟩
  | 51 => ⟨S_, .f32⟩
  | 52 => ⟨S16x64x3072, .f32⟩
  | 53 => ⟨S16x64x3072, .f32⟩
  | 54 => ⟨S16x64x3072, .f32⟩
  | 55 => ⟨S16x64x2048, .f32⟩
  | 56 => ⟨S16x64x32x64, .f32⟩
  | 57 => ⟨S16x64x512, .f32⟩
  | 58 => ⟨S16x64x4x128, .f32⟩
  | 59 => ⟨S16x64x512, .f32⟩
  | 60 => ⟨S16x64x4x128, .f32⟩
  | 61 => ⟨S1x32, .f32⟩
  | 62 => ⟨S32, .f32⟩
  | 63 => ⟨S1x1x32, .f32⟩
  | 64 => ⟨S16x64x32, .f32⟩
  | 65 => ⟨S16x64x32, .f32⟩
  | 66 => ⟨S_, .f32⟩
  | 67 => ⟨S16x64x32, .f32⟩
  | 68 => ⟨S16x64x32, .f32⟩
  | 69 => ⟨S16x64x32, .f32⟩
  | 70 => ⟨S16x64x32, .f32⟩
  | 71 => ⟨S16x64x32, .i1⟩
  | 72 => ⟨S16x64x32, .f32⟩
  | 73 => ⟨S16x64x32, .f32⟩
  | 74 => ⟨S16x64x32, .f32⟩
  | 75 => ⟨S16x64x32, .f32⟩
  | 76 => ⟨S16x64x32, .f32⟩
  | 77 => ⟨S16x64x32, .f32⟩
  | 78 => ⟨S16x64x32, .f32⟩
  | 79 => ⟨S16x64x32, .f32⟩
  | 80 => ⟨S1x32, .f32⟩
  | 81 => ⟨S32, .f32⟩
  | 82 => ⟨S32, .f32⟩
  | 83 => ⟨S32, .f32⟩
  | 84 => ⟨S_, .i1⟩
  | 85 => ⟨S64x64, .i1⟩
  | 86 => ⟨S64x64, .i32⟩
  | 87 => ⟨S_, .i32⟩
  | 88 => ⟨S64x64, .i32⟩
  | 89 => ⟨S64x64, .i32⟩
  | 90 => ⟨S64x64, .i32⟩
  | 91 => ⟨S64x64, .i1⟩
  | 92 => ⟨S_, .i1⟩
  | 93 => ⟨S64x64, .i1⟩
  | 94 => ⟨S64x64, .i1⟩
  | 95 => ⟨S1x16x32x64x128, .f32⟩
  | 96 => ⟨S16x32x64x128, .f32⟩
  | 97 => ⟨S1x1x32, .f32⟩
  | 98 => ⟨S16x64x32, .f32⟩
  | 99 => ⟨S16x64x32, .f32⟩
  | 100 => ⟨S_, .f32⟩
  | 101 => ⟨S_, .f32⟩
  | 102 => ⟨S16x64x32, .f32⟩
  | 103 => ⟨S16x64x1x32, .f32⟩
  | 104 => ⟨S16x1x64x32, .f32⟩
  | 105 => ⟨S16x64x64x32, .f32⟩
  | 106 => ⟨S16x64x64x32, .f32⟩
  | 107 => ⟨S16x64x64x32, .f32⟩
  | 108 => ⟨S1x64x64x1, .i1⟩
  | 109 => ⟨S_, .f32⟩
  | 110 => ⟨S_, .f32⟩
  | 111 => ⟨S16x64x64x32, .i1⟩
  | 112 => ⟨S16x64x64x32, .f32⟩
  | 113 => ⟨S16x64x64x32, .f32⟩
  | 114 => ⟨S16x64x64x32, .f32⟩
  | 115 => ⟨S16x4x64x64, .f32⟩
  | 116 => ⟨S16x64x64x4, .f32⟩
  | 117 => ⟨S16x64x64x4x8, .f32⟩
  | 118 => ⟨S16x64x64x32, .f32⟩
  | 119 => ⟨S16x64x32x1, .f32⟩
  | 120 => ⟨S16x64x32x64, .f32⟩
  | 121 => ⟨S16x64x32x64, .f32⟩
  | 122 => ⟨S16x64x64x32, .f32⟩
  | 123 => ⟨S16x32x64x64, .f32⟩
  | 124 => ⟨S16x64x32x64, .f32⟩
  | 125 => ⟨S16x4x8x64x128, .f32⟩
  | 126 => ⟨S16x4x8x64x64, .f32⟩
  | 127 => ⟨S16x64x4x8x64, .f32⟩
  | _ => ⟨S16x64x2048, .f32⟩

abbrev hbmTy0_1 (i : Nat) : BufTy := match i % 128 with
  | 0 => ⟨S16x64x32x64, .f32⟩
  | 1 => ⟨S16x64x32, .f32⟩
  | 2 => ⟨S16x64x32x1, .f32⟩
  | 3 => ⟨S16x64x32x64, .f32⟩
  | 4 => ⟨S16x64x32x64, .f32⟩
  | 5 => ⟨S16x1x32, .f32⟩
  | 6 => ⟨S16x64x32, .f32⟩
  | 7 => ⟨S16x64x32, .f32⟩
  | 8 => ⟨S16x64x32, .f32⟩
  | 9 => ⟨S16x64x4x8x128, .f32⟩
  | 10 => ⟨S16x64x32x128, .f32⟩
  | 11 => ⟨S16x1x32, .f32⟩
  | 12 => ⟨S16x32, .f32⟩
  | 13 => ⟨S16x32, .f32⟩
  | 14 => ⟨S16x32x1x1, .f32⟩
  | 15 => ⟨S16x32x64x128, .f32⟩
  | 16 => ⟨S16x32x64x128, .f32⟩
  | 17 => ⟨S16x64x32x1, .f32⟩
  | 18 => ⟨S16x64x32x64, .f32⟩
  | 19 => ⟨S16x64x32x64, .f32⟩
  | 20 => ⟨S16x32x64x128, .f32⟩
  | 21 => ⟨S16x32x64x128, .f32⟩
  | 22 => ⟨S16x64x32x64, .f32⟩
  | 23 => ⟨S1x32, .f32⟩
  | 24 => ⟨S32, .f32⟩
  | 25 => ⟨S32x1, .f32⟩
  | 26 => ⟨S1x1x32x1, .f32⟩
  | 27 => ⟨S16x64x32x64, .f32⟩
  | 28 => ⟨S16x64x32x64, .f32⟩
  | 29 => ⟨S16x64x32x64, .f32⟩
  | 30 => ⟨S16x64x2048, .f32⟩
  | 31 => ⟨S16x64x2048, .f32⟩
  | 32 => ⟨S16x64x2048, .f32⟩
  | 33 => ⟨S_, .f32⟩
  | 34 => ⟨S16x64x2048, .f32⟩
  | 35 => ⟨S16x64x2048, .f32⟩
  | 36 => ⟨S_, .f32⟩
  | 37 => ⟨S16x64x2048, .f32⟩
  | 38 => ⟨S16x64x2048, .f32⟩
  | 39 => ⟨S16x64x2048, .f32⟩
  | 40 => ⟨S16x64x2048, .f32⟩
  | 41 => ⟨S16x64x4x512, .f32⟩
  | 42 => ⟨S16x64x4x512, .f32⟩
  | 43 => ⟨S_, .f32⟩
  | 44 => ⟨S16x64x4, .f32⟩
  | 45 => ⟨S16x64x4x1, .f32⟩
  | 46 => ⟨S_, .f32⟩
  | 47 => ⟨S16x64x4x1, .f32⟩
  | 48 => ⟨S16x64x4x1, .f32⟩
  | 49 => ⟨S_, .f32⟩
  | 50 => ⟨S16x64x4x1, .f32⟩
  | 51 => ⟨S16x64x4x1, .f32⟩
  | 52 => ⟨S16x64x4x1, .f32⟩
  | 53 => ⟨S16x64x4x512, .f32⟩
  | 54 => ⟨S16x64x4x512, .f32⟩
  | 55 => ⟨S16x64x2048, .f32⟩
  | 56 => ⟨S1x2048, .f32⟩
  | 57 => ⟨S2048, .f32⟩
  | 58 => ⟨S1x1x2048, .f32⟩
  | 59 => ⟨S16x64x2048, .f32⟩
  | 60 => ⟨S16x64x2048, .f32⟩
  | 61 => ⟨S16x64x2048, .bf16⟩
  | 62 => ⟨S16x3x3072, .f32⟩
  | 63 => ⟨S16x16x128x128, .f32⟩
  | _ => ⟨S16x64x2048, .f32⟩

abbrev hbmTy (i : Nat) : BufTy := match i / 128 with
  | 0 => hbmTy0_0 i
  | 1 => hbmTy0_1 i
  | _ => ⟨S16x64x2048, .f32⟩

abbrev bufTy : (tb : Table) → Fin (tcTables nBuf tb) → BufTy
  | .hbm, ⟨i, _⟩ => hbmTy i
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c : Ref sig .tc := ⟨.hbm, 84, rfl⟩
abbrev main_v52 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_0 : Ref sig .tc := ⟨.hbm, 92, rfl⟩
abbrev main_call2_v5 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call3_call0_cst : Ref sig .tc := ⟨.hbm, 100, rfl⟩
abbrev main_call3_call0_v0 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_0 : Ref sig .tc := ⟨.hbm, 171, rfl⟩
abbrev main_v116 : Ref sig .tc := ⟨.hbm, 172, rfl⟩
abbrev main_v117 : Ref sig .tc := ⟨.hbm, 173, rfl⟩
abbrev main_cst_1 : Ref sig .tc := ⟨.hbm, 174, rfl⟩
abbrev main_v118 : Ref sig .tc := ⟨.hbm, 175, rfl⟩
abbrev main_v119 : Ref sig .tc := ⟨.hbm, 176, rfl⟩
abbrev main_cst_2 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩

abbrev nD : Nat := 1
abbrev τ : Topo := Topo.v7x

variable {F : FTy → Type} [FloatOps F]
-- ==== Proof.InprojRun.lean ====
/-
  The two runs of the input projection's body.

  The kernel walks a grid of 32 row tiles by 11 column tiles. At the first column of a row the body normalises the
  1024 rows of its tile in two halves of 512, keeps the normalised rows in a scratch buffer, and stores the projections of both
  halves onto the `dt` columns and onto the first tile of the wide result. At the other columns it only multiplies what is kept
  in the scratch buffer by the column's weights.

  Each run is stated at the values it leaves (`normRows`, `dtBlock`, `firstBlock`, `k0_pay5`), at any float instance.
-/
module

public import proofs.«01_k».proof.Proof.Gen.InprojIdeal.Frame
public import proofs.«01_k».proof.Proof.Gen.InprojIdeal.Skeleton
public import Idealize.ShloMosaic.Lib.Pipeline.TableIdle
public import Idealize.ShloMosaic.Lib.Pipeline.ValueKit

@[expose] public section

set_option maxRecDepth 16384

noncomputable section

namespace Cert.InprojIdeal.Hand

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves -/

/-- The upper 512 rows of a tile of 1024 rows of 2048. -/
abbrev upper : Rect S1024x2048 := Rect.unit (s := S1024x2048) ![0, 0] S512x2048.size inb_S1024x2048_S512x2048_0_0
/-- The lower 512 rows. -/
abbrev lower : Rect S1024x2048 := Rect.unit (s := S1024x2048) ![512, 0] S512x2048.size inb_S1024x2048_S512x2048_512_0

/-- The normalised rows of a tile, as the first column's body stores them in its two halves. -/
def normRows (x : Vec F S1024x2048 .f32) (g : Vec F S1x2048 .f32) : Vec F S1024x2048 .bf16 :=
  View.canon (Val := Elt F) [⟨lower, k0_pay2 (k0_pay10 (View.ld (Val := Elt F) x lower)) g⟩, ⟨upper, k0_pay7 (View.ld (Val := Elt F) x upper) g⟩]

/-- The tile of the `dt` result. -/
def dtBlock (x : Vec F S1024x2048 .f32) (g : Vec F S1x2048 .f32) (wdt : Vec F S1x128x2048 .bf16) : Vec F S1024x128 .f32 :=
  View.canon (Val := Elt F)
    [⟨Rect.unit (s := S1024x128) ![512, 0] S512x128.size inb_S1024x128_S512x128_512_0, k0_pay3 (k0_pay10 (View.ld (Val := Elt F) x lower)) g wdt⟩,
     ⟨Rect.unit (s := S1024x128) ![0, 0] S512x128.size inb_S1024x128_S512x128_0_0, k0_pay8 (View.ld (Val := Elt F) x upper) g wdt⟩]

/-- The first column's tile of the wide result. -/
def firstBlock (x : Vec F S1024x2048 .f32) (g : Vec F S1x2048 .f32) (w : Vec F S1x1024x2048 .bf16) : Vec F S1024x1024 .bf16 :=
  View.canon (Val := Elt F)
    [⟨Rect.unit (s := S1024x1024) ![512, 0] S512x1024.size inb_S1024x1024_S512x1024_512_0, k0_pay4 (k0_pay10 (View.ld (Val := Elt F) x lower)) g w⟩,
     ⟨Rect.unit (s := S1024x1024) ![0, 0] S512x1024.size inb_S1024x1024_S512x1024_0_0, k0_pay9 (View.ld (Val := Elt F) x upper) g w⟩]

/-! ## The two cases -/

/-- The body's first branch: the row's first column. -/
abbrev firstCol (i : grid0.Coords) : Prop := k0_cond1 i = 1#1
/-- The body's second branch: every other column. -/
abbrev laterCol (i : grid0.Coords) : Prop := k0_cond2 i = 1#1

theorem firstCol_iff : ∀ t : Fin cfg0.N, firstCol (grid0.coords t) ↔ t.val % 11 = 0 :=
  (by decide +kernel : ∀ t : Fin grid0.N, firstCol (grid0.coords t) ↔ t.val % 11 = 0)

theorem laterCol_iff : ∀ t : Fin cfg0.N, laterCol (grid0.coords t) ↔ 1 ≤ t.val % 11 :=
  (by decide +kernel : ∀ t : Fin grid0.N, laterCol (grid0.coords t) ↔ 1 ≤ t.val % 11)

private theorem off2 : (![0, 0] : Fin 2 → Nat) = fun _ => 0 := funext fun a => by fin_cases a <;> rfl
private theorem off3 : (![0, 0, 0] : Fin 3 → Nat) = fun _ => 0 := funext fun a => by fin_cases a <;> rfl

set_option maxHeartbeats 1000000 in
/-- THE RUN AT A ROW'S FIRST COLUMN: the scratch buffer and both results end at the row tile's values. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (hc0 : firstCol i) (hc1 : ¬laterCol i)
    (x : Vec F S1024x2048 .f32) (g : Vec F S1x2048 .f32) (w : Vec F S1x1024x2048 .bf16) (wdt : Vec F S1x128x2048 .bf16)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare wdt
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare wdt
            ∗ owns (c : Thread nD τ) arg6 fullShare (firstBlock x g w) ∗ owns (c : Thread nD τ) arg7 fullShare (dtBlock x g wdt) ∗ owns (c : Thread nD τ) arg8 fullShare (normRows x g)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon (Val := Elt F)]
    swap; · exact View.cover_of_tiledL _ S512x1024.size (by sl_kernel_rfl)
    sl_unfold_words
    simp only [View.readAt_eq_ld, harg2.read_unread, harg3.read_unread, harg4.read_unread, View.ld_unit_zero (S := S1x2048) off2, View.ld_unit_zero (S := S1x1024x2048) off3]
    rfl
  isplitl [H5]
  · iexists _; isplitr
    swap; · iexact H5
    ipureintro
    rw [View.read_writes_eq_canon (Val := Elt F)]
    swap; · exact View.cover_of_tiledL _ S512x128.size (by sl_kernel_rfl)
    sl_unfold_words
    simp only [View.readAt_eq_ld, harg2.read_unread, harg3.read_unread, harg5.read_unread, View.ld_unit_zero (S := S1x2048) off2, View.ld_unit_zero (S := S1x128x2048) off3]
    rfl
  · iexists _; isplitr
    swap; · iexact HS0
    ipureintro
    rw [View.read_writes_eq_canon (Val := Elt F)]
    swap; · exact View.cover_of_tiledL _ S512x2048.size (by sl_kernel_rfl)
    sl_unfold_words
    simp only [View.readAt_eq_ld, harg2.read_unread, harg3.read_unread, View.ld_unit_zero (S := S1x2048) off2]
    rfl

set_option maxHeartbeats 1000000 in
/-- THE RUN AT ANY OTHER COLUMN: the scratch buffer is read and kept, the wide result's tile is its product with the column's
    weights, and the other buffers are not touched. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (hc0 : ¬firstCol i) (hc1 : laterCol i)
    (w : Vec F S1x1024x2048 .bf16) (h : Vec F S1024x2048 .bf16)
    (E : Set ℕ) (K : PUnit → sProp 𝕄) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (k0_pay5 h w) ∗ owns (c : Thread nD τ) arg8 fullShare h) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [k0_part1_eq_skeleton]
  unfold owns
  iintro ⟨⟨%f2, %hf2, H2⟩, ⟨%d4, %f4, -, H4⟩, ⟨%fs0, %hfs0, HS0⟩, Hk⟩
  obtain rfl := harg4.eq_unread hf2; obtain rfl := harg8.eq_unread hfs0
  sl_exec (disch := first | sl_exact hc0 | sl_exact hc1)
  sl_step
  iapply Hk
  isplitl [H2]
  · iexists _; isplitr; · ipureintro; exact harg4.read_unread _
    iexact H2
  isplitl [H4]
  · iexists _; isplitr
    swap; · iexact H4
    ipureintro
    rw [View.read_writes_eq_canon (Val := Elt F)]
    swap; · exact View.cover_of_tiledL _ S1024x1024.size (by sl_kernel_rfl)
    sl_unfold_words
    rw [View.canon_unit_zero off2]
    simp only [View.readAt_eq_ld, harg4.read_unread, harg8.read_unread, View.ld_unit_zero (S := S1024x2048) off2, View.ld_unit_zero (S := S1x1024x2048) off3]
  · iexists _; isplitr; · ipureintro; exact harg8.read_unread _
    iexact HS0

end Cert.InprojIdeal.Hand

end
-- ==== Proof.InprojBody.lean ====
/-
  The input projection's pipeline: what every buffer holds after each grid point, the body's obligation, and the program's frame.

  The contents after a point are given in closed form. Everything a row's first column leaves (the normalised rows in the
  scratch buffer, the `dt` tile) is a function of the blocks at that first point `start t`, so the later columns of the row say
  the same thing without a recursion over the points. The `dt` window is idle at the later columns and written back at the last.
-/
module

public import proofs.«01_k».proof.Proof.InprojRun

@[expose] public section

set_option maxRecDepth 16384

noncomputable section

namespace Cert.InprojIdeal.Hand

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a row -/

/-- The first point of `t`'s row of column tiles. -/
def start (t : Fin cfg0.N) : Fin cfg0.N := ⟨t.val - t.val % 11, Nat.lt_of_le_of_lt (Nat.sub_le _ _) t.isLt⟩

theorem start_of_first (t : Fin cfg0.N) (h : t.val % 11 = 0) : start t = t := Fin.ext (by simp only [start]; omega)

theorem start_pred (t : Fin cfg0.N) (h : ¬t.val % 11 = 0) (hlt : t.val - 1 < cfg0.N) : start ⟨t.val - 1, hlt⟩ = start t :=
  Fin.ext (by simp only [start]; omega)

/-! ## Where the result windows are idle -/

theorem live4 : ∀ t : Fin cfg0.N, cfg0.idle 4 (grid0.coords t) = false := by decide +kernel
theorem live5 : ∀ t : Fin cfg0.N, t.val % 11 = 0 → cfg0.idle 5 (grid0.coords t) = false := by decide +kernel
theorem idle5 : ∀ t : Fin cfg0.N, ¬t.val % 11 = 0 → cfg0.idle 5 (grid0.coords t) = true := by decide +kernel

/-- The `dt` window's buffer holds nothing stored since the last write-back exactly at a row's first point. -/
def freshAt (n : ℕ) : Bool := n % 11 == 0

theorem freshAt_step : ∀ t : Fin cfg0.N,
    freshAt (t.val + 1) = ((cfg0.win 5).flush t || (cfg0.idle 5 (cfg0.grid.coords t) && freshAt t.val)) := by decide +kernel

theorem notFresh (t : Fin cfg0.N) (h : ¬t.val % 11 = 0) : cfg0.fresh 5 t.val = false := by
  rw [Pipeline.Cfg.fresh_tab cfg0 5 freshAt rfl freshAt_step t.val (Nat.le_of_lt t.isLt)]
  simpa [freshAt] using h

/-! ## The staging buffers the body is called with -/

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S1x1024x2048 .bf16 := win0_2.stage (cfg0.slots t 2)
abbrev st3 (t : Fin cfg0.N) : Memref sig .tc .vmem S1x128x2048 .bf16 := win0_3.stage (cfg0.slots t 3)
abbrev st4 (t : Fin cfg0.N) : Memref sig .tc .vmem S1024x1024 .bf16 := win0_4.stage (cfg0.slots t 4)
abbrev st5 (t : Fin cfg0.N) : Memref sig .tc .vmem S1024x128 .f32 := win0_5.stage (cfg0.slots t 5)
/-- The scratch buffer of normalised rows. -/
abbrev scratch : Memref sig .tc .vmem S1024x2048 .bf16 := Memref.whole cc0_scratch0

/-- The region's invariant at entry: the scratch buffer and the generator register at anything. -/
theorem entry_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## Contents after each point -/

/-- The normalised rows of `t`'s row tile. -/
def normAt (c : Dev nD) (t : Fin cfg0.N) : Vec F S1024x2048 .bf16 := normRows (iblk m c 0 (start t)) (iblk m c 1 (start t))

/-- The `dt` tile of `t`'s row tile. -/
def dtAt (c : Dev nD) (t : Fin cfg0.N) : Vec F S1024x128 .f32 :=
  dtBlock (iblk m c 0 (start t)) (iblk m c 1 (start t)) (iblk m c 3 (start t))

/-- The wide result's tile at point `t`. -/
def projAt (c : Dev nD) (t : Fin cfg0.N) : Vec F S1024x1024 .bf16 :=
  if t.val % 11 = 0 then firstBlock (iblk m c 0 t) (iblk m c 1 t) (iblk m c 2 t) else k0_pay5 (normAt m c t) (iblk m c 2 t)

/-- The invariant before position `n`: at entry anything; later the scratch buffer holds the row's normalised rows. -/
def inv (c : Dev nD) : (n : ℕ) → n ≤ cfg0.N → sProp 𝕄
  | 0, _ => Pipeline.ΦA spec0 c
  | n + 1, hn => iprop(iprop(owns (c : Thread nD τ) scratch fullShare (normAt m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scratch fullShare (normAt m c ⟨n, hn⟩)) ∗ (∃ r, prngReg c r)) := rfl

theorem inv_pos (c : Dev nD) (n : ℕ) (h : n ≤ cfg0.N) (hz : n ≠ 0) :
    inv m c n h = iprop(iprop(owns (c : Thread nD τ) scratch fullShare (normAt m c ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projAt m c t
    | ⟨5, _⟩ => dtAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = projAt m c t := by dsimp only [dats]
theorem after_5 (c : Dev nD) (t : Fin cfg0.N) : (dats m 0 c).after 5 t = dtAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The `dt` tile does not change along a row. -/
theorem dtAt_pred (c : Dev nD) (t : Fin cfg0.N) (h : ¬t.val % 11 = 0) (hlt : t.val - 1 < cfg0.N) :
    dtAt m c ⟨t.val - 1, hlt⟩ = dtAt m c t := by
  unfold dtAt; rw [start_pred t h hlt]

/-- Nor do the normalised rows. -/
theorem normAt_pred (c : Dev nD) (t : Fin cfg0.N) (h : ¬t.val % 11 = 0) (hlt : t.val - 1 < cfg0.N) :
    normAt m c ⟨t.val - 1, hlt⟩ = normAt m c t := by
  unfold normAt; rw [start_pred t h hlt]

/-- At a later column the `dt` window's buffer holds the row's tile. -/
theorem before_5 (c : Dev nD) (t : Fin cfg0.N) (h : ¬t.val % 11 = 0) (d) : (dats m 0 c).before 5 t d = dtAt m c t := by
  rw [Dat.before_out_traj _ 5 rfl (fun _ _ => rfl) ?_ t.val t rfl d, if_neg (by rw [notFresh t h]; exact Bool.false_ne_true),
    after_5, dtAt_pred m c t h]
  intro t _ hi _
  have h : ¬t.val % 11 = 0 := fun h => by rw [live5 t h] at hi; exact Bool.false_ne_true hi
  rw [after_5, after_5, dtAt_pred m c t h]

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that is live at `t` is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at a row's first point. -/
theorem sound_first (c : Dev nD) (t : Fin cfg0.N) (h0 : t.val % 11 = 0) :
    bodyPre m c t ⊢ wp frame (wpE (defs₀ (F := F)) Variants.none c none) Set.univ (bodyAt0 t) (fun _ => bodyPost m c t) := by
  have hc0 := (firstCol_iff t).mpr h0
  have hc1 : ¬laterCol (grid0.coords t) := fun h => by have := (laterCol_iff t).mp h; omega
  unfold bodyPre bodyPost bodyAt0
  simp only [before_0, before_1, before_2, before_3]
  rw [show (dats m 0 c).owesAt () t.succ = (dats m 0 c).owesAt () t.castSucc from rfl,
    show (dats m 0 c).Φ t.succ = inv m c (t.val + 1) t.isLt from rfl, inv_succ,
    leaves_live m c 0 t rfl, leaves_live m c 1 t rfl, leaves_live m c 2 t rfl, leaves_live m c 3 t rfl,
    leaves_live m c 4 t (live4 t), leaves_live m c 5 t (live5 t h0),
    after_0, after_1, after_2, after_3, after_4, after_5]
  have e4 : projAt m c t = firstBlock (iblk m c 0 t) (iblk m c 1 t) (iblk m c 2 t) := if_pos h0
  have e5 : dtAt m c t = dtBlock (iblk m c 0 t) (iblk m c 1 t) (iblk m c 3 t) := by unfold dtAt; rw [start_of_first t h0]
  have es : normAt m c t = normRows (iblk m c 0 t) (iblk m c 1 t) := by unfold normAt; rw [start_of_first t h0]
  rw [e4, e5, es]
  have hΦ : (dats m 0 c).Φ t.castSucc ⊢ iprop(iprop((∃ d, owns (c : Thread nD τ) scratch fullShare d)) ∗ (∃ r, prngReg c r)) := by
    rw [inv_castSucc]
    by_cases hz : t.val = 0
    · rw [inv_zero m c _ _ hz, entry_eq]
    · rw [inv_pos m c _ _ hz]
      iintro ⟨HS, Hg⟩
      isplitl [HS]
      · iexists _; iexact HS
      iexact Hg
  refine (sep_mono hΦ .rfl).trans ?_
  iintro ⟨⟨HS, Hg⟩, Ho, ⟨%d0, H0⟩, ⟨%d1, H1⟩, ⟨%d2, H2⟩, ⟨%d3, H3⟩, ⟨%d4, H4⟩, ⟨%d5, H5⟩⟩
  iapply (run_first c (grid0.coords t) _ _ _ _ _ _ _ _ _ _ _ _ _ _ hc0 hc1 (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- What a later column leaves of the `dt` window, from its buffer at the row's tile: written back at the row's last point,
    handed back as found before. -/
theorem leaves_5 (c : Dev nD) (t : Fin cfg0.N) (h0 : ¬t.val % 11 = 0) :
    owns (c : Thread nD τ) (st5 t) fullShare (dtAt m c t) ⊢ ((dats m 0 c).leavesExact 5 t : sProp 𝕄) := by
  unfold Dat.leavesExact
  rw [idle5 t h0]
  by_cases hf : (cfg0.win 5).flush t = true
  · rw [hf]; exact (show _ ⊢ owns (c : Thread nD τ) (st5 t) fullShare ((dats m 0 c).after 5 t) from by rw [after_5])
  · rw [Bool.not_eq_true] at hf
    rw [hf]
    show _ ⊢ iprop(∃ d, owns (c : Thread nD τ) (st5 t) fullShare ((dats m 0 c).before 5 t d))
    iintro H
    iexists (dtAt m c t)
    rw [before_5 m c t h0]
    iexact H

set_option maxHeartbeats 1600000 in
/-- The body at a later point of a row. -/
theorem sound_later (c : Dev nD) (t : Fin cfg0.N) (h0 : ¬t.val % 11 = 0) :
    bodyPre m c t ⊢ wp frame (wpE (defs₀ (F := F)) Variants.none c none) Set.univ (bodyAt0 t) (fun _ => bodyPost m c t) := by
  have hc0 : ¬firstCol (grid0.coords t) := fun h => h0 ((firstCol_iff t).mp h)
  have hc1 : laterCol (grid0.coords t) := (laterCol_iff t).mpr (by omega)
  unfold bodyPre bodyPost bodyAt0
  simp only [before_0, before_1, before_2, before_3, before_5 m c t h0]
  rw [show (dats m 0 c).owesAt () t.succ = (dats m 0 c).owesAt () t.castSucc from rfl,
    show (dats m 0 c).Φ t.succ = inv m c (t.val + 1) t.isLt from rfl, inv_succ,
    inv_castSucc, inv_pos m c _ _ (by omega), normAt_pred m c t h0,
    leaves_live m c 0 t rfl, leaves_live m c 1 t rfl, leaves_live m c 2 t rfl, leaves_live m c 3 t rfl,
    leaves_live m c 4 t (live4 t), after_0, after_1, after_2, after_3, after_4]
  have e4 : projAt m c t = k0_pay5 (normAt m c t) (iblk m c 2 t) := if_neg h0
  rw [e4]
  iintro ⟨⟨HS, Hg⟩, Ho, ⟨%d0, H0⟩, ⟨%d1, H1⟩, ⟨%d2, H2⟩, ⟨%d3, H3⟩, ⟨%d4, H4⟩, ⟨%d5, H5⟩⟩
  iapply (run_later c (grid0.coords t) _ _ _ _ _ _ _ _ _ _ _ _ _ _ hc0 hc1 (iblk m c 2 t) (normAt m c t) Set.univ _)
  isplitl [H2]; · iexact H2
  isplitl [H4]; · iexists _; iexact H4
  isplitl [HS]; · iexact HS
  iintro ⟨H2, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iapply (leaves_5 m c t h0)
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact sound_first m c t h0
  · exact sound_later m c t h0

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem hin (c : Dev nD) : Pipeline.ΦA spec0 c ⊢ (dats m 0 c).Φ 0 := by
  rw [show (dats m 0 c).Φ 0 = inv m c 0 (Nat.zero_le _) from rfl, inv_zero m c 0 _ rfl]

theorem hout (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 352 := N_0; omega), entry_eq]
  iintro ⟨HS, Hg⟩
  isplitl [HS]
  · iexists _; iexact HS
  iexact Hg

set_option backward.isDefEq.respectTransparency.types false in
/-- Every run of the program ends with every array of the pipeline at what the proof data says, the host's slices of them after
    that, and every semaphore at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

/-- THE FRAME: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.InprojIdeal.Hand

end
-- ==== Proof.Rows.lean ====
/-
  Normalised rows over the extended reals, shared by the three calls.

  `scaled x g r k` is entry `k` of row `r` of `x`, normalised by the root of the row's mean square and multiplied by `g`.
-/
module

public import Idealize.ShloMosaic.Lib.Pointwise
public import Idealize.ShloMosaic.Lib.Pipeline.ValueKit

@[expose] public section

set_option maxRecDepth 16384

noncomputable section

namespace Cert.Proof.Rows

open Idealize.ShloMosaic Idealize.ShloMosaic.TcCoe Idealize.ShloMosaic.Tactic

/-- Entry `k` of a row, normalised by the root of its mean square. -/
def normalised (v : Fin 2048 → EReal) (k : Fin 2048) : EReal :=
  v k * Ideal.rsqrt (Ideal.div (∑ l : Fin 2048, v l * v l) (Ideal.ofBits .f32 0x45000000#32) + Ideal.ofBits .f32 0x358637BD#32)

/-- Entry `k` of row `r`, normalised and multiplied by the gain. -/
def scaled {n : ℕ} (x : Vec Ideal ⟨2, ![n, 2048]⟩ .f32) (g : Vec Ideal ⟨2, ![1, 2048]⟩ .f32) (r : Fin n) (k : Fin 2048) : EReal :=
  x (ix2 r k) * Ideal.rsqrt (Ideal.div (∑ l : Fin 2048, x (ix2 r l) * x (ix2 r l)) (Ideal.ofBits .f32 0x45000000#32)
    + Ideal.ofBits .f32 0x358637BD#32) * g (ix2 0 k)

/-- Rows that agree entry by entry, with the same gain, are normalised alike. -/
theorem scaled_congr {n n' : ℕ} (x : Vec Ideal ⟨2, ![n, 2048]⟩ .f32) (x' : Vec Ideal ⟨2, ![n', 2048]⟩ .f32)
    (g g' : Vec Ideal ⟨2, ![1, 2048]⟩ .f32) (r : Fin n) (r' : Fin n') (hx : ∀ l, x (ix2 r l) = x' (ix2 r' l))
    (hg : ∀ l, g (ix2 0 l) = g' (ix2 0 l)) (k : Fin 2048) : scaled x g r k = scaled x' g' r' k := by
  unfold scaled
  simp only [hx, hg]

/-- A half of a tile, read at an index. -/
theorem half_apply (x : Vec Ideal ⟨2, ![1024, 2048]⟩ .f32) (o : ℕ) (hi) (r : Fin 512) (r' : Fin 1024) (hr : r'.val = o + r.val) (k : Fin 2048) :
    (View.ld (Val := Elt Ideal) x (Rect.unit (s := ⟨2, ![1024, 2048]⟩) ![o, 0] ![512, 2048] hi) : Vec Ideal ⟨2, ![512, 2048]⟩ .f32) (ix2 r k)
      = x (ix2 r' k) :=
  View.ld_unit_apply_of x _ _ hi _ _ fun a => by
    fin_cases a
    · exact hr
    · exact (Nat.zero_add _).symm

/-- A half of a tile, normalised, is the tile normalised at the row the half is cut at. -/
theorem scaled_half (x : Vec Ideal ⟨2, ![1024, 2048]⟩ .f32) (g : Vec Ideal ⟨2, ![1, 2048]⟩ .f32) (o : ℕ) (hi) (r : Fin 512) (r' : Fin 1024)
    (hr : r'.val = o + r.val) (k : Fin 2048) :
    scaled (View.ld (Val := Elt Ideal) x (Rect.unit (s := ⟨2, ![1024, 2048]⟩) ![o, 0] ![512, 2048] hi) : Vec Ideal ⟨2, ![512, 2048]⟩ .f32) g r k
      = scaled x g r' k :=
  scaled_congr _ _ _ _ _ _ (half_apply x o hi r r' hr) (fun _ => rfl) k

/-- The rows as one array of 32768. -/
def flat (x : Vec Ideal ⟨3, ![4, 8192, 2048]⟩ .f32) : Vec Ideal ⟨2, ![32768, 2048]⟩ .f32 := fun i =>
  x (ix3 ⟨(i 0).val / 8192, Nat.div_lt_of_lt_mul (i 0).isLt⟩ ⟨(i 0).val % 8192, Nat.mod_lt _ (by decide)⟩ (i 1))

/-- The first layer's gain. -/
def gain (g : Vec Ideal ⟨2, ![2, 2048]⟩ .f32) : Vec Ideal ⟨2, ![1, 2048]⟩ .f32 := fun i => g (ix2 0 (i 1))

/-- Sums of extended reals with equal terms are equal. -/
theorem sum_ext {n : ℕ} (f g : Fin n → EReal) (h : ∀ k, f k = g k) : ∑ k, f k = ∑ k, g k := Finset.sum_congr rfl fun k _ => h k

/-- The word of one half, as an extended real. -/
theorem ofBits_half : Ideal.ofBits .f32 0x3F000000#32 = (((1 : ℝ) / 2 : ℝ) : EReal) := by
  simp [Ideal.ofBits, Ideal.ieee, -EReal.coe_mul]; norm_num

/-- One half of a sum is the sum of the halves, whatever the terms: the factor is a nonnegative real. -/
theorem half_sum {n : ℕ} (f : Fin n → EReal) :
    Ideal.ofBits .f32 0x3F000000#32 * ∑ k, f k = ∑ k, Ideal.ofBits .f32 0x3F000000#32 * f k := by
  have h0 : (0 : EReal) ≤ Ideal.ofBits .f32 0x3F000000#32 := by
    rw [ofBits_half]; exact EReal.coe_nonneg.mpr (by norm_num)
  have h1 : Ideal.ofBits .f32 0x3F000000#32 ≠ (⊤ : EReal) := by
    rw [ofBits_half]; exact EReal.coe_ne_top _
  induction (Finset.univ : Finset (Fin n)) using Finset.induction_on with
  | empty => simp
  | insert a s ha ih =>
    rw [Finset.sum_insert ha, Finset.sum_insert ha, EReal.left_distrib_of_nonneg_of_ne_top h0 h1, ih]

end Cert.Proof.Rows
end
-- ==== Proof.InprojPoint.lean ====
/-
  The input projection's stored values at an index, over the extended reals.

  Every stored tile is read at a row and a column: a normalised entry, or the sum over `k` of normalised entries times weights.
-/
module

public import proofs.«01_k».proof.Proof.InprojBody
public import proofs.«01_k».proof.Proof.Rows
public import Idealize.ShloMosaic.Lib.Pointwise

@[expose] public section

set_option maxRecDepth 16384

noncomputable section

namespace Cert.InprojIdeal.Hand

open Cert.InprojIdeal.Gen Cert.Proof.Rows
open Idealize.ShloMosaic Idealize.ShloMosaic.TcCoe Idealize.ShloMosaic.Tactic Idealize.ShloMosaic.Rounds

theorem norm_lower (x : Vec Ideal S512x2048 .f32) (g : Vec Ideal S1x2048 .f32) (r : Fin 512) (k : Fin 2048) :
    k0_pay2 (k0_pay10 x) g (ix2 r k) = scaled x g r k := by
  pointwise [k0_pay2, k0_pay1, k0_pay10, scaled]

theorem norm_upper (x : Vec Ideal S512x2048 .f32) (g : Vec Ideal S1x2048 .f32) (r : Fin 512) (k : Fin 2048) :
    k0_pay7 x g (ix2 r k) = scaled x g r k := by
  pointwise [k0_pay7, k0_pay6, scaled]

theorem dt_lower (x : Vec Ideal S512x2048 .f32) (g : Vec Ideal S1x2048 .f32) (w : Vec Ideal S1x128x2048 .bf16)
    (r : Fin 512) (l : Fin 128) : k0_pay3 (k0_pay10 x) g w (ix2 r l) = ∑ k : Fin 2048, scaled x g r k * w (ix3 0 l k) := by
  pointwise [k0_pay3, k0_pay1, k0_pay10, scaled]

theorem dt_upper (x : Vec Ideal S512x2048 .f32) (g : Vec Ideal S1x2048 .f32) (w : Vec Ideal S1x128x2048 .bf16)
    (r : Fin 512) (l : Fin 128) : k0_pay8 x g w (ix2 r l) = ∑ k : Fin 2048, scaled x g r k * w (ix3 0 l k) := by
  pointwise [k0_pay8, k0_pay6, scaled]

theorem first_lower (x : Vec Ideal S512x2048 .f32) (g : Vec Ideal S1x2048 .f32) (w : Vec Ideal S1x1024x2048 .bf16)
    (r : Fin 512) (l : Fin 1024) : k0_pay4 (k0_pay10 x) g w (ix2 r l) = ∑ k : Fin 2048, scaled x g r k * w (ix3 0 l k) := by
  pointwise [k0_pay4, k0_pay1, k0_pay10, scaled]

theorem first_upper (x : Vec Ideal S512x2048 .f32) (g : Vec Ideal S1x2048 .f32) (w : Vec Ideal S1x1024x2048 .bf16)
    (r : Fin 512) (l : Fin 1024) : k0_pay9 x g w (ix2 r l) = ∑ k : Fin 2048, scaled x g r k * w (ix3 0 l k) := by
  pointwise [k0_pay9, k0_pay6, scaled]

theorem later_apply (h : Vec Ideal S1024x2048 .bf16) (w : Vec Ideal S1x1024x2048 .bf16) (r l : Fin 1024) :
    k0_pay5 h w (ix2 r l) = ∑ k : Fin 2048, h (ix2 r k) * w (ix3 0 l k) := by
  pointwise [k0_pay5]

theorem normRows_apply (x : Vec Ideal S1024x2048 .f32) (g : Vec Ideal S1x2048 .f32) (r : Fin 1024) (k : Fin 2048) :
    normRows x g (ix2 r k) = scaled x g r k := by
  unfold normRows
  canon_tiles z h
  · idx_vars z
    rw [norm_lower, scaled_half x g 512 _ _ r h0]
    exact congrArg _ (Fin.ext h1.symm)
  · idx_vars z
    rw [norm_upper, scaled_half x g 0 _ _ r (h0.trans (Nat.zero_add _).symm)]
    exact congrArg _ (Fin.ext h1.symm)

theorem dtBlock_apply (x : Vec Ideal S1024x2048 .f32) (g : Vec Ideal S1x2048 .f32) (w : Vec Ideal S1x128x2048 .bf16)
    (r : Fin 1024) (l : Fin 128) : dtBlock x g w (ix2 r l) = ∑ k : Fin 2048, scaled x g r k * w (ix3 0 l k) := by
  unfold dtBlock
  canon_tiles z h
  · idx_vars z
    rw [dt_lower]
    refine Finset.sum_congr rfl fun k _ => ?_
    rw [scaled_half x g 512 _ _ r h0]
    exact congrArg (fun q => scaled x g r k * w (ix3 0 q k)) (Fin.ext h1.symm)
  · idx_vars z
    rw [dt_upper]
    refine Finset.sum_congr rfl fun k _ => ?_
    rw [scaled_half x g 0 _ _ r (h0.trans (Nat.zero_add _).symm)]
    exact congrArg (fun q => scaled x g r k * w (ix3 0 q k)) (Fin.ext h1.symm)

theorem firstBlock_apply (x : Vec Ideal S1024x2048 .f32) (g : Vec Ideal S1x2048 .f32) (w : Vec Ideal S1x1024x2048 .bf16)
    (r l : Fin 1024) : firstBlock x g w (ix2 r l) = ∑ k : Fin 2048, scaled x g r k * w (ix3 0 l k) := by
  unfold firstBlock
  canon_tiles z h
  · idx_vars z
    rw [first_lower]
    refine Finset.sum_congr rfl fun k _ => ?_
    rw [scaled_half x g 512 _ _ r h0]
    exact congrArg (fun q => scaled x g r k * w (ix3 0 q k)) (Fin.ext h1.symm)
  · idx_vars z
    rw [first_upper]
    refine Finset.sum_congr rfl fun k _ => ?_
    rw [scaled_half x g 0 _ _ r (h0.trans (Nat.zero_add _).symm)]
    exact congrArg (fun q => scaled x g r k * w (ix3 0 q k)) (Fin.ext h1.symm)

variable (m : (ℓ : Loc nD τ sig) → Buf (Elt Ideal) ℓ)

/-- The wide result's tile at a point: the row tile's normalised rows times the point's weights, at every column. -/
theorem projAt_apply (c : Dev nD) (t : Fin cfg0.N) (r l : Fin 1024) :
    projAt m c t (ix2 r l)
      = ∑ k : Fin 2048, scaled (iblk m c 0 (start t) : Vec Ideal S1024x2048 .f32) (iblk m c 1 (start t)) r k
          * (iblk m c 2 t : Vec Ideal S1x1024x2048 .bf16) (ix3 0 l k) := by
  unfold projAt
  split
  · rename_i h
    rw [firstBlock_apply, start_of_first t h]
  · rw [later_apply]
    unfold normAt
    simp only [normRows_apply]

end Cert.InprojIdeal.Hand

end
-- ==== Proof.InprojArray.lean ====
/-
  The input projection's result arrays after the run, over the extended reals.

  Each point's blocks are read in the arrays (`block0` to `block3`; the weights' block begins at an element row, not at a
  multiple of the block), and the tiles the points write back are put together: the wide result holds `wide` in every column tile but
  the sixth, which nothing writes and nothing reads, and the `dt` result holds `narrow`.
-/
module

public import proofs.«01_k».proof.Proof.InprojPoint

@[expose] public section
set_option maxRecDepth 16384
noncomputable section
namespace Cert.InprojIdeal.Hand

open Cert.InprojIdeal.Gen Cert.Proof.Rows
open Idealize.ShloMosaic Idealize.ShloMosaic.TcCoe Idealize.ShloMosaic.Tactic Idealize.ShloMosaic.Rounds
open Idealize.ShloMosaic.Pipeline (Dat Cfg Window)

/-- The row of the transposed weights, that is the reference's column, of column `p` of the wide result. -/
def columnOf (p : ℕ) : ℕ := if p < 3072 then 2048 + p else if p < 5120 then p - 3072 else 5152 + (p - 6144)

theorem columnOf_lt (p : ℕ) (h : p < 12288) : columnOf p < 11296 := by unfold columnOf; split_ifs <;> omega

variable (m : (ℓ : Loc nD τ sig) → Buf (Elt Ideal) ℓ)

theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
/-- The weights' block begins at an element row that depends on the column tile. -/
theorem index2 : ∀ t : Fin cfg0.N, win0_2.index t (0 : Fin 3) = 0
    ∧ win0_2.index t (1 : Fin 3) = columnOf (1024 * (if t.val % 11 < 5 then t.val % 11 else t.val % 11 + 1)) ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = t.val / 11
    ∧ win0_4.index t (1 : Fin 2) = (if t.val % 11 < 5 then t.val % 11 else t.val % 11 + 1) :=
  (by decide +kernel : ∀ t : Fin grid0.N, _)
theorem index5 : ∀ t : Fin cfg0.N, win0_5.index t (0 : Fin 2) = t.val / 11 ∧ win0_5.index t (1 : Fin 2) = 0 :=
  (by decide +kernel : ∀ t : Fin grid0.N, _)

/-- Where the weights' block places its index in the array. -/
theorem place2 (t : Fin cfg0.N) (y : S1x1024x2048.Idx) (a : Fin 3) :
    (((win0_2.blk t).view.emb y) a : ℕ) = win0_2.index t a + (y a).val :=
  (show win0_2.index t a + 1 * (y a).val = _ by omega)

theorem block0 (c : Dev nD) (t : Fin cfg0.N) (r : Fin 1024) (k : Fin 2048) (i : Fin 32768) (hi : i.val = 1024 * (t.val / 11) + r.val) :
    (iblk m c 0 t : Vec Ideal S1024x2048 .f32) (ix2 r k) = (V m c main_v4 : Vec Ideal S32768x2048 .f32) (ix2 i k) := by
  blk_ext [iblk, index0 t]

theorem block1 (c : Dev nD) (t : Fin cfg0.N) (k : Fin 2048)  :
    (iblk m c 1 t : Vec Ideal S1x2048 .f32) (ix2 0 k) = (V m c main_v7 : Vec Ideal S1x2048 .f32) (ix2 0 k) := by
  blk_ext [iblk, index1 t]

theorem block2 (c : Dev nD) (t : Fin cfg0.N) (l : Fin 1024) (k : Fin 2048) (n : Fin 11296)
   (hn : n.val = columnOf (1024 * (if t.val % 11 < 5 then t.val % 11 else t.val % 11 + 1)) + l.val) :
    (iblk m c 2 t : Vec Ideal S1x1024x2048 .bf16) (ix3 0 l k) = (V m c main_v1 : Vec Ideal S2x11296x2048 .bf16) (ix3 0 n k) := by
  refine congrArg (V m c main_v1 : Vec Ideal S2x11296x2048 .bf16) (funext fun a => Fin.ext ((place2 t (ix3 0 l k) a).trans ?_))
  fin_cases a
  · exact congrArg (· + 0) (index2 t).1
  · exact (congrArg (· + l.val) (index2 t).2.1).trans hn.symm
  · exact (congrArg (· + k.val) (index2 t).2.2).trans (Nat.zero_add _)

theorem block3 (c : Dev nD) (t : Fin cfg0.N) (l : Fin 128) (k : Fin 2048) :
    (iblk m c 3 t : Vec Ideal S1x128x2048 .bf16) (ix3 0 l k) = (V m c main_v3 : Vec Ideal S2x128x2048 .bf16) (ix3 0 l k) := by
  blk_ext [iblk, index3 t]

/-- The wide result, as a function of the flattened rows, the gain and the transposed weights. -/
def wide (x : Vec Ideal S32768x2048 .f32) (g : Vec Ideal S1x2048 .f32) (w : Vec Ideal S2x11296x2048 .bf16) : Vec Ideal S32768x12288 .bf16 :=
  fun i => ∑ k : Fin 2048, scaled x g (i 0) k * w (ix3 0 ⟨columnOf (i 1).val, columnOf_lt _ (i 1).isLt⟩ k)

/-- The `dt` result. -/
def narrow (x : Vec Ideal S32768x2048 .f32) (g : Vec Ideal S1x2048 .f32) (w : Vec Ideal S2x128x2048 .bf16) : Vec Ideal S32768x128 .f32 :=
  fun i => ∑ k : Fin 2048, scaled x g (i 0) k * w (ix3 0 (i 1) k)

/-- A row of a tile, normalised, is the array's row normalised. -/
theorem scaled_block (c : Dev nD) (t : Fin cfg0.N) (r : Fin 1024) (k : Fin 2048) (i : Fin 32768)
    (hi : i.val = 1024 * (t.val / 11) + r.val) :
    scaled (iblk m c 0 t : Vec Ideal S1024x2048 .f32) (iblk m c 1 t) r k = scaled (V m c main_v4 : Vec Ideal S32768x2048 .f32) (V m c main_v7) i k := by
  unfold scaled
  rw [block1 m c t k]
  simp only [fun k => block0 m c t r k i hi]

theorem start_row (t : Fin cfg0.N) : (start t).val / 11 = t.val / 11 := by simp only [start]; omega

theorem array4 (c : Dev nD) : (dats m 0 c).arrAt 4 cfg0.N
    = fun i : S32768x12288.Idx => if (i 1).val / 1024 ≠ 5 then wide (V m c main_v4) (V m c main_v7) (V m c main_v1) i else (dats m 0 c).A 4 i := by
  refine (dats m 0 c).arrAt_eq_of_coversWhere 4 _ (fun β => β (1 : Fin 2) ≠ 5) (by decide +kernel) (fun t hf y => ?_) (fun j => Iff.rfl)
  blk_simp
  rw [after_4]
  idx_vars y
  rw [projAt_apply]
  unfold wide
  have h0 : (((win0_4.blk t).view.emb (ix2 y0 y1)) (0 : Fin 2) : ℕ) = 1024 * (t.val / 11) + y0.val := by
    blk_simp [index4 t]; omega
  have h1 : (((win0_4.blk t).view.emb (ix2 y0 y1)) (1 : Fin 2) : ℕ) = 1024 * (if t.val % 11 < 5 then t.val % 11 else t.val % 11 + 1) + y1.val := by
    blk_simp [index4 t]; omega
  refine sum_ext _ _ fun k => ?_
  refine congrArg₂ (fun a b : EReal => a * b) ?_ ?_
  · exact scaled_block m c (start t) y0 k _ (h0.trans (by rw [start_row]))
  · refine block2 m c t y1 k _ ?_
    refine (congrArg columnOf h1).trans ?_
    have := t.isLt
    have hy := y1.isLt
    unfold columnOf
    split_ifs <;> omega

theorem array5 (c : Dev nD) : (dats m 0 c).arrAt 5 cfg0.N = narrow (V m c main_v4) (V m c main_v7) (V m c main_v3) := by
  refine (dats m 0 c).arrAt_eq_of_covers 5 _ (by decide +kernel) (fun t hf y => ?_)
  blk_simp
  rw [after_5]
  idx_vars y
  unfold dtAt
  rw [dtBlock_apply]
  unfold narrow
  have h0 : (((win0_5.blk t).view.emb (ix2 y0 y1)) (0 : Fin 2) : ℕ) = 1024 * (t.val / 11) + y0.val := by
    blk_simp [index5 t]; omega
  have h1 : (((win0_5.blk t).view.emb (ix2 y0 y1)) (1 : Fin 2) : ℕ) = y1.val := by
    blk_simp [index5 t]
  refine sum_ext _ _ fun k => ?_
  refine congrArg₂ (fun a b : EReal => a * b) ?_ ?_
  · exact scaled_block m c (start t) y0 k _ (h0.trans (by rw [start_row]))
  · refine (block3 m c (start t) y1 k).trans ?_
    exact congrArg (fun q => (V m c main_v3 : Vec Ideal S2x128x2048 .bf16) (ix3 0 q k)) (Fin.ext h1.symm)

end Cert.InprojIdeal.Hand
end
-- ==== Proof.InprojValue.lean ====
/-
  The input projection's five results are the reference's, over the extended reals.

  The program's host lines before the call (a reshape of the rows, the first layer's gain, the transposed weights, the padded
  `dt` weights) are read at an index (`entry4`, `entry7`, `entry1`, `entry3`), and the five slices after it (`tail9` to `tail13`).
  Both sides of each result are then one sum over the 2048 features, `entry`, at the same row and the same column of the weights.
-/
module

public import proofs.«01_k».proof.Proof.InprojArray
public import proofs.«01_k».proof.Proof.Gen.InprojRefIdeal.Read

@[expose] public section
set_option maxRecDepth 16384
noncomputable section
namespace Cert.InprojIdeal.Hand

open Cert.InprojIdeal.Gen Cert.Proof.Rows
open Idealize.ShloMosaic Idealize.ShloMosaic.TcCoe Idealize.ShloMosaic.Tactic Idealize.ShloMosaic.Rounds
open Idealize.ShloMosaic.Pipeline (Dat Cfg Window)

/-- One entry of the reference's projection. -/
def entry (x : Vec Ideal S4x8192x2048 .f32) (g : Vec Ideal S2x2048 .f32) (w : Vec Ideal S2x2048x11296 .f32)
    (r : Fin 32768) (n : Fin 11296) : EReal := ∑ k : Fin 2048, scaled (flat x) (gain g) r k * w (ix3 0 k n)

open Cert.InprojRefIdeal.Read in
theorem reference_entry (x : Vec Ideal S4x8192x2048 .f32) (g : Vec Ideal S2x2048 .f32) (w : Vec Ideal S2x2048x11296 .f32)
    (r : Fin 32768) (n : Fin 11296) : val_main_v18 x g w (ix2 r n) = entry x g w r n := by
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, entry, scaled, flat, gain]

variable (m : (ℓ : Loc nD τ sig) → Buf (Elt Ideal) ℓ)

theorem entry4 (c : Dev nD) : (V m c main_v4 : Vec Ideal S32768x2048 .f32) = flat (m ((c.tc : Thread nD τ).loc main_arg0)) := by
  unfold V V0
  simp only [hostOps0, hostOps0_1, hostOps0_2, List.flatten_cons, List.flatten_nil, List.append_nil, List.cons_append, List.nil_append]
  after_results
  funext j
  idx_vars j
  pointwise [flat]
theorem entry7 (c : Dev nD) : (V m c main_v7 : Vec Ideal S1x2048 .f32) = gain (m ((c.tc : Thread nD τ).loc main_arg1)) := by
  unfold V V0
  simp only [hostOps0, hostOps0_1, hostOps0_2, List.flatten_cons, List.flatten_nil, List.append_nil, List.cons_append, List.nil_append]
  after_results
  funext j
  idx_vars j
  pointwise [gain]
theorem entry1 (c : Dev nD) (n : Fin 11296) (k : Fin 2048) : (V m c main_v1 : Vec Ideal S2x11296x2048 .bf16) (ix3 0 n k)
   = m ((c.tc : Thread nD τ).loc main_arg2) (ix3 0 k n) := by
  unfold V V0
  simp only [hostOps0, hostOps0_1, hostOps0_2, List.flatten_cons, List.flatten_nil, List.append_nil, List.cons_append, List.nil_append]
  after_results
  pointwise []
/-- The padded `dt` weights below row 32. -/
theorem padded_apply (w : Vec Ideal S2x2048x11296 .f32) (l : Fin 128) (hl : l.val < 32) (k : Fin 2048) :
    pad S2x128x2048 ![0, 0, 0] ![0, 96, 0] ![0, 0, 0] (extractStridedSlice S2x32x2048 ![0, 5120, 0]
        (truncf (F := Ideal) FTy.bf16 (transpose S2x11296x2048 [0, 2, 1] w transposes_S2x2048x11296_S2x11296x2048_0_2_1) bitsLt_bf16_f32)
        slices_S2x11296x2048_S2x32x2048_0_5120_0)
      (sitofp (F := Ideal) FTy.bf16 (constantI S_ 32 0#32)) pads_S2x32x2048_S2x128x2048_000_0960_000 h_S_ (ix3 0 l k)
    = w (ix3 0 k ⟨5120 + l.val, by omega⟩) := by
  pointwise []
  exact dif_pos hl

theorem entry3 (c : Dev nD) (l : Fin 128) (hl : l.val < 32) (k : Fin 2048) : (V m c main_v3 : Vec Ideal S2x128x2048 .bf16) (ix3 0 l k)
   = m ((c.tc : Thread nD τ).loc main_arg2) (ix3 0 k ⟨5120 + l.val, by omega⟩) := by
  unfold V V0
  simp only [hostOps0, hostOps0_1, hostOps0_2, List.flatten_cons, List.flatten_nil, List.append_nil, List.cons_append, List.nil_append]
  after_results
  exact padded_apply (m ((c.tc : Thread nD τ).loc main_arg2)) l hl k

theorem tail9 (c : Dev nD) : Pipeline.afterTail₀ cfgs (dats m) 0 (V0 m) [hostOps1] c main_v9
    = extractStridedSlice S32768x2048 ![0, 3072] ((dats m 0 c).arrAt 4 cfg0.N : Vec Ideal S32768x12288 .bf16) slices_S32768x12288_S32768x2048_0_3072 := by
  unfold Pipeline.afterTail₀
  simp only [hostOps1, List.flatten_cons, List.flatten_nil, List.append_nil, List.cons_append, List.nil_append]
  after_results
  exact congrArg (fun z : Vec Ideal S32768x12288 .bf16 => extractStridedSlice S32768x2048 ![0, 3072] z slices_S32768x12288_S32768x2048_0_3072)
    (Pipeline.withArrays_arr spec0 launch0.win.arr_inj c _ _ 4)

theorem tail10 (c : Dev nD) : Pipeline.afterTail₀ cfgs (dats m) 0 (V0 m) [hostOps1] c main_v10
    = extractStridedSlice S32768x3072 ![0, 0] ((dats m 0 c).arrAt 4 cfg0.N : Vec Ideal S32768x12288 .bf16) slices_S32768x12288_S32768x3072_0_0 := by
  unfold Pipeline.afterTail₀
  simp only [hostOps1, List.flatten_cons, List.flatten_nil, List.append_nil, List.cons_append, List.nil_append]
  after_results
  exact congrArg (fun z : Vec Ideal S32768x12288 .bf16 => extractStridedSlice S32768x3072 ![0, 0] z slices_S32768x12288_S32768x3072_0_0)
    (Pipeline.withArrays_arr spec0 launch0.win.arr_inj c _ _ 4)

theorem tail11 (c : Dev nD) : Pipeline.afterTail₀ cfgs (dats m) 0 (V0 m) [hostOps1] c main_v11
    = extractStridedSlice S32768x32 ![0, 0] ((dats m 0 c).arrAt 5 cfg0.N : Vec Ideal S32768x128 .f32) slices_S32768x128_S32768x32_0_0 := by
  unfold Pipeline.afterTail₀
  simp only [hostOps1, List.flatten_cons, List.flatten_nil, List.append_nil, List.cons_append, List.nil_append]
  after_results
  exact congrArg (fun z : Vec Ideal S32768x128 .f32 => extractStridedSlice S32768x32 ![0, 0] z slices_S32768x128_S32768x32_0_0)
    (Pipeline.withArrays_arr spec0 launch0.win.arr_inj c _ _ 5)

theorem tail12 (c : Dev nD) : Pipeline.afterTail₀ cfgs (dats m) 0 (V0 m) [hostOps1] c main_v12
    = extractStridedSlice S32768x2048 ![0, 6144] ((dats m 0 c).arrAt 4 cfg0.N : Vec Ideal S32768x12288 .bf16) slices_S32768x12288_S32768x2048_0_6144 := by
  unfold Pipeline.afterTail₀
  simp only [hostOps1, List.flatten_cons, List.flatten_nil, List.append_nil, List.cons_append, List.nil_append]
  after_results
  exact congrArg (fun z : Vec Ideal S32768x12288 .bf16 => extractStridedSlice S32768x2048 ![0, 6144] z slices_S32768x12288_S32768x2048_0_6144)
    (Pipeline.withArrays_arr spec0 launch0.win.arr_inj c _ _ 4)

theorem tail13 (c : Dev nD) : Pipeline.afterTail₀ cfgs (dats m) 0 (V0 m) [hostOps1] c main_v13
    = extractStridedSlice S32768x4096 ![0, 8192] ((dats m 0 c).arrAt 4 cfg0.N : Vec Ideal S32768x12288 .bf16) slices_S32768x12288_S32768x4096_0_8192 := by
  unfold Pipeline.afterTail₀
  simp only [hostOps1, List.flatten_cons, List.flatten_nil, List.append_nil, List.cons_append, List.nil_append]
  after_results
  exact congrArg (fun z : Vec Ideal S32768x12288 .bf16 => extractStridedSlice S32768x4096 ![0, 8192] z slices_S32768x12288_S32768x4096_0_8192)
    (Pipeline.withArrays_arr spec0 launch0.win.arr_inj c _ _ 4)

/-- The wide result at a column the kernel writes. -/
theorem array4_apply (c : Dev nD) (r : Fin 32768) (p : Fin 12288) (hp : p.val / 1024 ≠ 5) :
    ((dats m 0 c).arrAt 4 cfg0.N : Vec Ideal S32768x12288 .bf16) (ix2 r p)
      = entry (m ((c.tc : Thread nD τ).loc main_arg0)) (m ((c.tc : Thread nD τ).loc main_arg1)) (m ((c.tc : Thread nD τ).loc main_arg2))
          r ⟨columnOf p.val, columnOf_lt _ p.isLt⟩ := by
  rw [array4]
  refine (if_pos hp).trans ?_
  unfold wide entry
  refine sum_ext _ _ fun k => ?_
  rw [entry4, entry7]
  exact congrArg (fun b : EReal => scaled (flat (m ((c.tc : Thread nD τ).loc main_arg0))) (gain (m ((c.tc : Thread nD τ).loc main_arg1))) r k * b)
    (entry1 m c _ k)

/-- The `dt` result at its first 32 columns. -/
theorem array5_apply (c : Dev nD) (r : Fin 32768) (l : Fin 128) (hl : l.val < 32) :
    ((dats m 0 c).arrAt 5 cfg0.N : Vec Ideal S32768x128 .f32) (ix2 r l)
      = entry (m ((c.tc : Thread nD τ).loc main_arg0)) (m ((c.tc : Thread nD τ).loc main_arg1)) (m ((c.tc : Thread nD τ).loc main_arg2))
          r ⟨5120 + l.val, by omega⟩ := by
  rw [array5]
  unfold narrow entry
  refine sum_ext _ _ fun k => ?_
  rw [entry4, entry7]
  exact congrArg (fun b : EReal => scaled (flat (m ((c.tc : Thread nD τ).loc main_arg0))) (gain (m ((c.tc : Thread nD τ).loc main_arg1))) r k * b)
    (entry3 m c l hl k)

/-- A slice of the columns, at an index. -/
theorem slice_at {n : ℕ} {φ : EltTy} (o w : ℕ) (z : Vec Ideal ⟨2, ![32768, n]⟩ φ) (h) (r : Fin 32768) (l : Fin w) (hl : o + l.val < n) :
    extractStridedSlice ⟨2, ![32768, w]⟩ ![0, o] z h (ix2 r l) = z (ix2 r ⟨o + l.val, hl⟩) :=
  extractStridedSlice_apply ![0, o] z h (ix2 r l) (ix2 r ⟨o + l.val, hl⟩) fun a => by
    fin_cases a
    · exact (Nat.zero_add _).symm
    · rfl

open Cert.InprojRefIdeal.Read in
theorem reference24 (x : Vec Ideal S4x8192x2048 .f32) (g : Vec Ideal S2x2048 .f32) (w : Vec Ideal S2x2048x11296 .f32)
    (r : Fin 32768) (l : Fin 2048) : val_main_v24 x g w (ix2 r l) = entry x g w r ⟨0 + l.val, by omega⟩ :=
  (slice_at 0 2048 (val_main_v18 x g w) Cert.InprojRefIdeal.Gen.slices_S32768x11296_S32768x2048_0_0 r l (by omega)).trans
    (reference_entry x g w r _)

open Cert.InprojRefIdeal.Read in
theorem result9 (c : Dev nD) : Pipeline.afterTail₀ cfgs (dats m) 0 (V0 m) [hostOps1] c main_v9
    = val_main_v24 (m ((c.tc : Thread nD τ).loc main_arg0)) (m ((c.tc : Thread nD τ).loc main_arg1)) (m ((c.tc : Thread nD τ).loc main_arg2)) := by
  rw [tail9]
  funext j
  idx_vars j
  refine (slice_at 3072 2048 _ _ j0 j1 (by omega)).trans ?_
  refine Eq.trans ?_ (reference24 _ _ _ j0 j1).symm
  refine (array4_apply m c j0 ⟨3072 + j1.val, by omega⟩ (by show (3072 + j1.val) / 1024 ≠ 5; omega)).trans ?_
  exact congrArg (entry _ _ _ j0) (Fin.ext (by show columnOf (3072 + j1.val) = 0 + j1.val; unfold columnOf; split_ifs <;> omega))

open Cert.InprojRefIdeal.Read in
theorem reference25 (x : Vec Ideal S4x8192x2048 .f32) (g : Vec Ideal S2x2048 .f32) (w : Vec Ideal S2x2048x11296 .f32)
    (r : Fin 32768) (l : Fin 3072) : val_main_v25 x g w (ix2 r l) = entry x g w r ⟨2048 + l.val, by omega⟩ :=
  (slice_at 2048 3072 (val_main_v18 x g w) Cert.InprojRefIdeal.Gen.slices_S32768x11296_S32768x3072_0_2048 r l (by omega)).trans
    (reference_entry x g w r _)

open Cert.InprojRefIdeal.Read in
theorem result10 (c : Dev nD) : Pipeline.afterTail₀ cfgs (dats m) 0 (V0 m) [hostOps1] c main_v10
    = val_main_v25 (m ((c.tc : Thread nD τ).loc main_arg0)) (m ((c.tc : Thread nD τ).loc main_arg1)) (m ((c.tc : Thread nD τ).loc main_arg2)) := by
  rw [tail10]
  funext j
  idx_vars j
  refine (slice_at 0 3072 _ _ j0 j1 (by omega)).trans ?_
  refine Eq.trans ?_ (reference25 _ _ _ j0 j1).symm
  refine (array4_apply m c j0 ⟨0 + j1.val, by omega⟩ (by show (0 + j1.val) / 1024 ≠ 5; omega)).trans ?_
  exact congrArg (entry _ _ _ j0) (Fin.ext (by show columnOf (0 + j1.val) = 2048 + j1.val; unfold columnOf; split_ifs <;> omega))

open Cert.InprojRefIdeal.Read in
theorem reference21 (x : Vec Ideal S4x8192x2048 .f32) (g : Vec Ideal S2x2048 .f32) (w : Vec Ideal S2x2048x11296 .f32)
    (r : Fin 32768) (l : Fin 32) : val_main_v21 x g w (ix2 r l) = entry x g w r ⟨5120 + l.val, by omega⟩ :=
  (slice_at 5120 32 (val_main_v18 x g w) Cert.InprojRefIdeal.Gen.slices_S32768x11296_S32768x32_0_5120 r l (by omega)).trans
    (reference_entry x g w r _)

open Cert.InprojRefIdeal.Read in
theorem result11 (c : Dev nD) : Pipeline.afterTail₀ cfgs (dats m) 0 (V0 m) [hostOps1] c main_v11
    = val_main_v21 (m ((c.tc : Thread nD τ).loc main_arg0)) (m ((c.tc : Thread nD τ).loc main_arg1)) (m ((c.tc : Thread nD τ).loc main_arg2)) := by
  rw [tail11]
  funext j
  idx_vars j
  refine (slice_at 0 32 _ _ j0 j1 (by omega)).trans ?_
  refine Eq.trans ?_ (reference21 _ _ _ j0 j1).symm
  refine (array5_apply m c j0 ⟨0 + j1.val, by omega⟩ (by show 0 + j1.val < 32; omega)).trans ?_
  exact congrArg (entry _ _ _ j0) (Fin.ext (by show 5120 + (0 + j1.val) = 5120 + j1.val; omega))

open Cert.InprojRefIdeal.Read in
theorem reference26 (x : Vec Ideal S4x8192x2048 .f32) (g : Vec Ideal S2x2048 .f32) (w : Vec Ideal S2x2048x11296 .f32)
    (r : Fin 32768) (l : Fin 2048) : val_main_v26 x g w (ix2 r l) = entry x g w r ⟨5152 + l.val, by omega⟩ :=
  (slice_at 5152 2048 (val_main_v18 x g w) Cert.InprojRefIdeal.Gen.slices_S32768x11296_S32768x2048_0_5152 r l (by omega)).trans
    (reference_entry x g w r _)

open Cert.InprojRefIdeal.Read in
theorem result12 (c : Dev nD) : Pipeline.afterTail₀ cfgs (dats m) 0 (V0 m) [hostOps1] c main_v12
    = val_main_v26 (m ((c.tc : Thread nD τ).loc main_arg0)) (m ((c.tc : Thread nD τ).loc main_arg1)) (m ((c.tc : Thread nD τ).loc main_arg2)) := by
  rw [tail12]
  funext j
  idx_vars j
  refine (slice_at 6144 2048 _ _ j0 j1 (by omega)).trans ?_
  refine Eq.trans ?_ (reference26 _ _ _ j0 j1).symm
  refine (array4_apply m c j0 ⟨6144 + j1.val, by omega⟩ (by show (6144 + j1.val) / 1024 ≠ 5; omega)).trans ?_
  exact congrArg (entry _ _ _ j0) (Fin.ext (by show columnOf (6144 + j1.val) = 5152 + j1.val; unfold columnOf; split_ifs <;> omega))

open Cert.InprojRefIdeal.Read in
theorem reference27 (x : Vec Ideal S4x8192x2048 .f32) (g : Vec Ideal S2x2048 .f32) (w : Vec Ideal S2x2048x11296 .f32)
    (r : Fin 32768) (l : Fin 4096) : val_main_v27 x g w (ix2 r l) = entry x g w r ⟨7200 + l.val, by omega⟩ :=
  (slice_at 7200 4096 (val_main_v18 x g w) Cert.InprojRefIdeal.Gen.slices_S32768x11296_S32768x4096_0_7200 r l (by omega)).trans
    (reference_entry x g w r _)

open Cert.InprojRefIdeal.Read in
theorem result13 (c : Dev nD) : Pipeline.afterTail₀ cfgs (dats m) 0 (V0 m) [hostOps1] c main_v13
    = val_main_v27 (m ((c.tc : Thread nD τ).loc main_arg0)) (m ((c.tc : Thread nD τ).loc main_arg1)) (m ((c.tc : Thread nD τ).loc main_arg2)) := by
  rw [tail13]
  funext j
  idx_vars j
  refine (slice_at 8192 4096 _ _ j0 j1 (by omega)).trans ?_
  refine Eq.trans ?_ (reference27 _ _ _ j0 j1).symm
  refine (array4_apply m c j0 ⟨8192 + j1.val, by omega⟩ (by show (8192 + j1.val) / 1024 ≠ 5; omega)).trans ?_
  exact congrArg (entry _ _ _ j0) (Fin.ext (by show columnOf (8192 + j1.val) = 7200 + j1.val; unfold columnOf; split_ifs <;> omega))

end Cert.InprojIdeal.Hand
end
-- ==== Proof.InprojClaims.lean ====
/-
  The input projection's claims: its three frames, and that its idealized form computes the reference's five results.
-/
module

public import proofs.«01_k».proof.Defs
public import proofs.«01_k».proof.Proof.InprojValue
public import proofs.«01_k».proof.Proof.Gen.Inproj
public import Idealize.ShloMosaic.Lib.Quiescent

@[expose] public section

noncomputable section

open Idealize.ShloMosaic Idealize.ShloMosaic.TcCoe Idealize.SL.Sem

namespace Cert.Proof.InprojClaims

instance : Cert.Inproj.Facts := Cert.Inproj.Gen.facts
instance : Cert.InprojIdeal.Facts := Cert.InprojIdeal.Gen.facts
instance : Cert.InprojRefIdeal.Facts := Cert.InprojRefIdeal.Gen.facts

/-- The two programs run the same bodies. -/
theorem bodies : Cert.Inproj.defs₀ (F := Bits) = Cert.InprojIdeal.defs₀ (F := Bits) := by
  unfold Cert.Inproj.defs₀ Cert.InprojIdeal.defs₀
  congr 1
  funext l x
  match l, x with
  | 0, (t, s) => rfl

theorem tables : Cert.Inproj.defs (F := Bits) = Cert.InprojIdeal.defs (F := Bits) :=
  congrArg (Pipeline.defs Cert.InprojIdeal.pcfgs) bodies

/-- The kernel and its idealized form have the same text: the frame, proved once over any float values, is the kernel's too. -/
theorem frame_kernel : Cert.quiescent_Inproj := fun m ρ _ => by
  rw [tables]
  exact Cert.InprojIdeal.Hand.frame (F := Bits) m ρ

theorem frame_ideal : Cert.quiescent_InprojIdeal := fun m ρ _ => Cert.InprojIdeal.Hand.frame m ρ

theorem frame_reference : Cert.quiescent_InprojRefIdeal := fun m ρ _ =>
  (θ_run Cert.InprojRefIdeal.defs _ _).mono
    (fun r h => ⟨fun c => (h c).2.2.2.2.2, Idealize.ShloMosaic.sem_eq_zero_of_no_sems (by decide) r.2⟩)
    (Cert.InprojRefIdeal.Value.run (F := Ideal) m ρ)

theorem preserves : Cert.preserves_Inproj_InprojIdeal := trivial

section
open Cert.InprojIdeal Cert.InprojIdeal.Gen Cert.InprojIdeal.Hand

variable (m : (ℓ : Loc nD τ sig) → Buf (Elt Ideal) ℓ) (ρ : Dev nD → PrngReg)

/-- What one of the host's slices after the call ends holding. -/
theorem reads (r : PUnit × MemSt nD τ sig (Elt Ideal))
    (h : Pipeline.FramePost cfgs (dats m) 0 (Pipeline.afterTail₀ cfgs (dats m) 0 (V0 m) [hostOps1]) r) (c : Dev nD) (b : Ref sig .tc)
    (hb : b ∈ Pipeline.restRefs sig cfg0.spec) :
    r.2.mem ((c.tc : Thread nD τ).loc b) = Pipeline.afterTail₀ cfgs (dats m) 0 (V0 m) [hostOps1] c b := (h c).2 b hb
end

/-- The five results are the reference's projection, sliced, at arguments that agree. -/
theorem algebraic : Cert.algebraic_InprojIdeal_InprojRefIdeal := by
  intro m ρ m' ρ' _ hagree
  refine ⟨_, _, _, _, _, (θ_run Cert.InprojIdeal.defs _ _).mono (fun r h c =>
      ⟨(reads m r h.1 c _ (Pipeline.mem_restRefs_of Cert.InprojIdeal.main_v9 (by decide) (by decide))).trans (Cert.InprojIdeal.Hand.result9 m c),
        (reads m r h.1 c _ (Pipeline.mem_restRefs_of Cert.InprojIdeal.main_v10 (by decide) (by decide))).trans (Cert.InprojIdeal.Hand.result10 m c),
        (reads m r h.1 c _ (Pipeline.mem_restRefs_of Cert.InprojIdeal.main_v11 (by decide) (by decide))).trans (Cert.InprojIdeal.Hand.result11 m c),
        (reads m r h.1 c _ (Pipeline.mem_restRefs_of Cert.InprojIdeal.main_v12 (by decide) (by decide))).trans (Cert.InprojIdeal.Hand.result12 m c),
        (reads m r h.1 c _ (Pipeline.mem_restRefs_of Cert.InprojIdeal.main_v13 (by decide) (by decide))).trans (Cert.InprojIdeal.Hand.result13 m c),
        h.2 c⟩) (θ_run_and (Cert.InprojIdeal.Hand.run_post m ρ) (Cert.InprojIdeal.Hand.unchanged m ρ)), ?_⟩
  refine (θ_run Cert.InprojRefIdeal.defs _ _).mono (fun r h c => ?_) (Cert.InprojRefIdeal.Value.run (F := Ideal) m' ρ')
  obtain ⟨h24, h25, h21, h26, h27, hargs⟩ := h c
  obtain ⟨a0, a1, a2⟩ := hagree c
  refine ⟨h24.trans ?_, h25.trans ?_, h21.trans ?_, h26.trans ?_, h27.trans ?_, hargs⟩
  · rw [a0, a1, a2]; exact Cert.InprojRefIdeal.Read.val_main_v24_eq _ _ _
  · rw [a0, a1, a2]; exact Cert.InprojRefIdeal.Read.val_main_v25_eq _ _ _
  · rw [a0, a1, a2]; exact Cert.InprojRefIdeal.Read.val_main_v21_eq _ _ _
  · rw [a0, a1, a2]; exact Cert.InprojRefIdeal.Read.val_main_v26_eq _ _ _
  · rw [a0, a1, a2]; exact Cert.InprojRefIdeal.Read.val_main_v27_eq _ _ _

end Cert.Proof.InprojClaims

end
-- ==== Proof.FfnPoint.lean ====
/-
  The feed-forward call's stored tiles at an index, over the extended reals.

  The grid is 32 row tiles by 11 column tiles of the hidden width. At a row tile's first column tile the body normalises the rows,
  keeps them, and stores the rows plus the first products; at every later one it adds the next products to what it finds.
-/
module

public import proofs.«01_k».proof.Proof.Rows
public import proofs.«01_k».proof.Proof.Gen.FfnIdeal.Value

@[expose] public section

set_option maxRecDepth 16384

noncomputable section

namespace Cert.FfnIdeal.Hand

open Cert.FfnIdeal.Gen Cert.Proof.Rows
open Idealize.ShloMosaic Idealize.ShloMosaic.TcCoe Idealize.ShloMosaic.Tactic Idealize.ShloMosaic.Rounds

/-- The gated product of a normalised row `h` with one column of the two weights: half the gate times its logistic, times the other. -/
def gated (h a b : Fin 2048 → EReal) : EReal :=
  Ideal.ofBits .f32 0x3F000000#32 * ((∑ k, h k * a k) * Ideal.logistic (∑ k, h k * a k)) * ∑ k, h k * b k

theorem rows_upper (x : Vec Ideal S512x2048 .f32) (g : Vec Ideal S1x2048 .f32) (r : Fin 512) (k : Fin 2048) :
    k0_pay4 x g (ix2 r k) = scaled x g r k := by
  pointwise [k0_pay4, k0_pay3, scaled]

theorem rows_lower (x : Vec Ideal S512x2048 .f32) (g : Vec Ideal S1x2048 .f32) (r : Fin 512) (k : Fin 2048) :
    k0_pay8 x g (ix2 r k) = scaled x g r k := by
  pointwise [k0_pay8, k0_pay7, scaled]

/-- The sum over 512 hidden columns that a point adds at row values `h` and column `l`. -/
def products (h : Fin 2048 → EReal) (a b : Vec Ideal S1x2048x512 .bf16) (d : Vec Ideal S1x512x2048 .bf16) (l : Fin 2048) : EReal :=
  ∑ f : Fin 512, gated h (fun k => a (ix3 0 k f)) (fun k => b (ix3 0 k f)) * d (ix3 0 f l)

/-- What a row tile's first point stores at row `r` and column `l`. -/
def firstTile {n : ℕ} (x : Vec Ideal ⟨2, ![n, 2048]⟩ .f32) (g : Vec Ideal S1x2048 .f32) (a b : Vec Ideal S1x2048x512 .bf16)
    (d : Vec Ideal S1x512x2048 .bf16) (r : Fin n) (l : Fin 2048) : EReal := x (ix2 r l) + products (scaled x g r) a b d l

/-- What a later point stores, from the tile `o` and the rows `h` it finds. -/
def laterTile (o : Vec Ideal S1024x2048 .f32) (h : Vec Ideal S1024x2048 .bf16) (a b : Vec Ideal S1x2048x512 .bf16)
    (d : Vec Ideal S1x512x2048 .bf16) (r : Fin 1024) (l : Fin 2048) : EReal := o (ix2 r l) + products (fun k => h (ix2 r k)) a b d l

theorem out_upper (x : Vec Ideal S512x2048 .f32) (g : Vec Ideal S1x2048 .f32) (a b : Vec Ideal S1x2048x512 .bf16)
    (d : Vec Ideal S1x512x2048 .bf16) (r : Fin 512) (l : Fin 2048) : k0_pay6 x g a b d (ix2 r l) = firstTile x g a b d r l := by
  pointwise [k0_pay6, rows_upper, k0_pay3, gated, firstTile, products]

theorem out_lower (x : Vec Ideal S512x2048 .f32) (g : Vec Ideal S1x2048 .f32) (a b : Vec Ideal S1x2048x512 .bf16)
    (d : Vec Ideal S1x512x2048 .bf16) (r : Fin 512) (l : Fin 2048) :
    k0_pay1 (k0_pay7 x) (k0_pay10 x g a b) (k0_pay11 d) (constant S512x2048 .f32 0x00000000#32) (ix2 r l) = firstTile x g a b d r l := by
  pointwise [k0_pay1, k0_pay10, k0_pay11, rows_lower, k0_pay7, gated, firstTile, products]

theorem out_later (o : Vec Ideal S1024x2048 .f32) (h : Vec Ideal S1024x2048 .bf16) (a b : Vec Ideal S1x2048x512 .bf16)
    (d : Vec Ideal S1x512x2048 .bf16) (r : Fin 1024) (l : Fin 2048) : k0_pay2 o h a b d (ix2 r l) = laterTile o h a b d r l := by
  pointwise [k0_pay2, gated, laterTile, products]

theorem firstTile_half (x : Vec Ideal S1024x2048 .f32) (g : Vec Ideal S1x2048 .f32) (a b : Vec Ideal S1x2048x512 .bf16)
    (d : Vec Ideal S1x512x2048 .bf16) (o : ℕ) (hi) (r : Fin 512) (r' : Fin 1024) (hr : r'.val = o + r.val) (l : Fin 2048) :
    firstTile (View.ld (Val := Elt Ideal) x (Rect.unit (s := S1024x2048) ![o, 0] ![512, 2048] hi) : Vec Ideal S512x2048 .f32) g a b d r l
      = firstTile x g a b d r' l := by
  unfold firstTile
  rw [half_apply x o hi r r' hr, show scaled _ g r = scaled x g r' from funext (scaled_half x g o hi r r' hr)]

variable (m : (ℓ : Loc nD τ sig) → Buf (Elt Ideal) ℓ)

/-- The tile a row tile's first point stores: the rows plus the first 512 hidden columns' products. -/
theorem first_out (c : Dev nD) (t : Fin cfg0.N) (h0 : t.val % 11 = 0) (h1 : ¬1 ≤ t.val % 11) (r : Fin 1024) (l : Fin 2048) :
    (outsAt0 m c t.val t.isLt).1 (ix2 r l)
      = firstTile (iblk m c 0 t : Vec Ideal S1024x2048 .f32) (iblk m c 1 t) (iblk m c 2 t) (iblk m c 3 t) (iblk m c 4 t) r l := by
  rw [outsAt0_A m c t h0 h1]
  frame_out
  canon_tiles z h
  · idx_vars z
    rw [out_lower, firstTile_half _ _ _ _ _ 512 _ _ r h0]
    exact congrArg _ (Fin.ext h1.symm)
  · idx_vars z
    rw [out_upper, firstTile_half _ _ _ _ _ 0 _ _ r (h0.trans (Nat.zero_add _).symm)]
    exact congrArg _ (Fin.ext h1.symm)

/-- The rows it keeps: normalised. -/
theorem first_rows (c : Dev nD) (t : Fin cfg0.N) (h0 : t.val % 11 = 0) (h1 : ¬1 ≤ t.val % 11) (r : Fin 1024) (k : Fin 2048) :
    (outsAt0 m c t.val t.isLt).2 (ix2 r k) = scaled (iblk m c 0 t : Vec Ideal S1024x2048 .f32) (iblk m c 1 t) r k := by
  rw [outsAt0_A m c t h0 h1]
  frame_out
  canon_tiles z h
  · idx_vars z
    rw [k0_pay9, shapeCast_self, rows_lower, scaled_half (iblk m c 0 t) _ 512 _ _ r h0]
    exact congrArg _ (Fin.ext h1.symm)
  · idx_vars z
    rw [k0_pay5, shapeCast_self, rows_upper, scaled_half (iblk m c 0 t) _ 0 _ _ r (h0.trans (Nat.zero_add _).symm)]
    exact congrArg _ (Fin.ext h1.symm)

/-- The tile a later point stores, from what the point before left. -/
theorem later_out (c : Dev nD) (t : Fin cfg0.N) (h0 : ¬t.val % 11 = 0) (h1 : 1 ≤ t.val % 11) (hp : t.val - 1 < cfg0.N) (r : Fin 1024) (l : Fin 2048) :
    (outsAt0 m c t.val t.isLt).1 (ix2 r l)
      = laterTile (outsAt0 m c (t.val - 1) hp).1 (outsAt0 m c (t.val - 1) hp).2 (iblk m c 2 t) (iblk m c 3 t) (iblk m c 4 t) r l := by
  rw [outsAt0_B m c t h0 h1]
  frame_out
  rw [(Memref.isWhole_whole cc0_scratch0).read_unread]
  exact out_later _ _ _ _ _ r l

/-- A later point keeps the normalised rows. -/
theorem later_rows (c : Dev nD) (t : Fin cfg0.N) (h0 : ¬t.val % 11 = 0) (h1 : 1 ≤ t.val % 11) (hp : t.val - 1 < cfg0.N) :
    (outsAt0 m c t.val t.isLt).2 = (outsAt0 m c (t.val - 1) hp).2 := by
  rw [outsAt0_B m c t h0 h1]
  rfl

end Cert.FfnIdeal.Hand
end
-- ==== Proof.FfnValue.lean ====
/-
  The feed-forward call's result array, over the extended reals, and the reference's.

  By induction along a row tile's points, the output block holds the rows plus the products of the hidden columns so far
  (`after_point`); after the eleventh point these are all 5632 columns (`array5`). The kernel halves each gate and the reference
  halves the sum: one half is a nonnegative real, so it comes out of the sum (`Rows.half_sum`).
-/
module

public import proofs.«01_k».proof.Proof.FfnPoint
public import proofs.«01_k».proof.Proof.Gen.FfnRefIdeal.Read

@[expose] public section

set_option maxRecDepth 16384

noncomputable section

namespace Cert.FfnIdeal.Hand

open Cert.FfnIdeal.Gen Cert.Proof.Rows
open Idealize.ShloMosaic Idealize.ShloMosaic.TcCoe Idealize.ShloMosaic.Tactic Idealize.ShloMosaic.Rounds
open Idealize.ShloMosaic.Pipeline (Dat Cfg Window)

/-- Hidden column `n`'s contribution to row `r` and result column `l`; zero past the last hidden column. -/
def column (x : Vec Ideal S32768x2048 .f32) (g : Vec Ideal S1x2048 .f32) (a b : Vec Ideal S2x2048x5632 .bf16) (d : Vec Ideal S2x5632x2048 .bf16)
    (r : Fin 32768) (l : Fin 2048) (n : ℕ) : EReal :=
  if h : n < 5632 then gated (scaled x g r) (fun k => a (ix3 0 k ⟨n, h⟩)) (fun k => b (ix3 0 k ⟨n, h⟩)) * d (ix3 0 ⟨n, h⟩ l) else 0

/-- The feed-forward result: the rows plus every hidden column's contribution. -/
def fed (x : Vec Ideal S32768x2048 .f32) (g : Vec Ideal S1x2048 .f32) (a b : Vec Ideal S2x2048x5632 .bf16) (d : Vec Ideal S2x5632x2048 .bf16)
    : Vec Ideal S32768x2048 .f32 :=
  fun i => (x (ix2 (i 0) (i 1)) : EReal) + ∑ n : Fin 5632, column x g a b d (i 0) (i 1) n.val

/-- The rows plus the first `q` groups of 512 hidden columns' contributions. -/
def sofar (x : Vec Ideal S32768x2048 .f32) (g : Vec Ideal S1x2048 .f32) (a b : Vec Ideal S2x2048x5632 .bf16) (d : Vec Ideal S2x5632x2048 .bf16)
    (r : Fin 32768) (l : Fin 2048) (q : ℕ) : EReal :=
  x (ix2 r l) + ∑ j ∈ Finset.range q, ∑ f : Fin 512, column x g a b d r l (j * 512 + f.val)

variable (m : (ℓ : Loc nD τ sig) → Buf (Elt Ideal) ℓ)

theorem index0 : ∀ t : Fin cfg0.N, win0_0.index t (0 : Fin 2) = t.val / 11 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = t.val % 11 :=
  (by decide +kernel : ∀ t : Fin grid0.N, _)
theorem index3 : ∀ t : Fin cfg0.N, win0_3.index t (0 : Fin 3) = 0 ∧ win0_3.index t (1 : Fin 3) = 0 ∧ win0_3.index t (2 : Fin 3) = t.val % 11 :=
  (by decide +kernel : ∀ t : Fin grid0.N, _)
theorem index4 : ∀ t : Fin cfg0.N, win0_4.index t (0 : Fin 3) = 0 ∧ win0_4.index t (1 : Fin 3) = t.val % 11 ∧ win0_4.index t (2 : Fin 3) = 0 :=
  (by decide +kernel : ∀ t : Fin grid0.N, _)
theorem index5 : ∀ t : Fin cfg0.N, win0_5.index t (0 : Fin 2) = t.val / 11 ∧ win0_5.index t (1 : Fin 2) = 0 :=
  (by decide +kernel : ∀ t : Fin grid0.N, _)

theorem block0 (c : Dev nD) (t : Fin cfg0.N) (r : Fin 1024) (k : Fin 2048) (i : Fin 32768) (hi : i.val = 1024 * (t.val / 11) + r.val) :
    (iblk m c 0 t : Vec Ideal S1024x2048 .f32) (ix2 r k) = (V m c main_v0 : Vec Ideal S32768x2048 .f32) (ix2 i k) := by
  blk_ext [iblk, index0 t]
theorem block1 (c : Dev nD) (t : Fin cfg0.N) (k : Fin 2048) :
    (iblk m c 1 t : Vec Ideal S1x2048 .f32) (ix2 0 k) = (V m c main_v3 : Vec Ideal S1x2048 .f32) (ix2 0 k) := by
  blk_ext [iblk, index1 t]
theorem block2 (c : Dev nD) (t : Fin cfg0.N) (k : Fin 2048) (f : Fin 512) (n : Fin 5632) (hn : n.val = 512 * (t.val % 11) + f.val) :
    (iblk m c 2 t : Vec Ideal S1x2048x512 .bf16) (ix3 0 k f) = (V m c main_v4 : Vec Ideal S2x2048x5632 .bf16) (ix3 0 k n) := by
  blk_ext [iblk, index2 t]
theorem block3 (c : Dev nD) (t : Fin cfg0.N) (k : Fin 2048) (f : Fin 512) (n : Fin 5632) (hn : n.val = 512 * (t.val % 11) + f.val) :
    (iblk m c 3 t : Vec Ideal S1x2048x512 .bf16) (ix3 0 k f) = (V m c main_v5 : Vec Ideal S2x2048x5632 .bf16) (ix3 0 k n) := by
  blk_ext [iblk, index3 t]
theorem block4 (c : Dev nD) (t : Fin cfg0.N) (f : Fin 512) (l : Fin 2048) (n : Fin 5632) (hn : n.val = 512 * (t.val % 11) + f.val) :
    (iblk m c 4 t : Vec Ideal S1x512x2048 .bf16) (ix3 0 f l) = (V m c main_v6 : Vec Ideal S2x5632x2048 .bf16) (ix3 0 n l) := by
  blk_ext [iblk, index4 t]

/-- A row of a tile, normalised, is the array's row normalised. -/
theorem scaled_block (c : Dev nD) (t : Fin cfg0.N) (r : Fin 1024) (i : Fin 32768) (hi : i.val = 1024 * (t.val / 11) + r.val) :
    scaled (iblk m c 0 t : Vec Ideal S1024x2048 .f32) (iblk m c 1 t) r = scaled (V m c main_v0 : Vec Ideal S32768x2048 .f32) (V m c main_v3) i :=
  funext (scaled_congr _ _ _ _ _ _ (fun k => block0 m c t r k i hi) (fun k => block1 m c t k))

/-- A point's products are its 512 hidden columns' contributions. -/
theorem products_block (c : Dev nD) (t : Fin cfg0.N) (i : Fin 32768) (l : Fin 2048) :
    products (scaled (V m c main_v0 : Vec Ideal S32768x2048 .f32) (V m c main_v3) i) (iblk m c 2 t) (iblk m c 3 t) (iblk m c 4 t) l
      = ∑ f : Fin 512, column (V m c main_v0) (V m c main_v3) (V m c main_v4) (V m c main_v5) (V m c main_v6) i l (t.val % 11 * 512 + f.val) := by
  unfold products
  refine sum_ext _ _ fun f => ?_
  have hn : t.val % 11 * 512 + f.val < 5632 := by have := f.isLt; omega
  unfold column
  rw [dif_pos hn]
  have e : (⟨t.val % 11 * 512 + f.val, hn⟩ : Fin 5632).val = 512 * (t.val % 11) + f.val := by show t.val % 11 * 512 + f.val = _; omega
  simp only [fun k => block2 m c t k f _ e, fun k => block3 m c t k f _ e, block4 m c t f l _ e]

/-- What a row tile's output block and kept rows hold after a point. -/
theorem after_point (c : Dev nD) (r : Fin 1024) : ∀ (n : ℕ) (hn : n < cfg0.N) (i : Fin 32768), i.val = 1024 * (n / 11) + r.val →
    (∀ l : Fin 2048, (outsAt0 m c n hn).1 (ix2 r l)
      = sofar (V m c main_v0) (V m c main_v3) (V m c main_v4) (V m c main_v5) (V m c main_v6) i l (n % 11 + 1))
    ∧ (fun k => (outsAt0 m c n hn).2 (ix2 r k)) = scaled (V m c main_v0 : Vec Ideal S32768x2048 .f32) (V m c main_v3) i := by
  intro n
  induction n with
  | zero =>
    intro hn i hi
    refine ⟨fun l => ?_, funext fun k => ?_⟩
    · refine (first_out m c ⟨0, hn⟩ rfl (by simp) r l).trans ?_
      unfold firstTile
      rw [scaled_block m c ⟨0, hn⟩ r i hi, products_block, block0 m c ⟨0, hn⟩ r l i hi]
      unfold sofar
      rw [Nat.zero_mod, Finset.sum_range_one]
    · exact (first_rows m c ⟨0, hn⟩ rfl (by simp) r k).trans (congrFun (scaled_block m c ⟨0, hn⟩ r i hi) k)
  | succ n ih =>
    intro hn i hi
    by_cases h0 : (n + 1) % 11 = 0
    · refine ⟨fun l => ?_, funext fun k => ?_⟩
      · refine (first_out m c ⟨n + 1, hn⟩ h0 (by show ¬1 ≤ (n + 1) % 11; omega) r l).trans ?_
        unfold firstTile
        rw [scaled_block m c ⟨n + 1, hn⟩ r i hi, products_block, block0 m c ⟨n + 1, hn⟩ r l i hi]
        unfold sofar
        simp only [h0]
        rw [Finset.sum_range_one]
      · exact (first_rows m c ⟨n + 1, hn⟩ h0 (by show ¬1 ≤ (n + 1) % 11; omega) r k).trans
          (congrFun (scaled_block m c ⟨n + 1, hn⟩ r i hi) k)
    · have hp : n < cfg0.N := Nat.lt_of_succ_lt hn
      have h1 : 1 ≤ (n + 1) % 11 := by omega
      obtain ⟨ho, hr⟩ := ih hp i (by rw [hi]; omega)
      refine ⟨fun l => ?_, ?_⟩
      · refine (later_out m c ⟨n + 1, hn⟩ h0 h1 hp r l).trans ?_
        unfold laterTile
        rw [show (fun k => (outsAt0 m c ((⟨n + 1, hn⟩ : Fin cfg0.N).val - 1) hp).2 (ix2 r k)) = _ from hr, products_block]
        refine (congrArg (fun z : EReal => z + _) (ho l)).trans ?_
        unfold sofar
        rw [add_assoc, show n % 11 + 1 = (n + 1) % 11 by omega, ← Finset.sum_range_succ]
      · exact (congrArg (fun z : Vec Ideal S1024x2048 .bf16 => fun k => z (ix2 r k)) (later_rows m c ⟨n + 1, hn⟩ h0 h1 hp)).trans hr

theorem array5 (c : Dev nD) : (dats m 0 c).arrAt 5 cfg0.N
    = fed (V m c main_v0) (V m c main_v3) (V m c main_v4) (V m c main_v5) (V m c main_v6) := by
  refine (dats m 0 c).arrAt_eq_of_covers 5 _ (by decide +kernel) (fun t hf y => ?_)
  blk_simp
  rw [after0_5]
  idx_vars y
  have h0 : (((win0_5.blk t).view.emb (ix2 y0 y1)) (0 : Fin 2) : ℕ) = 1024 * (t.val / 11) + y0.val := by
    blk_simp [index5 t]; omega
  have h1 : (((win0_5.blk t).view.emb (ix2 y0 y1)) (1 : Fin 2) : ℕ) = y1.val := by
    blk_simp [index5 t]
  have e1 : ((win0_5.blk t).view.emb (ix2 y0 y1)) (1 : Fin 2) = y1 := Fin.ext h1
  refine ((after_point m c y0 t.val t.isLt _ h0).1 y1).trans ?_
  unfold fed sofar
  rw [e1, (flush0_5 t).mp hf]
  refine congrArg (fun z : EReal => _ + z) ?_
  rw [Finset.sum_range]
  exact Fin.sum_mul_add_congr fun s f hl => rfl

theorem entry0 (c : Dev nD) : (V m c main_v0 : Vec Ideal S32768x2048 .f32) = flat (m ((c.tc : Thread nD τ).loc main_arg0)) := by
  unfold V
  simp only [hostOps0, List.flatten_cons, List.flatten_nil, List.append_nil, List.cons_append, List.nil_append]
  after_results
  funext j
  idx_vars j
  pointwise [flat]
theorem entry3 (c : Dev nD) : (V m c main_v3 : Vec Ideal S1x2048 .f32) = gain (m ((c.tc : Thread nD τ).loc main_arg1)) := by
  unfold V
  simp only [hostOps0, List.flatten_cons, List.flatten_nil, List.append_nil, List.cons_append, List.nil_append]
  after_results
  funext j
  idx_vars j
  pointwise [gain]
theorem entry4 (c : Dev nD) : (V m c main_v4 : Vec Ideal S2x2048x5632 .bf16) = m ((c.tc : Thread nD τ).loc main_arg2) := by
  unfold V
  simp only [hostOps0, List.flatten_cons, List.flatten_nil, List.append_nil, List.cons_append, List.nil_append]
  after_results
  funext j
  pointwise []
theorem entry5 (c : Dev nD) : (V m c main_v5 : Vec Ideal S2x2048x5632 .bf16) = m ((c.tc : Thread nD τ).loc main_arg3) := by
  unfold V
  simp only [hostOps0, List.flatten_cons, List.flatten_nil, List.append_nil, List.cons_append, List.nil_append]
  after_results
  funext j
  pointwise []
theorem entry6 (c : Dev nD) : (V m c main_v6 : Vec Ideal S2x5632x2048 .bf16) = m ((c.tc : Thread nD τ).loc main_arg4) := by
  unfold V
  simp only [hostOps0, List.flatten_cons, List.flatten_nil, List.append_nil, List.cons_append, List.nil_append]
  after_results
  funext j
  pointwise []

open Cert.FfnRefIdeal.Read in
/-- The reference's hidden entry. -/
theorem reference_hidden (x : Vec Ideal S4x8192x2048 .f32) (g : Vec Ideal S2x2048 .f32) (a b : Vec Ideal S2x2048x5632 .f32)
    (r : Fin 32768) (n : Fin 5632) : (val_main_v23 x g a b (ix2 r n) : EReal)
      = ((∑ k, scaled (flat x) (gain g) r k * a (ix3 0 k n)) * Ideal.logistic (∑ k, scaled (flat x) (gain g) r k * a (ix3 0 k n)))
        * ∑ k, scaled (flat x) (gain g) r k * b (ix3 0 k n) := by
  pointwise [val_main_v23, val_main_v22, val_main_v21, val_main_v20, val_main_v19, val_main_call0_v0, val_main_call0_v1, val_main_call0_v2,
    val_main_call0_v3, val_main_call0_v4, val_main_call0_v5, val_main_call0_cst, val_main_call0_cst_0,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, scaled, flat, gain, Ideal.logistic]

open Cert.FfnRefIdeal.Read in
/-- The reference's result: the rows plus half the sum of hidden entries times weights. -/
theorem reference_result (x : Vec Ideal S4x8192x2048 .f32) (g : Vec Ideal S2x2048 .f32) (a b : Vec Ideal S2x2048x5632 .f32)
    (d : Vec Ideal S2x5632x2048 .f32) (r : Fin 32768) (l : Fin 2048) : (val_main_v29 x g a b d (ix2 r l) : EReal)
      = (flat x (ix2 r l) : EReal) + Ideal.ofBits .f32 0x3F000000#32 * ∑ n : Fin 5632, (val_main_v23 x g a b (ix2 r n) : EReal) * d (ix3 0 n l) := by
  pointwise [val_main_v29, val_main_v28, val_main_v27, val_main_v26, val_main_v25, val_main_v24, val_main_cst_2, val_main_v0, flat]

open Cert.FfnRefIdeal.Read in
theorem result (c : Dev nD) : (dats m 0 c).arrAt 5 cfg0.N
    = val_main_v29 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [array5, entry0, entry3, entry4, entry5, entry6]
  funext j
  idx_vars j
  refine Eq.trans ?_ (reference_result _ _ _ _ _ j0 j1).symm
  unfold fed
  refine congrArg (fun z : EReal => _ + z) ?_
  rw [half_sum]
  refine sum_ext _ _ fun n => ?_
  rw [reference_hidden]
  unfold column
  rw [dif_pos n.isLt]
  unfold gated
  simp only [mul_assoc]
  rfl

end Cert.FfnIdeal.Hand
end
-- ==== Proof.FfnClaims.lean ====
/-
  The feed-forward call's claims: its three frames, and that its idealized form computes the reference's result.
-/
module

public import proofs.«01_k».proof.Defs
public import proofs.«01_k».proof.Proof.FfnValue
public import proofs.«01_k».proof.Proof.Gen.Ffn.Frame
public import Idealize.ShloMosaic.Lib.Quiescent

@[expose] public section

noncomputable section

open Idealize.ShloMosaic Idealize.ShloMosaic.TcCoe Idealize.SL.Sem

namespace Cert.Proof.FfnClaims

instance : Cert.Ffn.Facts := Cert.Ffn.Gen.facts
instance : Cert.FfnIdeal.Facts := Cert.FfnIdeal.Gen.facts
instance : Cert.FfnRefIdeal.Facts := Cert.FfnRefIdeal.Gen.facts

theorem frame_kernel : Cert.quiescent_Ffn := fun m ρ _ => Cert.Ffn.Gen.frame m ρ

theorem frame_ideal : Cert.quiescent_FfnIdeal := fun m ρ _ => Cert.FfnIdeal.Gen.frame m ρ

theorem frame_reference : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem preserves : Cert.preserves_Ffn_FfnIdeal := trivial

/-- The result is the reference's, at arguments that agree. -/
theorem algebraic : Cert.algebraic_FfnIdeal_FfnRefIdeal := by
  intro m ρ m' ρ' _ hagree
  refine ⟨_, (θ_run Cert.FfnIdeal.defs _ _).mono (fun r h c =>
    ⟨(h c).1.trans (Cert.FfnIdeal.Hand.result m c), (h c).2⟩) (Cert.FfnIdeal.Value.run_blocks (F := Ideal) m ρ), ?_⟩
  refine (θ_run Cert.FfnRefIdeal.defs _ _).mono (fun r h c => ?_) (Cert.FfnRefIdeal.Value.run (F := Ideal) m' ρ')
  obtain ⟨hres, hargs⟩ := h c
  obtain ⟨a0, a1, a2, a3, a4⟩ := hagree c
  refine ⟨hres.trans ?_, hargs⟩
  rw [Cert.FfnRefIdeal.Read.val_main_v29_eq m' c, a0, a1, a2, a3, a4]

end Cert.Proof.FfnClaims

end
-- ==== Proof.PlePoint.lean ====
/-
  The last call's stored tile at an index, over the extended reals.

  A point takes 512 rows, in two halves: it adds to the rows their embeddings' projection times the logistic of the gate, and
  normalises the sum with the final gain.
-/
module

public import proofs.«01_k».proof.Proof.Rows
public import proofs.«01_k».proof.Proof.Gen.PleIdeal.Value

@[expose] public section

set_option maxRecDepth 16384

noncomputable section

namespace Cert.PleIdeal.Hand

open Cert.PleIdeal.Gen Cert.Proof.Rows
open Idealize.ShloMosaic Idealize.ShloMosaic.TcCoe Idealize.ShloMosaic.Tactic Idealize.ShloMosaic.Rounds

/-- A row with its gated embedding added. -/
def mixed {n : ℕ} (x : Vec Ideal ⟨2, ![n, 2048]⟩ .f32) (e : Vec Ideal ⟨3, ![1, n, 256]⟩ .f32) (g : Vec Ideal S1x2048 .f32)
    (w : Vec Ideal S1x2048x2048 .bf16) (p : Vec Ideal S1x256x2048 .bf16) (r : Fin n) (l : Fin 2048) : EReal :=
  x (ix2 r l) + (∑ k : Fin 256, e (ix3 0 r k) * p (ix3 0 k l)) * Ideal.logistic (∑ k : Fin 2048, scaled x g r k * w (ix3 0 k l))

/-- The stored entry: the mixed row normalised, times the final gain. -/
def tile {n : ℕ} (x : Vec Ideal ⟨2, ![n, 2048]⟩ .f32) (e : Vec Ideal ⟨3, ![1, n, 256]⟩ .f32) (g : Vec Ideal S1x2048 .f32)
    (w : Vec Ideal S1x2048x2048 .bf16) (p : Vec Ideal S1x256x2048 .bf16) (f : Vec Ideal S1x2048 .f32) (r : Fin n) (l : Fin 2048) : EReal :=
  normalised (mixed x e g w p r) l * f (ix2 0 l)

theorem mixed_lower (x : Vec Ideal S256x2048 .f32) (e : Vec Ideal S1x256x256 .f32) (g : Vec Ideal S1x2048 .f32)
    (w : Vec Ideal S1x2048x2048 .bf16) (p : Vec Ideal S1x256x2048 .bf16) (r : Fin 256) (l : Fin 2048) :
    k0_pay2 x g e p w (ix2 r l) = mixed x e g w p r l := by
  pointwise [k0_pay2, mixed, scaled]

theorem mixed_upper (x : Vec Ideal S256x2048 .f32) (e : Vec Ideal S1x256x256 .f32) (g : Vec Ideal S1x2048 .f32)
    (w : Vec Ideal S1x2048x2048 .bf16) (p : Vec Ideal S1x256x2048 .bf16) (r : Fin 256) (l : Fin 2048) :
    k0_pay6 x g e p w (ix2 r l) = mixed x e g w p r l := by
  pointwise [k0_pay6, mixed, scaled]

theorem lower (x : Vec Ideal S256x2048 .f32) (e : Vec Ideal S1x256x256 .f32) (g f : Vec Ideal S1x2048 .f32)
    (w : Vec Ideal S1x2048x2048 .bf16) (p : Vec Ideal S1x256x2048 .bf16) (r : Fin 256) (l : Fin 2048) :
    k0_pay5 (k0_pay2 x g e p w) (k0_pay3 f) (k0_pay4 x g e p w) (Scalar.ofBits (F := Ideal) .f32 0x358637BD#32) (ix2 r l)
      = tile x e g w p f r l := by
  pointwise [k0_pay5, k0_pay4, k0_pay3, mixed_lower, tile, normalised]

theorem upper (x : Vec Ideal S256x2048 .f32) (e : Vec Ideal S1x256x256 .f32) (g f : Vec Ideal S1x2048 .f32)
    (w : Vec Ideal S1x2048x2048 .bf16) (p : Vec Ideal S1x256x2048 .bf16) (r : Fin 256) (l : Fin 2048) :
    k0_pay1 (k0_pay6 x g e p w) f (ix2 r l) = tile x e g w p f r l := by
  pointwise [k0_pay1, mixed_upper, tile, normalised]

theorem rows_half (x : Vec Ideal S512x2048 .f32) (o : ℕ) (hi) (r : Fin 256) (r' : Fin 512) (hr : r'.val = o + r.val) (k : Fin 2048) :
    (View.ld (Val := Elt Ideal) x (Rect.unit (s := S512x2048) ![o, 0] ![256, 2048] hi) : Vec Ideal S256x2048 .f32) (ix2 r k) = x (ix2 r' k) :=
  View.ld_unit_apply_of x _ _ hi _ _ fun a => by
    fin_cases a
    · exact hr
    · exact (Nat.zero_add _).symm

theorem embed_half (e : Vec Ideal S1x512x256 .f32) (o : ℕ) (hi) (r : Fin 256) (r' : Fin 512) (hr : r'.val = o + r.val) (k : Fin 256) :
    (View.ld (Val := Elt Ideal) e (Rect.unit (s := S1x512x256) ![0, o, 0] ![1, 256, 256] hi) : Vec Ideal S1x256x256 .f32) (ix3 0 r k)
      = e (ix3 0 r' k) :=
  View.ld_unit_apply_of e _ _ hi _ _ fun a => by
    fin_cases a
    · rfl
    · exact hr
    · exact (Nat.zero_add _).symm

/-- Rows, embeddings, gains and weights that agree at a row are mixed alike. -/
theorem mixed_congr {n n' : ℕ} (x : Vec Ideal ⟨2, ![n, 2048]⟩ .f32) (x' : Vec Ideal ⟨2, ![n', 2048]⟩ .f32)
    (e : Vec Ideal ⟨3, ![1, n, 256]⟩ .f32) (e' : Vec Ideal ⟨3, ![1, n', 256]⟩ .f32) (g g' : Vec Ideal S1x2048 .f32)
    (w w' : Vec Ideal S1x2048x2048 .bf16) (p p' : Vec Ideal S1x256x2048 .bf16) (r : Fin n) (r' : Fin n')
    (hx : ∀ k, x (ix2 r k) = x' (ix2 r' k)) (he : ∀ k, e (ix3 0 r k) = e' (ix3 0 r' k)) (hg : ∀ k, g (ix2 0 k) = g' (ix2 0 k))
    (hw : ∀ k l, w (ix3 0 k l) = w' (ix3 0 k l)) (hp : ∀ k l, p (ix3 0 k l) = p' (ix3 0 k l)) :
    mixed x e g w p r = mixed x' e' g' w' p' r' := by
  funext l
  unfold mixed
  simp only [hx, he, hw, hp, show scaled x g r = scaled x' g' r' from funext (scaled_congr x x' g g' r r' hx hg)]

/-- A half of the tile's rows and embeddings is mixed as the tile is. -/
theorem mixed_half (x : Vec Ideal S512x2048 .f32) (e : Vec Ideal S1x512x256 .f32) (g : Vec Ideal S1x2048 .f32)
    (w : Vec Ideal S1x2048x2048 .bf16) (p : Vec Ideal S1x256x2048 .bf16) (o : ℕ) (hi hj) (r : Fin 256) (r' : Fin 512)
    (hr : r'.val = o + r.val) :
    mixed (View.ld (Val := Elt Ideal) x (Rect.unit (s := S512x2048) ![o, 0] ![256, 2048] hi) : Vec Ideal S256x2048 .f32)
      (View.ld (Val := Elt Ideal) e (Rect.unit (s := S1x512x256) ![0, o, 0] ![1, 256, 256] hj) : Vec Ideal S1x256x256 .f32) g w p r
      = mixed x e g w p r' :=
  mixed_congr _ _ _ _ _ _ _ _ _ _ _ _ (rows_half x o hi r r' hr) (embed_half e o hj r r' hr) (fun _ => rfl) (fun _ _ => rfl)
    (fun _ _ => rfl)

/-- What a point stores. -/
theorem out_apply (x : Vec Ideal S512x2048 .f32) (e : Vec Ideal S1x512x256 .f32) (g : Vec Ideal S1x2048 .f32)
    (w : Vec Ideal S1x2048x2048 .bf16) (p : Vec Ideal S1x256x2048 .bf16) (f : Vec Ideal S1x2048 .f32) (r : Fin 512) (l : Fin 2048) :
    out0_6 x e g w p f (ix2 r l) = tile x e g w p f r l := by
  frame_out
  canon_tiles z h
  · idx_vars z
    rw [upper, tile, mixed_half x e g w p 256 _ _ _ r h0]
    exact congrArg (tile x e g w p f r) (Fin.ext h1.symm)
  · idx_vars z
    rw [lower, tile, mixed_half x e g w p 0 _ _ _ r (h0.trans (Nat.zero_add _).symm)]
    exact congrArg (tile x e g w p f r) (Fin.ext h1.symm)

end Cert.PleIdeal.Hand
end
-- ==== Proof.PleValue.lean ====
/-
  The last call's result array, over the extended reals, and the reference's.
-/
module

public import proofs.«01_k».proof.Proof.PlePoint
public import proofs.«01_k».proof.Proof.Gen.PleRefIdeal.Read

@[expose] public section

set_option maxRecDepth 16384

noncomputable section

namespace Cert.PleIdeal.Hand

open Cert.PleIdeal.Gen Cert.Proof.Rows
open Idealize.ShloMosaic Idealize.ShloMosaic.TcCoe Idealize.ShloMosaic.Tactic Idealize.ShloMosaic.Rounds
open Idealize.ShloMosaic.Pipeline (Dat Cfg Window)

/-- A layer's part of an array of both. -/
def layer {a b : ℕ} {t : EltTy} (n : Fin 2) (x : Vec Ideal ⟨3, ![2, a, b]⟩ t) : Vec Ideal ⟨3, ![1, a, b]⟩ t := fun i => x (ix3 n (i 1) (i 2))

/-- The embeddings with their rows as one array of 32768. -/
def flatEmbed (e : Vec Ideal S2x4x8192x256 .f32) : Vec Ideal S2x32768x256 .f32 := fun i =>
  e (ix4 (i 0) ⟨(i 1).val / 8192, Nat.div_lt_of_lt_mul (i 1).isLt⟩ ⟨(i 1).val % 8192, Nat.mod_lt _ (by decide)⟩ (i 2))

/-- The second layer's gain. -/
def gain2 (g : Vec Ideal S2x2048 .f32) : Vec Ideal S1x2048 .f32 := fun i => g (ix2 1 (i 1))

/-- The final gain, as one row. -/
def gainF (f : Vec Ideal S2048 .f32) : Vec Ideal S1x2048 .f32 := fun i => f (ix1 (i 1))

/-- The result array of the entry arrays. -/
def finished (x : Vec Ideal S32768x2048 .f32) (e : Vec Ideal S2x32768x256 .f32) (g : Vec Ideal S1x2048 .f32) (w : Vec Ideal S2x2048x2048 .bf16)
    (p : Vec Ideal S2x256x2048 .bf16) (f : Vec Ideal S1x2048 .f32) : Vec Ideal S32768x2048 .f32 :=
  fun i => tile x (layer 1 e) g (layer 1 w) (layer 1 p) f (i 0) (i 1)

variable (m : (ℓ : Loc nD τ sig) → Buf (Elt Ideal) ℓ)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 1 ∧ win0_1.index t (1 : Fin 3) = t.val ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = 1 ∧ win0_3.index t (1 : Fin 3) = 0 ∧ win0_3.index t (2 : Fin 3) = 0 :=
  (by decide +kernel : ∀ t : Fin grid0.N, _)
theorem index4 : ∀ t : Fin cfg0.N, win0_4.index t (0 : Fin 3) = 1 ∧ win0_4.index t (1 : Fin 3) = 0 ∧ win0_4.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

theorem block0 (c : Dev nD) (t : Fin cfg0.N) (r : Fin 512) (k : Fin 2048) (i : Fin 32768) (hi : i.val = 512 * t.val + r.val) :
    (iblk m c 0 t : Vec Ideal S512x2048 .f32) (ix2 r k) = (V m c main_v0 : Vec Ideal S32768x2048 .f32) (ix2 i k) := by
  blk_ext [iblk, index0 t]
theorem block1 (c : Dev nD) (t : Fin cfg0.N) (r : Fin 512) (k : Fin 256) (i : Fin 32768) (hi : i.val = 512 * t.val + r.val) :
    (iblk m c 1 t : Vec Ideal S1x512x256 .f32) (ix3 0 r k) = (V m c main_v1 : Vec Ideal S2x32768x256 .f32) (ix3 1 i k) := by
  blk_ext [iblk, index1 t]
theorem block2 (c : Dev nD) (t : Fin cfg0.N) (k : Fin 2048) :
    (iblk m c 2 t : Vec Ideal S1x2048 .f32) (ix2 0 k) = (V m c main_v4 : Vec Ideal S1x2048 .f32) (ix2 0 k) := by
  blk_ext [iblk, index2 t]
theorem block3 (c : Dev nD) (t : Fin cfg0.N) (k l : Fin 2048) :
    (iblk m c 3 t : Vec Ideal S1x2048x2048 .bf16) (ix3 0 k l) = (V m c main_v5 : Vec Ideal S2x2048x2048 .bf16) (ix3 1 k l) := by
  blk_ext [iblk, index3 t]
theorem block4 (c : Dev nD) (t : Fin cfg0.N) (k : Fin 256) (l : Fin 2048) :
    (iblk m c 4 t : Vec Ideal S1x256x2048 .bf16) (ix3 0 k l) = (V m c main_v6 : Vec Ideal S2x256x2048 .bf16) (ix3 1 k l) := by
  blk_ext [iblk, index4 t]
theorem block5 (c : Dev nD) (t : Fin cfg0.N) (k : Fin 2048) :
    (iblk m c 5 t : Vec Ideal S1x2048 .f32) (ix2 0 k) = (V m c main_v7 : Vec Ideal S1x2048 .f32) (ix2 0 k) := by
  blk_ext [iblk, index5 t]

theorem array6 (c : Dev nD) : (dats m 0 c).arrAt 6 cfg0.N
    = finished (V m c main_v0) (V m c main_v1) (V m c main_v4) (V m c main_v5) (V m c main_v6) (V m c main_v7) := by
  refine (dats m 0 c).arrAt_eq_of_covers 6 _ (by decide +kernel) (fun t hf y => ?_)
  blk_simp
  rw [after0_6]
  idx_vars y
  have h0 : (((win0_6.blk t).view.emb (ix2 y0 y1)) (0 : Fin 2) : ℕ) = 512 * t.val + y0.val := by
    blk_simp [index6 t]; omega
  have h1 : (((win0_6.blk t).view.emb (ix2 y0 y1)) (1 : Fin 2) : ℕ) = y1.val := by
    blk_simp [index6 t]
  have e1 : ((win0_6.blk t).view.emb (ix2 y0 y1)) (1 : Fin 2) = y1 := Fin.ext h1
  refine (out_apply _ _ _ _ _ _ y0 y1).trans ?_
  unfold finished
  unfold tile
  rw [e1, block5]
  exact congrArg (normalised · y1 * _) (mixed_congr _ _ _ _ _ _ _ _ _ _ _ _ (fun k => block0 m c t y0 k _ h0)
    (fun k => block1 m c t y0 k _ h0) (block2 m c t) (block3 m c t) (block4 m c t))

theorem entry0 (c : Dev nD) : (V m c main_v0 : Vec Ideal S32768x2048 .f32) = flat (m ((c.tc : Thread nD τ).loc main_arg0)) := by
  unfold V
  simp only [hostOps0, List.flatten_cons, List.flatten_nil, List.append_nil, List.cons_append, List.nil_append]
  after_results
  funext j
  idx_vars j
  pointwise [flat]
theorem entry1 (c : Dev nD) : (V m c main_v1 : Vec Ideal S2x32768x256 .f32) = flatEmbed (m ((c.tc : Thread nD τ).loc main_arg1)) := by
  unfold V
  simp only [hostOps0, List.flatten_cons, List.flatten_nil, List.append_nil, List.cons_append, List.nil_append]
  after_results
  funext j
  idx_vars j
  pointwise [flatEmbed]
theorem entry4 (c : Dev nD) : (V m c main_v4 : Vec Ideal S1x2048 .f32) = gain2 (m ((c.tc : Thread nD τ).loc main_arg2)) := by
  unfold V
  simp only [hostOps0, List.flatten_cons, List.flatten_nil, List.append_nil, List.cons_append, List.nil_append]
  after_results
  funext j
  idx_vars j
  pointwise [gain2]
theorem entry5 (c : Dev nD) : (V m c main_v5 : Vec Ideal S2x2048x2048 .bf16) = m ((c.tc : Thread nD τ).loc main_arg3) := by
  unfold V
  simp only [hostOps0, List.flatten_cons, List.flatten_nil, List.append_nil, List.cons_append, List.nil_append]
  after_results
  funext j
  pointwise []
theorem entry6 (c : Dev nD) : (V m c main_v6 : Vec Ideal S2x256x2048 .bf16) = m ((c.tc : Thread nD τ).loc main_arg4) := by
  unfold V
  simp only [hostOps0, List.flatten_cons, List.flatten_nil, List.append_nil, List.cons_append, List.nil_append]
  after_results
  funext j
  pointwise []
theorem entry7 (c : Dev nD) : (V m c main_v7 : Vec Ideal S1x2048 .f32) = gainF (m ((c.tc : Thread nD τ).loc main_arg5)) := by
  unfold V
  simp only [hostOps0, List.flatten_cons, List.flatten_nil, List.append_nil, List.cons_append, List.nil_append]
  after_results
  funext j
  idx_vars j
  pointwise [gainF]

open Cert.PleRefIdeal.Read in
/-- The reference's row before the final normalisation. -/
theorem reference_mixed (x : Vec Ideal S4x8192x2048 .f32) (e : Vec Ideal S2x4x8192x256 .f32) (g : Vec Ideal S2x2048 .f32)
    (w : Vec Ideal S2x2048x2048 .f32) (p : Vec Ideal S2x256x2048 .f32) (r : Fin 32768) (l : Fin 2048) :
    (val_main_v32 x e g w p (ix2 r l) : EReal)
      = mixed (flat x) (layer 1 (flatEmbed e)) (gain2 g) (layer 1 w) (layer 1 p) r l := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, mixed, scaled, flat, flatEmbed, layer, gain2, Ideal.logistic]

open Cert.PleRefIdeal.Read in
/-- The reference's result, in terms of that row. -/
theorem reference_result (x : Vec Ideal S4x8192x2048 .f32) (e : Vec Ideal S2x4x8192x256 .f32) (g : Vec Ideal S2x2048 .f32)
    (w : Vec Ideal S2x2048x2048 .f32) (p : Vec Ideal S2x256x2048 .f32) (f : Vec Ideal S2048 .f32) (r : Fin 32768) (l : Fin 2048) :
    (val_main_v45 x e g w p f (ix2 r l) : EReal) = tile (flat x) (layer 1 (flatEmbed e)) (gain2 g) (layer 1 w) (layer 1 p) (gainF f) r l := by
  pointwise [val_main_v45, val_main_v44, val_main_v43, val_main_v42, val_main_v41, val_main_v40, val_main_v39, val_main_v38, val_main_v37,
    val_main_v36, val_main_v35, val_main_v34, val_main_v33, val_main_cst_4, val_main_cst_5, val_main_cst_6, reference_mixed, tile,
    normalised, gainF]

open Cert.PleRefIdeal.Read in
theorem result (c : Dev nD) : (dats m 0 c).arrAt 6 cfg0.N
    = val_main_v45 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [array6, entry0, entry1, entry4, entry5, entry6, entry7]
  funext j
  idx_vars j
  exact (reference_result _ _ _ _ _ _ j0 j1).symm

end Cert.PleIdeal.Hand
end
-- ==== Proof.PleClaims.lean ====
/-
  The last call's claims: its three frames, and that its idealized form computes the reference's result.
-/
module

public import proofs.«01_k».proof.Defs
public import proofs.«01_k».proof.Proof.PleValue
public import proofs.«01_k».proof.Proof.Gen.Ple.Frame
public import Idealize.ShloMosaic.Lib.Quiescent

@[expose] public section

noncomputable section

open Idealize.ShloMosaic Idealize.ShloMosaic.TcCoe Idealize.SL.Sem

namespace Cert.Proof.PleClaims

instance : Cert.Ple.Facts := Cert.Ple.Gen.facts
instance : Cert.PleIdeal.Facts := Cert.PleIdeal.Gen.facts
instance : Cert.PleRefIdeal.Facts := Cert.PleRefIdeal.Gen.facts

theorem frame_kernel : Cert.quiescent_Ple := fun m ρ _ => Cert.Ple.Gen.frame m ρ

theorem frame_ideal : Cert.quiescent_PleIdeal := fun m ρ _ => Cert.PleIdeal.Gen.frame m ρ

theorem frame_reference : Cert.quiescent_PleRefIdeal := fun m ρ _ =>
  (θ_run Cert.PleRefIdeal.defs _ _).mono
    (fun r h => ⟨fun c => (h c).2, Idealize.ShloMosaic.sem_eq_zero_of_no_sems (by decide) r.2⟩)
    (Cert.PleRefIdeal.Value.run (F := Ideal) m ρ)

theorem preserves : Cert.preserves_Ple_PleIdeal := trivial

/-- The result is the reference's, at arguments that agree. -/
theorem algebraic : Cert.algebraic_PleIdeal_PleRefIdeal := by
  intro m ρ m' ρ' _ hagree
  refine ⟨_, (θ_run Cert.PleIdeal.defs _ _).mono (fun r h c =>
    ⟨(h c).1.trans (Cert.PleIdeal.Hand.result m c), (h c).2⟩) (Cert.PleIdeal.Value.run_blocks (F := Ideal) m ρ), ?_⟩
  refine (θ_run Cert.PleRefIdeal.defs _ _).mono (fun r h c => ?_) (Cert.PleRefIdeal.Value.run (F := Ideal) m' ρ')
  obtain ⟨hres, hargs⟩ := h c
  obtain ⟨a0, a1, a2, a3, a4, a5⟩ := hagree c
  refine ⟨hres.trans ?_, hargs⟩
  rw [Cert.PleRefIdeal.Read.val_main_v45_eq m' c, a0, a1, a2, a3, a4, a5]

end Cert.Proof.PleClaims

end
-- ==== Proof.PleFirstValue.lean ====
/-
  The embedding call of the layers before the last, which has no final norm: its stored tile and its result array, over the extended
  reals, and the reference's result. Rows, layers and the mixed row are those of the last call.
-/
module

public import proofs.«01_k».proof.Proof.PleValue
public import proofs.«01_k».proof.Proof.Gen.PleFirstIdeal.Value
public import proofs.«01_k».proof.Proof.Gen.PleFirstRefIdeal.Read

@[expose] public section

set_option maxRecDepth 16384

noncomputable section

namespace Cert.PleFirstIdeal.Hand

open Cert.PleFirstIdeal.Gen Cert.Proof.Rows
open Cert.PleIdeal.Hand (mixed mixed_congr mixed_half layer flatEmbed)
open Idealize.ShloMosaic Idealize.ShloMosaic.TcCoe Idealize.ShloMosaic.Tactic Idealize.ShloMosaic.Rounds
open Idealize.ShloMosaic.Pipeline (Dat Cfg Window)

/-- The embedding call without the final norm, at the first layer: the result array of the entry arrays. -/
def embedded (x : Vec Ideal S32768x2048 .f32) (e : Vec Ideal S2x32768x256 .f32) (g : Vec Ideal S1x2048 .f32) (w : Vec Ideal S2x2048x2048 .bf16)
    (p : Vec Ideal S2x256x2048 .bf16) : Vec Ideal S32768x2048 .f32 :=
  fun i => mixed x (layer 0 e) g (layer 0 w) (layer 0 p) (i 0) (i 1)

theorem lower (x : Vec Ideal S256x2048 .f32) (e : Vec Ideal S1x256x256 .f32) (g : Vec Ideal S1x2048 .f32)
    (w : Vec Ideal S1x2048x2048 .bf16) (p : Vec Ideal S1x256x2048 .bf16) (r : Fin 256) (l : Fin 2048) :
    k0_pay2 x g e p w (ix2 r l) = mixed x e g w p r l := by
  pointwise [k0_pay2, mixed, scaled]

theorem upper (x : Vec Ideal S256x2048 .f32) (e : Vec Ideal S1x256x256 .f32) (g : Vec Ideal S1x2048 .f32)
    (w : Vec Ideal S1x2048x2048 .bf16) (p : Vec Ideal S1x256x2048 .bf16) (r : Fin 256) (l : Fin 2048) :
    k0_pay1 (k0_pay3 x) (k0_pay4 g) e p w (ix2 r l) = mixed x e g w p r l := by
  pointwise [k0_pay1, k0_pay3, k0_pay4, mixed, scaled]

/-- What a point stores. -/
theorem out_apply (x : Vec Ideal S512x2048 .f32) (e : Vec Ideal S1x512x256 .f32) (g : Vec Ideal S1x2048 .f32)
    (w : Vec Ideal S1x2048x2048 .bf16) (p : Vec Ideal S1x256x2048 .bf16) (r : Fin 512) (l : Fin 2048) :
    out0_5 x e g w p (ix2 r l) = mixed x e g w p r l := by
  frame_out
  canon_tiles z h
  · idx_vars z
    rw [upper, mixed_half x e g w p 256 _ _ _ r h0]
    exact congrArg (mixed x e g w p r) (Fin.ext h1.symm)
  · idx_vars z
    rw [lower, mixed_half x e g w p 0 _ _ _ r (h0.trans (Nat.zero_add _).symm)]
    exact congrArg (mixed x e g w p r) (Fin.ext h1.symm)

variable (m : (ℓ : Loc nD τ sig) → Buf (Elt Ideal) ℓ)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = t.val ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

theorem block0 (c : Dev nD) (t : Fin cfg0.N) (r : Fin 512) (k : Fin 2048) (i : Fin 32768) (hi : i.val = 512 * t.val + r.val) :
    (iblk m c 0 t : Vec Ideal S512x2048 .f32) (ix2 r k) = (V m c main_v0 : Vec Ideal S32768x2048 .f32) (ix2 i k) := by
  blk_ext [iblk, index0 t]
theorem block1 (c : Dev nD) (t : Fin cfg0.N) (r : Fin 512) (k : Fin 256) (i : Fin 32768) (hi : i.val = 512 * t.val + r.val) :
    (iblk m c 1 t : Vec Ideal S1x512x256 .f32) (ix3 0 r k) = (V m c main_v1 : Vec Ideal S2x32768x256 .f32) (ix3 0 i k) := by
  blk_ext [iblk, index1 t]
theorem block2 (c : Dev nD) (t : Fin cfg0.N) (k : Fin 2048) :
    (iblk m c 2 t : Vec Ideal S1x2048 .f32) (ix2 0 k) = (V m c main_v4 : Vec Ideal S1x2048 .f32) (ix2 0 k) := by
  blk_ext [iblk, index2 t]
theorem block3 (c : Dev nD) (t : Fin cfg0.N) (k l : Fin 2048) :
    (iblk m c 3 t : Vec Ideal S1x2048x2048 .bf16) (ix3 0 k l) = (V m c main_v5 : Vec Ideal S2x2048x2048 .bf16) (ix3 0 k l) := by
  blk_ext [iblk, index3 t]
theorem block4 (c : Dev nD) (t : Fin cfg0.N) (k : Fin 256) (l : Fin 2048) :
    (iblk m c 4 t : Vec Ideal S1x256x2048 .bf16) (ix3 0 k l) = (V m c main_v6 : Vec Ideal S2x256x2048 .bf16) (ix3 0 k l) := by
  blk_ext [iblk, index4 t]

theorem array5 (c : Dev nD) : (dats m 0 c).arrAt 5 cfg0.N
    = embedded (V m c main_v0) (V m c main_v1) (V m c main_v4) (V m c main_v5) (V m c main_v6) := by
  refine (dats m 0 c).arrAt_eq_of_covers 5 _ (by decide +kernel) (fun t hf y => ?_)
  blk_simp
  rw [after0_5]
  idx_vars y
  have h0 : (((win0_5.blk t).view.emb (ix2 y0 y1)) (0 : Fin 2) : ℕ) = 512 * t.val + y0.val := by
    blk_simp [index5 t]; omega
  have h1 : (((win0_5.blk t).view.emb (ix2 y0 y1)) (1 : Fin 2) : ℕ) = y1.val := by
    blk_simp [index5 t]
  have e1 : ((win0_5.blk t).view.emb (ix2 y0 y1)) (1 : Fin 2) = y1 := Fin.ext h1
  refine (out_apply _ _ _ _ _ y0 y1).trans ?_
  unfold embedded
  rw [e1]
  exact congrFun (mixed_congr _ _ _ _ _ _ _ _ _ _ _ _ (fun k => block0 m c t y0 k _ h0) (fun k => block1 m c t y0 k _ h0)
    (block2 m c t) (block3 m c t) (block4 m c t)) y1

theorem entry0 (c : Dev nD) : (V m c main_v0 : Vec Ideal S32768x2048 .f32) = flat (m ((c.tc : Thread nD τ).loc main_arg0)) := by
  unfold V
  simp only [hostOps0, List.flatten_cons, List.flatten_nil, List.append_nil, List.cons_append, List.nil_append]
  after_results
  funext j
  idx_vars j
  pointwise [flat]
theorem entry1 (c : Dev nD) : (V m c main_v1 : Vec Ideal S2x32768x256 .f32) = flatEmbed (m ((c.tc : Thread nD τ).loc main_arg1)) := by
  unfold V
  simp only [hostOps0, List.flatten_cons, List.flatten_nil, List.append_nil, List.cons_append, List.nil_append]
  after_results
  funext j
  idx_vars j
  pointwise [flatEmbed]
theorem entry4 (c : Dev nD) : (V m c main_v4 : Vec Ideal S1x2048 .f32) = gain (m ((c.tc : Thread nD τ).loc main_arg2)) := by
  unfold V
  simp only [hostOps0, List.flatten_cons, List.flatten_nil, List.append_nil, List.cons_append, List.nil_append]
  after_results
  funext j
  idx_vars j
  pointwise [gain]
theorem entry5 (c : Dev nD) : (V m c main_v5 : Vec Ideal S2x2048x2048 .bf16) = m ((c.tc : Thread nD τ).loc main_arg3) := by
  unfold V
  simp only [hostOps0, List.flatten_cons, List.flatten_nil, List.append_nil, List.cons_append, List.nil_append]
  after_results
  funext j
  pointwise []
theorem entry6 (c : Dev nD) : (V m c main_v6 : Vec Ideal S2x256x2048 .bf16) = m ((c.tc : Thread nD τ).loc main_arg4) := by
  unfold V
  simp only [hostOps0, List.flatten_cons, List.flatten_nil, List.append_nil, List.cons_append, List.nil_append]
  after_results
  funext j
  pointwise []

open Cert.PleFirstRefIdeal.Read in
/-- The reference's result. -/
theorem reference_result (x : Vec Ideal S4x8192x2048 .f32) (e : Vec Ideal S2x4x8192x256 .f32) (g : Vec Ideal S2x2048 .f32)
    (w : Vec Ideal S2x2048x2048 .f32) (p : Vec Ideal S2x256x2048 .f32) (r : Fin 32768) (l : Fin 2048) :
    (val_main_v32 x e g w p (ix2 r l) : EReal)
      = mixed (flat x) (layer 0 (flatEmbed e)) (gain g) (layer 0 w) (layer 0 p) r l := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3, mixed, scaled, flat, flatEmbed, layer, gain, Ideal.logistic]

open Cert.PleFirstRefIdeal.Read in
theorem result (c : Dev nD) : (dats m 0 c).arrAt 5 cfg0.N
    = val_main_v32 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [array5, entry0, entry1, entry4, entry5, entry6]
  funext j
  idx_vars j
  exact (reference_result _ _ _ _ _ j0 j1).symm

end Cert.PleFirstIdeal.Hand
end
-- ==== Proof.PleFirstClaims.lean ====
/-
  The claims of the embedding call without the final norm: its three frames, and that its idealized form computes the reference's result.
-/
module

public import proofs.«01_k».proof.Defs
public import proofs.«01_k».proof.Proof.PleFirstValue
public import proofs.«01_k».proof.Proof.Gen.PleFirst.Frame
public import Idealize.ShloMosaic.Lib.Quiescent

@[expose] public section

noncomputable section

open Idealize.ShloMosaic Idealize.ShloMosaic.TcCoe Idealize.SL.Sem

namespace Cert.Proof.PleFirstClaims

instance : Cert.PleFirst.Facts := Cert.PleFirst.Gen.facts
instance : Cert.PleFirstIdeal.Facts := Cert.PleFirstIdeal.Gen.facts
instance : Cert.PleFirstRefIdeal.Facts := Cert.PleFirstRefIdeal.Gen.facts

theorem frame_kernel : Cert.quiescent_PleFirst := fun m ρ _ => Cert.PleFirst.Gen.frame m ρ

theorem frame_ideal : Cert.quiescent_PleFirstIdeal := fun m ρ _ => Cert.PleFirstIdeal.Gen.frame m ρ

theorem frame_reference : Cert.quiescent_PleFirstRefIdeal := fun m ρ _ =>
  (θ_run Cert.PleFirstRefIdeal.defs _ _).mono
    (fun r h => ⟨fun c => (h c).2, Idealize.ShloMosaic.sem_eq_zero_of_no_sems (by decide) r.2⟩)
    (Cert.PleFirstRefIdeal.Value.run (F := Ideal) m ρ)

theorem preserves : Cert.preserves_PleFirst_PleFirstIdeal := trivial

/-- The result is the reference's, at arguments that agree. -/
theorem algebraic : Cert.algebraic_PleFirstIdeal_PleFirstRefIdeal := by
  intro m ρ m' ρ' _ hagree
  refine ⟨_, (θ_run Cert.PleFirstIdeal.defs _ _).mono (fun r h c =>
    ⟨(h c).1.trans (Cert.PleFirstIdeal.Hand.result m c), (h c).2⟩) (Cert.PleFirstIdeal.Value.run_blocks (F := Ideal) m ρ), ?_⟩
  refine (θ_run Cert.PleFirstRefIdeal.defs _ _).mono (fun r h c => ?_) (Cert.PleFirstRefIdeal.Value.run (F := Ideal) m' ρ')
  obtain ⟨hres, hargs⟩ := h c
  obtain ⟨a0, a1, a2, a3, a4⟩ := hagree c
  refine ⟨hres.trans ?_, hargs⟩
  rw [Cert.PleFirstRefIdeal.Read.val_main_v32_eq, a0, a1, a2, a3, a4]

end Cert.Proof.PleFirstClaims

end
-- ==== Proof.Scan.lean ====
/-
  Facts over the extended reals that the state-space call's claims rest on.

  The call splits an addend into three (or two) parts that add up to it, and multiplies the parts with a zero-one matrix; it folds a
  step's length into the exponent of its decay, as a logarithm. Neither changes a value, also where a step is infinite, as long as no part
  that is split is `⊤`.
-/
module

public import proofs.«01_k».proof.Proof.Rows

@[expose] public section

noncomputable section

namespace Cert.Proof.Scan

open Idealize.ShloMosaic

theorem exp_bot : Ideal.exp ⊥ = 0 := rfl

theorem exp_nonneg (x : EReal) : 0 ≤ Ideal.exp x := by
  induction x with
  | bot => exact le_refl _
  | top => exact le_top
  | coe r => exact EReal.coe_nonneg.mpr (Real.exp_pos r).le

theorem exp_pos (x : EReal) (h : x ≠ ⊥) : 0 < Ideal.exp x := by
  induction x with
  | bot => exact absurd rfl h
  | top => exact EReal.zero_lt_top
  | coe r => exact EReal.coe_pos.mpr (Real.exp_pos r)

/-- The exponential of what is not positive is finite. -/
theorem exp_ne_top (x : EReal) (h : x ≤ 0) : Ideal.exp x ≠ ⊤ := by
  induction x with
  | bot => exact EReal.zero_ne_top
  | top => exact absurd (top_le_iff.mp h) EReal.zero_ne_top
  | coe r => exact EReal.coe_ne_top _

/-- A value that is not `⊤`, and what is left of it after taking it away. -/
theorem add_rest (x : EReal) (h : x ≠ ⊤) : x + (x - x) = x := by
  induction x with
  | bot => rfl
  | top => exact absurd rfl h
  | coe r => rw [← EReal.coe_sub, ← EReal.coe_add, sub_self, add_zero]

/-- Once more. -/
theorem add_rests (x : EReal) (h : x ≠ ⊤) : x + (x - x) + ((x - x) - (x - x)) = x := by
  induction x with
  | bot => rfl
  | top => exact absurd rfl h
  | coe r => rw [← EReal.coe_sub, ← EReal.coe_add, ← EReal.coe_sub, ← EReal.coe_add]; simp

/-- The softplus of `x` as both programs compute it: the larger of `x` and zero, and a logarithm. -/
def softplus (x : EReal) : EReal := max x 0 + Ideal.log1p (Ideal.exp (-max x (-x)))

theorem softplus_nonneg (x : EReal) : 0 ≤ softplus x := by
  refine add_nonneg (le_max_right _ _) ?_
  have h := exp_nonneg (-max x (-x))
  unfold Ideal.log1p
  generalize Ideal.exp (-max x (-x)) = e at h
  induction e with
  | bot => exact absurd h (by simp)
  | top => exact le_top
  | coe r =>
    have hr : 0 ≤ r := EReal.coe_nonneg.mp h
    show 0 ≤ Ideal.log (((1 : ℝ) : EReal) + (r : EReal))
    rw [← EReal.coe_add]
    unfold Ideal.log
    show (0 : EReal) ≤ if 1 + r ≤ 0 then ⊥ else (Real.log (1 + r) : EReal)
    rw [if_neg (by linarith)]
    exact EReal.coe_nonneg.mpr (Real.log_nonneg (by linarith))

/-- The decay from `s` to `t` with the step's length folded into its exponent is the decay times the length: `ct ≤ cs ≤ 0` are the summed
    exponents. -/
theorem exp_fold (ct cs d : EReal) (hd : 0 ≤ d) (hs : cs ≤ 0) (ht : ct ≤ cs) :
    Ideal.exp (ct - (cs - Ideal.log d)) = Ideal.exp (ct - cs) * d := by
  induction cs with
  | top => exact absurd (top_le_iff.mp hs) EReal.zero_ne_top
  | bot =>
    obtain rfl : ct = ⊥ := le_bot_iff.mp ht
    show Ideal.exp (⊥ - _) = Ideal.exp ⊥ * d
    rw [EReal.bot_sub, exp_bot, zero_mul]
  | coe s =>
    induction ct with
    | top => exact absurd (top_le_iff.mp ht) (EReal.coe_ne_top _)
    | bot =>
      rw [EReal.bot_sub, EReal.bot_sub, exp_bot, zero_mul]
    | coe t =>
      rw [← EReal.coe_sub]
      induction d with
      | bot => exact absurd hd (by simp)
      | top =>
        show Ideal.exp ((t : EReal) - ((s : EReal) - ⊤)) = ((Real.exp (t - s) : ℝ) : EReal) * ⊤
        rw [EReal.coe_mul_top_of_pos (Real.exp_pos _), show (s : EReal) - ⊤ = ⊥ from rfl, EReal.coe_sub_bot]
        rfl
      | coe d =>
        have hd' : 0 ≤ d := EReal.coe_nonneg.mp hd
        unfold Ideal.log
        show Ideal.exp ((t : EReal) - ((s : EReal) - if d ≤ 0 then ⊥ else (Real.log d : EReal))) = ((Real.exp (t - s) : ℝ) : EReal) * (d : EReal)
        by_cases h0 : d ≤ 0
        · rw [if_pos h0, le_antisymm h0 hd', EReal.coe_sub_bot, EReal.coe_zero, mul_zero]
          rfl
        · rw [if_neg h0, ← EReal.coe_sub, ← EReal.coe_sub, ← EReal.coe_mul]
          show ((Real.exp _ : ℝ) : EReal) = _
          rw [show t - (s - Real.log d) = (t - s) + Real.log d by ring, Real.exp_add, Real.exp_log (not_le.mp h0)]

/-- A difference of summed exponents is not positive, also where both are `⊥`. -/
theorem sub_nonpos (ct cs : EReal) (h : ct ≤ cs) (hs : cs ≤ 0) : ct - cs ≤ 0 := by
  induction cs with
  | top => exact absurd (top_le_iff.mp hs) EReal.zero_ne_top
  | bot =>
    obtain rfl : ct = ⊥ := le_bot_iff.mp h
    rw [EReal.bot_sub]
    exact bot_le
  | coe s => exact EReal.sub_nonpos.mpr h

/-- The sum up to and including `t`. -/
def upto {n : ℕ} (f : Fin n → EReal) (t : Fin n) : EReal := ∑ s : Fin n, if s.val ≤ t.val then f s else 0

theorem upto_nonpos {n : ℕ} (f : Fin n → EReal) (hf : ∀ s, f s ≤ 0) (t : Fin n) : upto f t ≤ 0 :=
  Finset.sum_nonpos fun s _ => by split; exacts [hf s, le_refl _]

theorem upto_anti {n : ℕ} (f : Fin n → EReal) (hf : ∀ s, f s ≤ 0) (s t : Fin n) (h : s.val ≤ t.val) : upto f t ≤ upto f s :=
  Finset.sum_le_sum fun k _ => by
    by_cases hk : k.val ≤ s.val
    · rw [if_pos hk, if_pos (hk.trans h)]
    · rw [if_neg hk]; split; exacts [hf k, le_refl _]

/-- A zero-one lower triangle times the three parts of a column. -/
theorem upto_split {n : ℕ} (f : Fin n → EReal) (hf : ∀ s, f s ≠ ⊤) (t : Fin n) (w : Fin n → EReal)
    (hw : ∀ s, w s = if s.val ≤ t.val then 1 else 0) :
    (∑ s, w s * f s) + (∑ s, w s * (f s - f s)) + (∑ s, w s * ((f s - f s) - (f s - f s))) = upto f t := by
  rw [← Finset.sum_add_distrib, ← Finset.sum_add_distrib]
  refine Finset.sum_congr rfl fun s _ => ?_
  rw [hw]
  split
  · rw [one_mul, one_mul, one_mul, add_rests _ (hf s)]
  · rw [zero_mul, zero_mul, zero_mul, add_zero, add_zero]

/-- A row of a zero-one matrix with its one in column `j`, times a column. -/
theorem pick {n : ℕ} (f w : Fin n → EReal) (j : Fin n) (hw : ∀ k, w k = if k = j then 1 else 0) : ∑ k, f k * w k = f j := by
  rw [Finset.sum_eq_single j]
  · rw [hw, if_pos rfl, mul_one]
  · intro k _ hk
    rw [hw, if_neg hk, mul_zero]
  · exact fun h => absurd (Finset.mem_univ j) h

/-- The same with the two parts of a row. -/
theorem pick_split {n : ℕ} (f w : Fin n → EReal) (j : Fin n) (hw : ∀ k, w k = if k = j then 1 else 0) (hf : f j ≠ ⊤) :
    (∑ k, f k * w k) + (∑ k, (f k - f k) * w k) = f j := by
  rw [pick f w j hw, pick (fun k => f k - f k) w j hw, add_rest _ hf]

/-- A step's length times its decay to the last step is not `⊤`, if the decay's rate is not zero. -/
theorem length_ne_top {n : ℕ} (d : Fin n → EReal) (hd : ∀ s, 0 ≤ d s) (a : EReal) (ha : a < 0) (s t : Fin n) (h : s.val ≤ t.val) :
    d s * Ideal.exp (upto (fun k => d k * a) t - upto (fun k => d k * a) s) ≠ ⊤ := by
  have hf : ∀ k, d k * a ≤ 0 := fun k => mul_nonpos_of_nonneg_of_nonpos (hd k) ha.le
  have hct := upto_anti _ hf s t h
  have hs := upto_nonpos _ hf s
  by_cases hT : d s = ⊤
  · have ht : d s * a = ⊥ := by rw [hT, EReal.top_mul_of_neg ha]
    have hb : upto (fun k => d k * a) s = ⊥ := by
      unfold upto
      rw [← Finset.add_sum_erase _ _ (Finset.mem_univ s), if_pos (le_refl _)]
      exact (congrArg (· + _) ht).trans (EReal.bot_add _)
    rw [hb] at hct ⊢
    rw [le_bot_iff.mp hct, EReal.bot_sub, exp_bot, mul_zero]
    exact EReal.zero_ne_top
  · have hn := sub_nonpos _ _ hct hs
    have he := exp_ne_top _ hn
    have h0 := exp_nonneg (upto (fun k => d k * a) t - upto (fun k => d k * a) s)
    generalize Ideal.exp _ = e at he h0 ⊢
    have h1 := hd s
    generalize d s = x at hT h1 ⊢
    lift x to ℝ using ⟨hT, fun hx => absurd h1 (by simp [hx])⟩
    lift e to ℝ using ⟨he, fun hx => absurd h0 (by simp [hx])⟩
    rw [← EReal.coe_mul]
    exact EReal.coe_ne_top _

end Cert.Proof.Scan
end
-- ==== Proof.SsdBody.lean ====
/-
  What a point of the state-space call stores, put together from parts.

  A point takes four sequences of 64 steps, one after the other. The text of the body repeats the same operations for every sequence, every
  group of four heads and every head; here each of these is written once, with the sequence, the group or the head as a variable.
-/
module

public import proofs.«01_k».proof.Proof.Scan
public import proofs.«01_k».proof.Proof.Gen.SsdIdeal.Value

@[expose] public section

set_option maxRecDepth 100000
set_option maxHeartbeats 4000000

noncomputable section

namespace Cert.SsdIdeal.Hand

open Cert.SsdIdeal.Gen Cert.Proof.Scan
open Idealize.ShloMosaic Idealize.ShloMosaic.TcCoe Idealize.ShloMosaic.Tactic Idealize.ShloMosaic.Rounds

/-! ### Parts of a step's blocks -/

theorem in_cur (s : Fin 4) : ∀ a, (![s.val, 0, 0] : Fin 3 → Nat) a + S1x64x3072.size a ≤ S4x64x5120.size a := by revert s; decide
theorem in_gate (s : Fin 4) : ∀ a, (![s.val, 0, 3072] : Fin 3 → Nat) a + S1x64x2048.size a ≤ S4x64x5120.size a := by revert s; decide
theorem in_tail (s : Fin 4) : ∀ a, (![s.val, 48, 0] : Fin 3 → Nat) a + S1x16x3072.size a ≤ S4x64x5120.size a := by revert s; decide
theorem in_step (s : Fin 4) : ∀ a, (![s.val, 0, 0] : Fin 3 → Nat) a + S1x64x128.size a ≤ S4x64x128.size a := by revert s; decide
theorem in_conv (s : Fin 4) : ∀ a, (![s.val, 0, 0] : Fin 3 → Nat) a + S1x16x3072.size a ≤ S4x16x3072.size a := by revert s; decide
theorem in_row (k : Fin 4) : ∀ a, (![k.val, 0] : Fin 2 → Nat) a + S1x3072.size a ≤ S4x3072.size a := by revert k; decide
theorem in_state (s : Fin 4) (h : Fin 16) :
    ∀ a, (![0, s.val, h.val, 0, 0] : Fin 5 → Nat) a + S1x1x1x128x128.size a ≤ S1x4x16x128x128.size a := by revert s h; decide
theorem in_rows (s : Fin 4) : ∀ a, (![s.val, 0, 0] : Fin 3 → Nat) a + S1x64x3072.size a ≤ S4x64x3072.size a := by revert s; decide
theorem in_last (s : Fin 4) : ∀ a, (![s.val, 48, 0] : Fin 3 → Nat) a + S1x16x3072.size a ≤ S4x64x3072.size a := by revert s; decide
theorem in_put (s : Fin 4) : ∀ a, (![s.val, 0, 0] : Fin 3 → Nat) a + S1x16x3072.size a ≤ S4x16x3072.size a := by revert s; decide
theorem in_get (s : Fin 4) : ∀ a, (![s.val, 13, 0] : Fin 3 → Nat) a + S1x3x3072.size a ≤ S4x16x3072.size a := by revert s; decide
theorem in_out (s : Fin 4) : ∀ a, (![s.val, 0, 0] : Fin 3 → Nat) a + S1x3x3072.size a ≤ S4x3x3072.size a := by revert s; decide
theorem in_y (s : Fin 4) : ∀ a, (![s.val, 0, 0] : Fin 3 → Nat) a + S1x64x2048.size a ≤ S4x64x2048.size a := by revert s; decide
theorem in_seq (s : Fin 4) : ∀ a, (![s.val, 0, 0, 0] : Fin 4 → Nat) a + S1x4x128x512.size a ≤ S4x4x128x512.size a := by revert s; decide
theorem in_group (g : Fin 4) : ∀ a, (![g.val, 0, 0] : Fin 3 → Nat) a + S1x128x512.size a ≤ S4x128x512.size a := by revert g; decide
theorem in_head (s : Fin 4) (h : Fin 16) :
    ∀ a, (![s.val, h.val / 4, 0, 128 * (h.val % 4)] : Fin 4 → Nat) a + S1x1x128x128.size a ≤ S4x4x128x512.size a := by revert s h; decide
theorem in_new (s : Fin 4) (h : Fin 16) :
    ∀ a, (![s.val, h.val, 0, 0] : Fin 4 → Nat) a + S1x1x128x128.size a ≤ S4x16x128x128.size a := by revert s h; decide

theorem of_b (g : Fin 4) : S64x3072.Slices ![0, 2048 + 128 * g.val] S64x128 := by revert g; decide
theorem of_c (g : Fin 4) : S64x3072.Slices ![0, 2560 + 128 * g.val] S64x128 := by revert g; decide
theorem of_group (g : Fin 4) : S64x2048.Slices ![0, 512 * g.val] S64x512 := by revert g; decide
theorem of_group1 (g : Fin 4) : S1x2048.Slices ![0, 512 * g.val] S1x512 := by revert g; decide
theorem of_pair (p : Fin 16) : S64x2048.Slices ![0, 128 * p.val] S64x128 := by revert p; decide
theorem of_quarter (p : Fin 16) : S64x512.Slices ![0, 128 * (p.val % 4)] S64x128 := by revert p; decide
theorem of_col (h : Fin 32) : S64x128.Slices ![0, h.val] S64x1 := by revert h; decide
theorem of_row (h : Fin 32) : S128x64.Slices ![h.val, 0] S1x64 := by revert h; decide

/-! ### The operations of a sequence -/

/-- The running sums of a sequence's exponents, each addend in three parts. -/
def sums (tri : Vec Ideal S64x64 .bf16) (da : FVec Ideal S64x128 .f32) : FVec Ideal S64x128 .f32 :=
  k0_pay174 (k0_pay171 tri) (truncf .bf16 da bitsLt_bf16_f32)
    (subf da (extf .f32 (truncf .bf16 da bitsLt_bf16_f32 : FVec Ideal S64x128 .bf16) bitsLt_bf16_f32))

/-- The factors of a sequence, spread over the heads' columns. -/
def wide (tri : Vec Ideal S64x64 .bf16) (rep : Vec Ideal S128x2048 .bf16) (dt da : FVec Ideal S64x128 .f32) : FVec Ideal S128x2048 .f32 :=
  k0_pay177 dt (k0_pay171 tri) (truncf .bf16 da bitsLt_bf16_f32)
    (subf da (extf .f32 (truncf .bf16 da bitsLt_bf16_f32 : FVec Ideal S64x128 .bf16) bitsLt_bf16_f32)) rep

/-- The decay of the whole sequence, spread over the heads' columns. -/
def whole (tri : Vec Ideal S64x64 .bf16) (rep : Vec Ideal S128x2048 .bf16) (da : FVec Ideal S64x128 .f32) : FVec Ideal S1x2048 .f32 :=
  k0_pay179 (k0_pay171 tri) (truncf .bf16 da bitsLt_bf16_f32)
    (subf da (extf .f32 (truncf .bf16 da bitsLt_bf16_f32 : FVec Ideal S64x128 .bf16) bitsLt_bf16_f32)) rep

/-- The exponents of the sources, with the step's length folded in, a row per head. -/
def sources (tri : Vec Ideal S64x64 .bf16) (dt da : FVec Ideal S64x128 .f32) : FVec Ideal S128x64 .f32 :=
  k0_pay181 dt (k0_pay171 tri) (truncf .bf16 da bitsLt_bf16_f32)
    (subf da (extf .f32 (truncf .bf16 da bitsLt_bf16_f32 : FVec Ideal S64x128 .bf16) bitsLt_bf16_f32))

def keys (xc : FVec Ideal S64x3072 .f32) (g : Fin 4) : FVec Ideal S64x128 .f32 :=
  extractStridedSlice S64x128 ![0, 2048 + 128 * g.val] xc (of_b g)

def queries (xc : FVec Ideal S64x3072 .f32) (g : Fin 4) : FVec Ideal S64x128 .bf16 :=
  truncf .bf16 (extractStridedSlice S64x128 ![0, 2560 + 128 * g.val] xc (of_c g) : FVec Ideal S64x128 .f32) bitsLt_bf16_f32

/-- A group's products of queries and keys. -/
def scores (xc : FVec Ideal S64x3072 .f32) (g : Fin 4) : FVec Ideal S64x64 .f32 :=
  matmul dot_S64x128_S64x128_S64x64_1_1_0_0_n_n none (queries xc g) (truncf .bf16 (keys xc g) bitsLt_bf16_f32) (constant S64x64 .f32 0x00000000#32)

/-- What a group's old state gives to the results. -/
def fromState (xc : FVec Ideal S64x3072 .f32) (wd : FVec Ideal S128x2048 .f32) (st : Vec Ideal S1x128x512 .f32) (g : Fin 4) : FVec Ideal S64x512 .f32 :=
  mulf (matmul dot_S64x128_S128x512_S64x512_1_0_0_1_n_n none (queries xc g)
      (truncf .bf16 (shapeCast S128x512 st shapeCasts_S1x128x512_S128x512 : FVec Ideal S128x512 .f32) bitsLt_bf16_f32) (constant S64x512 .f32 0x00000000#32))
    (extractStridedSlice S64x512 ![0, 512 * g.val]
      (extractStridedSlice S64x2048 ![0, 0] wd slices_S128x2048_o0_0_S64x2048 : FVec Ideal S64x2048 .f32) (of_group g))

/-- A group's new state. -/
def newState (xc : FVec Ideal S64x3072 .f32) (wd : FVec Ideal S128x2048 .f32) (wh : FVec Ideal S1x2048 .f32) (st : Vec Ideal S1x128x512 .f32)
    (g : Fin 4) : FVec Ideal S1x128x512 .f32 :=
  shapeCast S1x128x512 (addf
    (mulf (shapeCast S128x512 st shapeCasts_S1x128x512_S128x512 : FVec Ideal S128x512 .f32)
      (broadcastTo S128x512 (extractStridedSlice S1x512 ![0, 512 * g.val] wh (of_group1 g)) broadcasts_S1x512_S128x512))
    (matmul dot_S128x64_S64x512_S128x512_1_0_0_1_n_n none
      (truncf .bf16 (extractStridedSlice S128x64 ![0, 0] (transpose S128x128 [1, 0]
        (concatenate S128x128 0 [⟨S64x128, keys xc g⟩, ⟨S64x128, broadcast S64x128 (Scalar.ofBits (F := Ideal) .f32 0x00000000#32)⟩]
          concatenates_S64x128_S64x128_S128x128_d0) transposes_S128x128_p1_0_S128x128) slices_S128x128_o0_0_S128x64 : FVec Ideal S128x64 .f32)
        bitsLt_bf16_f32)
      (extractStridedSlice S64x512 ![0, 512 * g.val]
        (truncf .bf16 (mulf (extractStridedSlice S64x2048 ![0, 0] xc slices_S64x3072_o0_0_S64x2048 : FVec Ideal S64x2048 .f32)
          (extractStridedSlice S64x2048 ![64, 0] wd slices_S128x2048_o64_0_S64x2048)) bitsLt_bf16_f32 : FVec Ideal S64x2048 .bf16) (of_group g))
      (constant S128x512 .f32 0x00000000#32))) shapeCasts_S128x512_S1x128x512

/-- A head's scores times its decays, below the diagonal. -/
def decayed (cb : FVec Ideal S64x64 .f32) (cum : FVec Ideal S64x128 .f32) (src : FVec Ideal S128x64 .f32) (h : Fin 32) : FVec Ideal S64x64 .bf16 :=
  truncf .bf16 (mulf cb (exp (select k0_pay170
    (subf (broadcastTo S64x64 (extractStridedSlice S64x1 ![0, h.val] cum (of_col h)) broadcasts_S64x1_S64x64)
      (broadcastTo S64x64 (extractStridedSlice S1x64 ![h.val, 0] src (of_row h)) broadcasts_S1x64_S64x64))
    (broadcast S64x64 (Scalar.ofBits .f32 0xFF800000#32))))) bitsLt_bf16_f32

/-- The results of a pair of heads, 128 columns. -/
def pair (xc : FVec Ideal S64x3072 .f32) (cum : FVec Ideal S64x128 .f32) (src : FVec Ideal S128x64 .f32) (wd : FVec Ideal S128x2048 .f32)
    (st : Vec Ideal S1x128x512 .f32) (p : Fin 16) : FVec Ideal S64x128 .f32 :=
  addf (select k0_pay182
      (matmul dot_S64x64_S64x128_S64x128_1_0_0_1_n_n none (decayed (scores xc ⟨p.val / 4, by omega⟩) cum src ⟨2 * p.val, by omega⟩)
        (extractStridedSlice S64x128 ![0, 128 * p.val]
          (truncf .bf16 (extractStridedSlice S64x2048 ![0, 0] xc slices_S64x3072_o0_0_S64x2048 : FVec Ideal S64x2048 .f32) bitsLt_bf16_f32
            : FVec Ideal S64x2048 .bf16) (of_pair p)) (constant S64x128 .f32 0x00000000#32))
      (matmul dot_S64x64_S64x128_S64x128_1_0_0_1_n_n none (decayed (scores xc ⟨p.val / 4, by omega⟩) cum src ⟨2 * p.val + 1, by omega⟩)
        (extractStridedSlice S64x128 ![0, 128 * p.val]
          (truncf .bf16 (extractStridedSlice S64x2048 ![0, 0] xc slices_S64x3072_o0_0_S64x2048 : FVec Ideal S64x2048 .f32) bitsLt_bf16_f32
            : FVec Ideal S64x2048 .bf16) (of_pair p)) (constant S64x128 .f32 0x00000000#32)))
    (extractStridedSlice S64x128 ![0, 128 * (p.val % 4)] (fromState xc wd st ⟨p.val / 4, by omega⟩) (of_quarter p))

/-- The gated results of a sequence, before the norm: `ps` are the results of its sixteen pairs of heads. -/
def gated (xc : FVec Ideal S64x3072 .f32) (ps : Fin 16 → FVec Ideal S64x128 .f32) (skip : Vec Ideal S1x2048 .f32) (z : Vec Ideal S1x64x2048 .bf16) :
    FVec Ideal S64x2048 .f32 :=
  mulf (addf (concatenate S64x2048 1 (List.ofFn fun p : Fin 16 => (⟨S64x128, ps p⟩ : (s : Shape) × (s.Idx → EReal)))
        concatenates_S64x128_S64x128_S64x128_S64x128_S64x128_S64x128_S64x128_S64x128_S64x128_S64x128_S64x128_S64x128_S64x128_S64x128_S64x128_S64x128_S64x2048_d1)
      (mulf (extractStridedSlice S64x2048 ![0, 0] xc slices_S64x3072_o0_0_S64x2048 : FVec Ideal S64x2048 .f32)
        (broadcastTo S64x2048 (shapeCast S1x2048 skip shapeCasts_S1x2048_S1x2048) broadcasts_S1x2048_S64x2048)))
    (mulf (extf .f32 (shapeCast S64x2048 z shapeCasts_S1x64x2048_S64x2048 : FVec Ideal S64x2048 .bf16) bitsLt_bf16_f32)
      (logistic (extf .f32 (shapeCast S64x2048 z shapeCasts_S1x64x2048_S64x2048 : FVec Ideal S64x2048 .bf16) bitsLt_bf16_f32)))

/-- A quarter of the gated results, divided by the root of its mean square. -/
def normed (y : FVec Ideal S64x2048 .f32) (g : Fin 4) : FVec Ideal S64x512 .f32 :=
  mulf (extractStridedSlice S64x512 ![0, 512 * g.val] y (of_group g) : FVec Ideal S64x512 .f32)
    (broadcastTo S64x512 (rsqrt (addf (divf (shapeCast S64x1 (multiReduction .add [1] S64
      (mulf (extractStridedSlice S64x512 ![0, 512 * g.val] y (of_group g) : FVec Ideal S64x512 .f32)
        (extractStridedSlice S64x512 ![0, 512 * g.val] y (of_group g))) 0x00000000#32 reduces_S64x512_S64 (.inl rfl) rfl) shapeCasts_S64_S64x1)
      (broadcast S64x1 (Scalar.ofBits .f32 0x44000000#32))) (broadcast S64x1 (Scalar.ofBits .f32 0x358637BD#32)))) broadcasts_S64x1_S64x512)

/-- The results of a sequence. -/
def final (y : FVec Ideal S64x2048 .f32) (norm : Vec Ideal S1x2048 .f32) : FVec Ideal S1x64x2048 .bf16 :=
  shapeCast S1x64x2048 (truncf .bf16 (mulf
    (concatenate S64x2048 1 (List.ofFn fun g : Fin 4 => (⟨S64x512, normed y g⟩ : (s : Shape) × (s.Idx → EReal)))
      concatenates_S64x512_S64x512_S64x512_S64x512_S64x2048_d1 : FVec Ideal S64x2048 .f32)
    (broadcastTo S64x2048 (shapeCast S1x2048 norm shapeCasts_S1x2048_S1x2048) broadcasts_S1x2048_S64x2048)) bitsLt_bf16_f32
    : FVec Ideal S64x2048 .bf16) shapeCasts_S64x2048_S1x64x2048

/-! ### The point -/

/-- The blocks that a point reads. -/
structure Blocks where
  x0 : Vec Ideal S4x64x5120 .bf16
  x1 : Vec Ideal S4x64x128 .f32
  x2 : Vec Ideal S4x16x3072 .f32
  x3 : Vec Ideal S1x4x16x128x128 .f32
  x4 : Vec Ideal S4x3072 .f32
  x5 : Vec Ideal S1x3072 .f32
  x6 : Vec Ideal S1x128 .f32
  x7 : Vec Ideal S1x128 .f32
  x8 : Vec Ideal S1x2048 .f32
  x9 : Vec Ideal S1x2048 .f32
  x10 : Vec Ideal S128x2048 .bf16
  x11 : Vec Ideal S192x128 .bf16
  x12 : Vec Ideal S64x64 .bf16

variable (X : Blocks)

/-- A sequence's inputs to the convolution. -/
def cur (s : Fin 4) : Vec Ideal S1x64x3072 .bf16 :=
  View.ld (Val := Elt Ideal) X.x0 (Rect.unit (s := S4x64x5120) ![s.val, 0, 0] S1x64x3072.size (in_cur s))

/-- The last rows of the earlier convolution inputs of a sequence, as they are put before its rows. -/
def carried (s : Fin 4) : View.Piece (Elt Ideal) S4x64x3072 .bf16 :=
  ⟨Rect.unit (s := S4x64x3072) ![s.val, 48, 0] S1x16x3072.size (in_last s),
    shapeCast S1x16x3072 (truncf .bf16 (shapeCast S16x3072 (View.ld (Val := Elt Ideal) X.x2
      (Rect.unit (s := S4x16x3072) ![s.val, 0, 0] S1x16x3072.size (in_conv s)) : Vec Ideal S1x16x3072 .f32) shapeCasts_S1x16x3072_S16x3072
      : FVec Ideal S16x3072 .f32) bitsLt_bf16_f32 : FVec Ideal S16x3072 .bf16) shapeCasts_S16x3072_S1x16x3072⟩

/-- The cleared rows before a sequence. -/
def cleared (s : Fin 4) : View.Piece (Elt Ideal) S4x64x3072 .bf16 :=
  ⟨Rect.unit (s := S4x64x3072) ![s.val, 0, 0] S1x64x3072.size (in_rows s),
    shapeCast S1x64x3072 (broadcast S64x3072 (Scalar.ofBits (F := Ideal) .bf16 0x0000#16)) shapeCasts_S64x3072_S1x64x3072⟩

/-- The rows before the sequences as they lie in the scratch when sequence `k` is read, the latest store first. -/
def rowsBefore : ℕ → List (View.Piece (Elt Ideal) S4x64x3072 .bf16)
  | 0 => [carried X ⟨3, by omega⟩, cleared ⟨3, by omega⟩, carried X ⟨2, by omega⟩, cleared ⟨2, by omega⟩, carried X ⟨1, by omega⟩, cleared ⟨1, by omega⟩,
      carried X ⟨0, by omega⟩, cleared ⟨0, by omega⟩]
  | k + 1 => ⟨Rect.unit (s := S4x64x3072) ![k % 4, 0, 0] S1x64x3072.size (in_rows ⟨k % 4, by omega⟩),
      shapeCast S1x64x3072 (shapeCast S64x3072 (cur X ⟨k % 4, by omega⟩) shapeCasts_S1x64x3072_S64x3072) shapeCasts_S64x3072_S1x64x3072⟩
        :: rowsBefore k

/-- The rows before a sequence. -/
def prev (s : Fin 4) : Vec Ideal S1x64x3072 .bf16 :=
  View.readCov (View.whole cc0_scratch0) (rowsBefore X s.val) (Rect.unit (s := S4x64x3072) ![s.val, 0, 0] S1x64x3072.size (in_rows s)).toLoadRect

def row (k : Fin 4) : Vec Ideal S1x3072 .f32 :=
  View.ld (Val := Elt Ideal) X.x4 (Rect.unit (s := S4x3072) ![k.val, 0] S1x3072.size (in_row k))

/-- The convolution of a sequence, through its activation. -/
def conv (s : Fin 4) : FVec Ideal S64x3072 .f32 :=
  k0_pay165 (k0_pay161 (cur X s) (prev X s) X.x11 X.x5 (row X ⟨0, by omega⟩) (row X ⟨1, by omega⟩) (row X ⟨2, by omega⟩)) (k0_pay162 (cur X s)) (k0_pay163 (row X ⟨3, by omega⟩))

def step (s : Fin 4) : Vec Ideal S1x64x128 .f32 :=
  View.ld (Val := Elt Ideal) X.x1 (Rect.unit (s := S4x64x128) ![s.val, 0, 0] S1x64x128.size (in_step s))

/-- The lengths of a sequence's steps. -/
def lengths (s : Fin 4) : FVec Ideal S64x128 .f32 := k0_pay168 (step X s) X.x6

/-- The exponents of a sequence's steps. -/
def rates (s : Fin 4) : FVec Ideal S64x128 .f32 := k0_pay169 (step X s) X.x6 X.x7

/-- A group's new state in a sequence, from its old one. -/
def update (s g : Fin 4) (st : Vec Ideal S1x128x512 .f32) : FVec Ideal S1x128x512 .f32 :=
  newState (conv X s) (wide X.x12 X.x10 (lengths X s) (rates X s)) (whole X.x12 X.x10 (rates X s)) st g

/-- The store of a head's old state. -/
def oldHead (s : Fin 4) (h : Fin 16) : View.Piece (Elt Ideal) S4x4x128x512 .f32 :=
  ⟨Rect.unit (s := S4x4x128x512) ![s.val, h.val / 4, 0, 128 * (h.val % 4)] S1x1x128x128.size (in_head s h),
    shapeCast S1x1x128x128 (transpose S128x128 [1, 0] (shapeCast S128x128 (View.ld (Val := Elt Ideal) X.x3
      (Rect.unit (s := S1x4x16x128x128) ![0, s.val, h.val, 0, 0] S1x1x1x128x128.size (in_state s h)) : Vec Ideal S1x1x1x128x128 .f32)
      shapeCasts_S1x1x1x128x128_S128x128 : FVec Ideal S128x128 .f32) transposes_S128x128_p1_0_S128x128 : FVec Ideal S128x128 .f32)
      shapeCasts_S128x128_S1x1x128x128⟩

/-- A group's place in the scratch of the states. -/
def place (s g : Fin 4) : Rect S4x4x128x512 :=
  (Rect.unit (s := S4x4x128x512) ![s.val, 0, 0, 0] S1x4x128x512.size (in_seq s)).within
    ((Rect.unit (s := S4x128x512) ![g.val, 0, 0] S1x128x512.size (in_group g)).consLift ![1, 4, 128, 512] rfl (by decide)) (fun _ => rfl)

def window (s g : Fin 4) : LoadRect S4x4x128x512 :=
  (Rect.unit (s := S4x4x128x512) ![s.val, 0, 0, 0] S1x4x128x512.size (in_seq s)).withinL
    ((Rect.unit (s := S4x128x512) ![g.val, 0, 0] S1x128x512.size (in_group g)).toLoadRect.consLift ![1, 4, 128, 512] rfl (by decide)) (fun _ => rfl)

/-- A group's state, as it is read from the scratch. -/
def held (L : List (View.Piece (Elt Ideal) S4x4x128x512 .f32)) (s g : Fin 4) : Vec Ideal S1x128x512 .f32 :=
  LoadRect.valAlong (lr := (Rect.unit (s := S4x128x512) ![g.val, 0, 0] S1x128x512.size (in_group g)).toLoadRect)
    (LR := (Rect.unit (s := S4x128x512) ![g.val, 0, 0] S1x128x512.size (in_group g)).toLoadRect.consLift ![1, 4, 128, 512] rfl (by decide))
    (LoadRect.numel_consLift _ _ _ _) (View.readCov (View.whole cc0_scratch2) L (window s g))

/-- The store of a group's new state. -/
def kept (s g : Fin 4) (w : FVec Ideal S1x128x512 .f32) : View.Piece (Elt Ideal) S4x4x128x512 .f32 :=
  ⟨place s g, Rect.payAlong (r := Rect.unit (s := S4x128x512) ![g.val, 0, 0] S1x128x512.size (in_group g))
    (R := (Rect.unit (s := S4x128x512) ![g.val, 0, 0] S1x128x512.size (in_group g)).consLift ![1, 4, 128, 512] rfl (by decide))
    (Rect.numel_consLift _ _ _ _) w⟩

/-- The states as they lie in the scratch after `k` groups, the latest store first. -/
def stores : ℕ → List (View.Piece (Elt Ideal) S4x4x128x512 .f32)
  | 0 => List.ofFn fun i : Fin 64 => oldHead X ⟨3 - i.val / 16, by omega⟩ ⟨15 - i.val % 16, by omega⟩
  | k + 1 => kept ⟨k / 4 % 4, by omega⟩ ⟨k % 4, by omega⟩ (update X ⟨k / 4 % 4, by omega⟩ ⟨k % 4, by omega⟩
      (held (stores k) ⟨k / 4 % 4, by omega⟩ ⟨k % 4, by omega⟩)) :: stores k

/-- A group's old state, as it is read in a sequence. -/
def old (s g : Fin 4) : Vec Ideal S1x128x512 .f32 := held (stores X (4 * s.val + g.val)) s g

/-- The results of a sequence. -/
def results (s : Fin 4) : FVec Ideal S1x64x2048 .bf16 :=
  final (gated (conv X s) (fun p => pair (conv X s) (sums X.x12 (rates X s)) (sources X.x12 (lengths X s) (rates X s))
      (wide X.x12 X.x10 (lengths X s) (rates X s)) (old X s ⟨p.val / 4, by omega⟩) p) X.x8
    (View.ld (Val := Elt Ideal) X.x0 (Rect.unit (s := S4x64x5120) ![s.val, 0, 3072] S1x64x2048.size (in_gate s)))) X.x9

/-- The store of a sequence's results. -/
def resultPiece (s : Fin 4) : View.Piece (Elt Ideal) S4x64x2048 .bf16 :=
  ⟨Rect.unit (s := S4x64x2048) ![s.val, 0, 0] S1x64x2048.size (in_y s), results X s⟩

/-- The last rows of the sequences' convolution inputs, as they lie in the scratch when sequence `k` has stored its own. -/
def tails : ℕ → List (View.Piece (Elt Ideal) S4x16x3072 .f32)
  | 0 => []
  | k + 1 => ⟨Rect.unit (s := S4x16x3072) ![k % 4, 0, 0] S1x16x3072.size (in_put ⟨k % 4, by omega⟩),
      k0_pay84 (View.ld (Val := Elt Ideal) X.x0 (Rect.unit (s := S4x64x5120) ![k % 4, 48, 0] S1x16x3072.size (in_tail ⟨k % 4, by omega⟩)))⟩
        :: tails k

/-- The store of a sequence's last three convolution inputs. -/
def tailPiece (s : Fin 4) : View.Piece (Elt Ideal) S4x3x3072 .f32 :=
  ⟨Rect.unit (s := S4x3x3072) ![s.val, 0, 0] S1x3x3072.size (in_out s), k0_pay85 (View.readCov (View.whole cc0_scratch1) (tails X (s.val + 1))
    (Rect.unit (s := S4x16x3072) ![s.val, 13, 0] S1x3x3072.size (in_get s)).toLoadRect)⟩

/-- The store of a head's new state. -/
def newHead (s : Fin 4) (h : Fin 16) : View.Piece (Elt Ideal) S4x16x128x128 .f32 :=
  ⟨Rect.unit (s := S4x16x128x128) ![s.val, h.val, 0, 0] S1x1x128x128.size (in_new s h),
    shapeCast S1x1x128x128 (transpose S128x128 [1, 0] (shapeCast S128x128
      (View.readCov (View.whole cc0_scratch2) (stores X 16)
        (Rect.unit (s := S4x4x128x512) ![s.val, h.val / 4, 0, 128 * (h.val % 4)] S1x1x128x128.size (in_head s h)).toLoadRect : Vec Ideal S1x1x128x128 .f32)
      shapeCasts_S1x1x128x128_S128x128 : FVec Ideal S128x128 .f32) transposes_S128x128_p1_0_S128x128 : FVec Ideal S128x128 .f32)
      shapeCasts_S128x128_S1x1x128x128⟩

section
variable (m : (ℓ : Loc nD τ sig) → Buf (Elt Ideal) ℓ) (c : Dev nD) (t : Fin cfg0.N)

/-- The blocks of a point. -/
def blocks : Blocks :=
  ⟨X0_0 m c t, iblk m c 1 t, iblk m c 2 t, iblk m c 3 t, iblk m c 4 t, iblk m c 5 t, iblk m c 6 t, iblk m c 7 t, iblk m c 8 t, iblk m c 9 t,
    iblk m c 10 t, iblk m c 11 t, iblk m c 12 t⟩

end

end Cert.SsdIdeal.Hand

end
-- ==== Proof.SsdState.lean ====
/-
  What the scratches of the state-space call's point hold when they are read: the rows before a sequence, and the groups' states.
-/
module

public import proofs.«01_k».proof.Proof.SsdBody

@[expose] public section

set_option maxRecDepth 16384

noncomputable section

namespace Cert.SsdIdeal.Hand

open Cert.SsdIdeal.Gen
open Idealize.ShloMosaic Idealize.ShloMosaic.TcCoe Idealize.ShloMosaic.Tactic Idealize.ShloMosaic.Rounds

/-- A store at a group's place, read there. -/
theorem kept_here (L : List (View.Piece (Elt Ideal) S4x4x128x512 .f32)) (s g : Fin 4) (w : FVec Ideal S1x128x512 .f32) (n : Fin 128) (l : Fin 512) :
    View.canon (kept s g w :: L) (ix4 s g n l) = w (ix3 0 n l) := by
  have e : (ix4 s g n l : S4x4x128x512.Idx) = (place s g).emb (ix4 0 0 n l : (⟨4, ![1, 1, 128, 512]⟩ : Shape).Idx) := by
    funext a
    apply Fin.ext
    fin_cases a
    · change s.val = s.val + 0 + 1 * 0; omega
    · change g.val = 0 + g.val + 1 * 0; omega
    · change n.val = 0 + 0 + 1 * n.val; omega
    · change l.val = 0 + 0 + 1 * l.val; omega
  rw [e]
  unfold kept
  refine (View.canon_cons_emb (Val := Elt Ideal) (place s g) _ L _).trans ?_
  exact Rect.payAlong_consLift (Rect.unit (s := S4x128x512) ![g.val, 0, 0] S1x128x512.size (in_group g)) ![1, 4, 128, 512] rfl (by decide) w _
    (ix4 0 0 n l : (⟨4, ![1, 1, 128, 512]⟩ : Shape).Idx) (ix3 0 n l : S1x128x512.Idx) (fun i => by fin_cases i <;> rfl)

/-- Another group's place keeps what it held. -/
theorem kept_away (L : List (View.Piece (Elt Ideal) S4x4x128x512 .f32)) (s g s' g' : Fin 4) (w : FVec Ideal S1x128x512 .f32) (n : Fin 128)
    (l : Fin 512) (h : s ≠ s' ∨ g ≠ g') : View.canon (kept s g w :: L) (ix4 s' g' n l) = View.canon L (ix4 s' g' n l) := by
  refine View.canon_cons_of_not_mem _ _ fun hm => ?_
  have hm := (kept s g w).1.mem_set.mp hm
  obtain ⟨j0, h0, e0⟩ := hm 0
  obtain ⟨j1, h1, e1⟩ := hm 1
  change j0 < 1 at h0
  change j1 < 1 at h1
  change s'.val = s.val + 0 + 1 * j0 at e0
  change g'.val = 0 + g.val + 1 * j1 at e1
  rcases h with h | h
  · exact h (Fin.ext (by omega))
  · exact h (Fin.ext (by omega))

theorem held_eq (L : List (View.Piece (Elt Ideal) S4x4x128x512 .f32)) (s g : Fin 4) (n : Fin 128) (l : Fin 512) :
    held L s g (ix3 0 n l) = View.canon L (ix4 s g n l) := by
  unfold held
  rw [View.readCov_eq_canon']
  change View.canon L ((window s g).idx (Shape.reshapeEquiv _ (ix3 0 n l : S1x128x512.Idx))) = _
  congr 1
  have e := Shape.reshapeEquiv_cons_one (d := ![1, 128, 512]) rfl (ix3 0 n l : S1x128x512.Idx)
  refine (congrArg (window s g).idx e).trans ?_
  funext a
  apply Fin.ext
  fin_cases a
  · change s.val + 0 + 1 * 0 = s.val; omega
  · change 0 + g.val + 1 * 0 = g.val; omega
  · change 0 + 0 + 1 * n.val = n.val; omega
  · change 0 + 0 + 1 * l.val = l.val; omega

theorem turned_old (v : Vec Ideal S1x1x1x128x128 .f32) (n r : Fin 128) : (shapeCast S1x1x128x128 (transpose S128x128 [1, 0] (shapeCast S128x128 v
    shapeCasts_S1x1x1x128x128_S128x128 : FVec Ideal S128x128 .f32) transposes_S128x128_p1_0_S128x128 : FVec Ideal S128x128 .f32)
    shapeCasts_S128x128_S1x1x128x128 : FVec Ideal S1x1x128x128 .f32) (ix4 0 0 n r) = v (ix5 0 0 0 r n) := by
  pointwise []

theorem turned_new (v : Vec Ideal S1x1x128x128 .f32) (r n : Fin 128) : (shapeCast S1x1x128x128 (transpose S128x128 [1, 0] (shapeCast S128x128 v
    shapeCasts_S1x1x128x128_S128x128 : FVec Ideal S128x128 .f32) transposes_S128x128_p1_0_S128x128 : FVec Ideal S128x128 .f32)
    shapeCasts_S128x128_S1x1x128x128 : FVec Ideal S1x1x128x128 .f32) (ix4 0 0 r n) = v (ix4 0 0 n r) := by
  pointwise []

variable (X : Blocks)

/-- The old state of a group, as the call is given it. -/
def before (y : S4x4x128x512.Idx) : EReal :=
  X.x3 (ix5 0 ⟨(y 0).val, (y 0).isLt⟩ ⟨4 * (y 1).val + (y 3).val / 128, by have h1 : (y 1).val < 4 := (y 1).isLt; have h3 : (y 3).val < 512 := (y 3).isLt; omega⟩ ⟨(y 3).val % 128, by omega⟩ ⟨(y 2).val, (y 2).isLt⟩)

theorem oldHead_apply (s : Fin 4) (h : Fin 16) (n r : Fin 128) : (oldHead X s h).2 (ix4 0 0 n r : S1x1x128x128.Idx) = X.x3 (ix5 0 s h r n) := by
  unfold oldHead
  dsimp only
  refine (turned_old _ n r).trans ?_
  rw [View.ld_unit_apply_of X.x3 _ _ _ _ (ix5 0 s h r n) fun a => by fin_cases a <;> simp]

theorem oldHead_at (s : Fin 4) (h : Fin 16) (x : (oldHead X s h).1.shape.Idx) : (oldHead X s h).2 x = before X ((oldHead X s h).1.emb x) := by
  change S1x1x128x128.Idx at x
  idx_vars x
  obtain rfl : x0 = 0 := Subsingleton.elim _ _
  obtain rfl : x1 = 0 := Subsingleton.elim _ _
  refine (oldHead_apply X s h _ _).trans ?_
  unfold before
  congr 1
  funext a
  apply Fin.ext
  fin_cases a
  · rfl
  · change s.val = s.val + 1 * 0; omega
  · change h.val = 4 * (h.val / 4 + 1 * 0) + (128 * (h.val % 4) + 1 * x3.val) / 128; omega
  · change x3.val = (128 * (h.val % 4) + 1 * x3.val) % 128; omega
  · change x2.val = 0 + 1 * x2.val; omega

theorem first_eq (s g : Fin 4) (n : Fin 128) (l : Fin 512) : View.canon (stores X 0) (ix4 s g n l) = before X (ix4 s g n l) := by
  refine View.canon_apply_of_pieces (Val := Elt Ideal) (e := .f32) (before X) _ ?_ _ ?_
  · intro p hp x
    obtain ⟨i, rfl⟩ := List.mem_ofFn.mp hp
    exact oldHead_at X ⟨3 - i.val / 16, by omega⟩ ⟨15 - i.val % 16, by omega⟩ x
  · refine ⟨oldHead X s ⟨4 * g.val + l.val / 128, by omega⟩, ?_, ?_⟩
    · refine List.mem_ofFn.mpr ⟨⟨16 * (3 - s.val) + (15 - (4 * g.val + l.val / 128)), by omega⟩, ?_⟩
      congr 1 <;> apply Fin.ext <;> simp only [] <;> omega
    · refine (oldHead X s ⟨4 * g.val + l.val / 128, by omega⟩).1.mem_set.mpr fun a => ?_
      fin_cases a
      · exact ⟨0, Nat.one_pos, by change s.val = s.val + 1 * 0; omega⟩
      · exact ⟨0, Nat.one_pos, by change g.val = (4 * g.val + l.val / 128) / 4 + 1 * 0; omega⟩
      · exact ⟨n.val, n.isLt, by change n.val = 0 + 1 * n.val; omega⟩
      · exact ⟨l.val % 128, by change l.val % 128 < 128; omega, by change l.val = 128 * ((4 * g.val + l.val / 128) % 4) + 1 * (l.val % 128); omega⟩

/-- After `k` groups the later ones' states are the old ones. -/
theorem later_eq (s g : Fin 4) (n : Fin 128) (l : Fin 512) : ∀ k : ℕ, k ≤ 4 * s.val + g.val →
    View.canon (stores X k) (ix4 s g n l) = before X (ix4 s g n l)
  | 0, _ => first_eq X s g n l
  | k + 1, hk => by
    refine (kept_away _ _ _ _ _ _ _ _ ?_).trans (later_eq s g n l k (by omega))
    by_cases h : k / 4 % 4 = s.val
    · exact .inr fun e => absurd (congrArg Fin.val e) (by simp only []; omega)
    · exact .inl fun e => h (congrArg Fin.val e)

theorem old_eq (s g : Fin 4) (n : Fin 128) (l : Fin 512) : old X s g (ix3 0 n l) = before X (ix4 s g n l) :=
  (held_eq _ _ _ _ _).trans (later_eq X s g n l _ (le_refl _))

/-- After more than its own groups a group's state is its new one. -/
theorem earlier_eq (s g : Fin 4) (n : Fin 128) (l : Fin 512) : ∀ k : ℕ, k ≤ 16 → 4 * s.val + g.val < k →
    View.canon (stores X k) (ix4 s g n l) = update X s g (old X s g) (ix3 0 n l)
  | 0, _, h => absurd h (by omega)
  | k + 1, hk, h => by
    by_cases hl : 4 * s.val + g.val = k
    · subst hl
      have es : (⟨(4 * s.val + g.val) / 4 % 4, by omega⟩ : Fin 4) = s := Fin.ext (by simp only []; omega)
      have eg : (⟨(4 * s.val + g.val) % 4, by omega⟩ : Fin 4) = g := Fin.ext (by simp only []; omega)
      unfold stores
      rw [es, eg]
      exact kept_here _ _ _ _ _ _
    · refine (kept_away _ _ _ _ _ _ _ _ ?_).trans (earlier_eq s g n l k (by omega) (by omega))
      by_cases e : k / 4 % 4 = s.val
      · exact .inr fun e => absurd (congrArg Fin.val e) (by simp only []; omega)
      · exact .inl fun e' => e (congrArg Fin.val e')

theorem read_turned (L : List (View.Piece (Elt Ideal) S4x4x128x512 .f32)) (s : Fin 4) (h : Fin 16) (r n : Fin 128) :
    (shapeCast S1x1x128x128 (transpose S128x128 [1, 0] (shapeCast S128x128
      (View.readCov (View.whole cc0_scratch2) L
        (Rect.unit (s := S4x4x128x512) ![s.val, h.val / 4, 0, 128 * (h.val % 4)] S1x1x128x128.size (in_head s h)).toLoadRect : Vec Ideal S1x1x128x128 .f32)
      shapeCasts_S1x1x128x128_S128x128 : FVec Ideal S128x128 .f32) transposes_S128x128_p1_0_S128x128 : FVec Ideal S128x128 .f32)
      shapeCasts_S128x128_S1x1x128x128 : FVec Ideal S1x1x128x128 .f32) (ix4 0 0 r n)
    = View.canon L (ix4 s ⟨h.val / 4, by omega⟩ n ⟨128 * (h.val % 4) + r.val, by omega⟩) := by
  refine (turned_new _ r n).trans ?_
  rw [View.readCov_eq_canon']
  dsimp only
  congr 1
  funext a
  apply Fin.ext
  fin_cases a
  · change s.val + 1 * 0 = s.val; omega
  · change h.val / 4 + 1 * 0 = h.val / 4; omega
  · change 0 + 1 * n.val = n.val; omega
  · change 128 * (h.val % 4) + 1 * r.val = 128 * (h.val % 4) + r.val; omega

theorem newHead_eq (s : Fin 4) (h : Fin 16) (r n : Fin 128) : (newHead X s h).2 (ix4 0 0 r n : S1x1x128x128.Idx)
    = update X s ⟨h.val / 4, by omega⟩ (old X s ⟨h.val / 4, by omega⟩) (ix3 0 n ⟨128 * (h.val % 4) + r.val, by omega⟩) := by
  have e := earlier_eq X s ⟨h.val / 4, by omega⟩ n ⟨128 * (h.val % 4) + r.val, by omega⟩ 16 (le_refl _) (by simp only []; omega)
  rw [← e]
  unfold newHead
  dsimp only
  generalize stores X 16 = L
  exact read_turned L s h r n

/-- A group's new state, as the call returns it. -/
def after (y : S4x16x128x128.Idx) : EReal :=
  update X ⟨(y 0).val, (y 0).isLt⟩ ⟨(y 1).val / 4, by have h1 : (y 1).val < 16 := (y 1).isLt; omega⟩
    (old X ⟨(y 0).val, (y 0).isLt⟩ ⟨(y 1).val / 4, by have h1 : (y 1).val < 16 := (y 1).isLt; omega⟩)
    (ix3 0 ⟨(y 3).val, (y 3).isLt⟩ ⟨128 * ((y 1).val % 4) + (y 2).val, by have h2 : (y 2).val < 128 := (y 2).isLt; omega⟩)

theorem newHead_at (s : Fin 4) (h : Fin 16) (x : (newHead X s h).1.shape.Idx) : (newHead X s h).2 x = after X ((newHead X s h).1.emb x) := by
  change S1x1x128x128.Idx at x
  idx_vars x
  obtain rfl : x0 = 0 := Subsingleton.elim _ _
  obtain rfl : x1 = 0 := Subsingleton.elim _ _
  refine (newHead_eq X s h _ _).trans ?_
  have e : (newHead X s h).1.emb (ix4 0 0 x2 x3 : S1x1x128x128.Idx) = ix4 s h x2 x3 := by
    funext a
    apply Fin.ext
    fin_cases a
    · change s.val + 1 * 0 = s.val; omega
    · change h.val + 1 * 0 = h.val; omega
    · change 0 + 1 * x2.val = x2.val; omega
    · change 0 + 1 * x3.val = x3.val; omega
  rw [e]
  rfl

theorem states_eq (s : Fin 4) (h : Fin 16) (r n : Fin 128) :
    View.canon (List.ofFn fun i : Fin 64 => newHead X ⟨3 - i.val / 16, by omega⟩ ⟨15 - i.val % 16, by omega⟩) (ix4 s h r n)
      = update X s ⟨h.val / 4, by omega⟩ (old X s ⟨h.val / 4, by omega⟩) (ix3 0 n ⟨128 * (h.val % 4) + r.val, by omega⟩) := by
  refine (View.canon_apply_of_pieces (Val := Elt Ideal) (e := .f32) (after X) _ ?_ _ ?_).trans rfl
  · intro p hp x
    obtain ⟨i, rfl⟩ := List.mem_ofFn.mp hp
    exact newHead_at X ⟨3 - i.val / 16, by omega⟩ ⟨15 - i.val % 16, by omega⟩ x
  · refine ⟨newHead X s h, ?_, ?_⟩
    · refine List.mem_ofFn.mpr ⟨⟨16 * (3 - s.val) + (15 - h.val), by omega⟩, ?_⟩
      congr 1 <;> apply Fin.ext <;> simp only [] <;> omega
    · refine (newHead X s h).1.mem_set.mpr fun a => ?_
      fin_cases a
      · exact ⟨0, Nat.one_pos, by change s.val = s.val + 1 * 0; omega⟩
      · exact ⟨0, Nat.one_pos, by change h.val = h.val + 1 * 0; omega⟩
      · exact ⟨r.val, r.isLt, by change r.val = 0 + 1 * r.val; omega⟩
      · exact ⟨n.val, n.isLt, by change n.val = 0 + 1 * n.val; omega⟩

/-! ### The rows before a sequence -/

/-- A store of one sequence's rows, `o` rows from its first one, read at one of them. -/
theorem rows_here {R D K : ℕ} {e : EltTy} (s : Fin 4) (o : ℕ) (hi : ∀ a, (![s.val, o, 0] : Fin 3 → ℕ) a + (![1, K, D] : Fin 3 → ℕ) a ≤ (⟨3, ![4, R, D]⟩ : Shape).size a)
    (w : (⟨3, ![1, K, D]⟩ : Shape).Idx → Elt Ideal e) (L : List (View.Piece (Elt Ideal) ⟨3, ![4, R, D]⟩ e)) (k : Fin K) (hk : o + k.val < R) (l : Fin D) :
    View.canon (⟨Rect.unit (s := ⟨3, ![4, R, D]⟩) ![s.val, o, 0] ![1, K, D] hi, w⟩ :: L) (ix3 s ⟨o + k.val, hk⟩ l) = w (ix3 0 k l) := by
  have e : (ix3 s ⟨o + k.val, hk⟩ l : (⟨3, ![4, R, D]⟩ : Shape).Idx)
      = (Rect.unit (s := ⟨3, ![4, R, D]⟩) ![s.val, o, 0] ![1, K, D] hi).emb (ix3 0 k l : (⟨3, ![1, K, D]⟩ : Shape).Idx) := by
    funext a
    apply Fin.ext
    fin_cases a
    · change s.val = s.val + 1 * 0; omega
    · change o + k.val = o + 1 * k.val; omega
    · change l.val = 0 + 1 * l.val; omega
  rw [e]
  exact View.canon_cons_emb (Val := Elt Ideal) (Rect.unit (s := ⟨3, ![4, R, D]⟩) ![s.val, o, 0] ![1, K, D] hi) w L (ix3 0 k l : (⟨3, ![1, K, D]⟩ : Shape).Idx)

/-- Another sequence's rows keep what they held. -/
theorem rows_away {R D K : ℕ} {e : EltTy} (s s' : Fin 4) (h : s ≠ s') (o : ℕ) (hi : ∀ a, (![s.val, o, 0] : Fin 3 → ℕ) a + (![1, K, D] : Fin 3 → ℕ) a ≤ (⟨3, ![4, R, D]⟩ : Shape).size a)
    (w : (⟨3, ![1, K, D]⟩ : Shape).Idx → Elt Ideal e) (L : List (View.Piece (Elt Ideal) ⟨3, ![4, R, D]⟩ e)) (k : Fin R) (l : Fin D) :
    View.canon (⟨Rect.unit (s := ⟨3, ![4, R, D]⟩) ![s.val, o, 0] ![1, K, D] hi, w⟩ :: L) (ix3 s' k l) = View.canon L (ix3 s' k l) := by
  refine View.canon_cons_of_not_mem _ _ fun hm => ?_
  have hm := (Rect.unit (s := ⟨3, ![4, R, D]⟩) ![s.val, o, 0] ![1, K, D] hi).mem_set.mp hm
  obtain ⟨j0, h0, e0⟩ := hm 0
  change j0 < 1 at h0
  change s'.val = s.val + 1 * j0 at e0
  exact h (Fin.ext (by omega))

theorem carried_apply (s : Fin 4) (k : Fin 16) (l : Fin 3072) : (carried X s).2 (ix3 0 k l : S1x16x3072.Idx) = X.x2 (ix3 s k l) := by
  have e : ∀ v : Vec Ideal S1x16x3072 .f32, (shapeCast S1x16x3072 (truncf .bf16 (shapeCast S16x3072 v shapeCasts_S1x16x3072_S16x3072
      : FVec Ideal S16x3072 .f32) bitsLt_bf16_f32 : FVec Ideal S16x3072 .bf16) shapeCasts_S16x3072_S1x16x3072 : FVec Ideal S1x16x3072 .bf16) (ix3 0 k l)
      = v (ix3 0 k l) := fun v => by pointwise []
  unfold carried
  dsimp only
  refine (e _).trans ?_
  rw [View.ld_unit_apply_of X.x2 _ _ _ _ (ix3 s k l) fun a => by fin_cases a <;> simp]

theorem carried_here (L : List (View.Piece (Elt Ideal) S4x64x3072 .bf16)) (s : Fin 4) (k : Fin 16) (l : Fin 3072) :
    View.canon (carried X s :: L) (ix3 s ⟨48 + k.val, by omega⟩ l) = X.x2 (ix3 s k l) :=
  (rows_here s 48 (in_last s) (carried X s).2 L k _ l).trans (carried_apply X s k l)

theorem carried_away (L : List (View.Piece (Elt Ideal) S4x64x3072 .bf16)) (s s' : Fin 4) (h : s ≠ s') (k : Fin 64) (l : Fin 3072) :
    View.canon (carried X s :: L) (ix3 s' k l) = View.canon L (ix3 s' k l) :=
  rows_away s s' h 48 (in_last s) (carried X s).2 L k l

theorem cleared_away (L : List (View.Piece (Elt Ideal) S4x64x3072 .bf16)) (s s' : Fin 4) (h : s ≠ s') (k : Fin 64) (l : Fin 3072) :
    View.canon (cleared s :: L) (ix3 s' k l) = View.canon L (ix3 s' k l) :=
  rows_away s s' h 0 (in_rows s) (cleared s).2 L k l

theorem rowsBefore_eq (s : Fin 4) (k : Fin 16) (l : Fin 3072) : ∀ j : ℕ, j ≤ s.val →
    View.canon (rowsBefore X j) (ix3 s ⟨48 + k.val, by omega⟩ l) = X.x2 (ix3 s k l)
  | 0, _ => by
    unfold rowsBefore
    by_cases h3 : s = ⟨3, by decide⟩
    · subst h3; exact carried_here X _ _ k l
    refine (carried_away X _ _ _ (Ne.symm h3) _ l).trans ((cleared_away _ _ _ (Ne.symm h3) _ l).trans ?_)
    by_cases h2 : s = ⟨2, by decide⟩
    · subst h2; exact carried_here X _ _ k l
    refine (carried_away X _ _ _ (Ne.symm h2) _ l).trans ((cleared_away _ _ _ (Ne.symm h2) _ l).trans ?_)
    by_cases h1 : s = ⟨1, by decide⟩
    · subst h1; exact carried_here X _ _ k l
    refine (carried_away X _ _ _ (Ne.symm h1) _ l).trans ((cleared_away _ _ _ (Ne.symm h1) _ l).trans ?_)
    obtain rfl : s = ⟨0, by decide⟩ := by
      have a3 : s.val ≠ 3 := fun h => h3 (Fin.ext h)
      have a2 : s.val ≠ 2 := fun h => h2 (Fin.ext h)
      have a1 : s.val ≠ 1 := fun h => h1 (Fin.ext h)
      exact Fin.ext (by simp only []; omega)
    exact carried_here X _ _ k l
  | j + 1, hj => by
    unfold rowsBefore
    refine (rows_away ⟨j % 4, by omega⟩ s (fun e => absurd (congrArg Fin.val e) (by simp only []; omega)) 0 (in_rows _) _ _ _ l).trans ?_
    exact rowsBefore_eq s k l j (by omega)

theorem prev_eq (s : Fin 4) (k : Fin 16) (l : Fin 3072) : prev X s (ix3 0 ⟨48 + k.val, by omega⟩ l) = X.x2 (ix3 s k l) := by
  refine Eq.trans ?_ (rowsBefore_eq X s k l s.val (le_refl _))
  unfold prev
  rw [View.readCov_eq_canon']
  dsimp only
  congr 1
  funext a
  apply Fin.ext
  fin_cases a
  · change s.val + 1 * 0 = s.val; omega
  · change 0 + 1 * (48 + k.val) = 48 + k.val; omega
  · change 0 + 1 * l.val = l.val; omega

/-! ### The other two results -/

theorem tail_here (s : Fin 4) (w : Vec Ideal S1x16x3072 .f32) (L : List (View.Piece (Elt Ideal) S4x16x3072 .f32)) (k : Fin 3) (l : Fin 3072) :
    View.readCov (View.whole cc0_scratch1) (⟨Rect.unit (s := S4x16x3072) ![s.val, 0, 0] S1x16x3072.size (in_put s), w⟩ :: L)
      (Rect.unit (s := S4x16x3072) ![s.val, 13, 0] S1x3x3072.size (in_get s)).toLoadRect (ix3 0 k l : S1x3x3072.Idx) = w (ix3 0 ⟨13 + k.val, by omega⟩ l) := by
  rw [View.readCov_eq_canon']
  refine Eq.trans ?_ (rows_here s 0 (in_put s) w L (⟨13 + k.val, by omega⟩ : Fin 16) (by simp only []; omega) l)
  dsimp only
  congr 1
  funext a
  apply Fin.ext
  fin_cases a
  · change s.val + 1 * 0 = s.val; omega
  · change 13 + 1 * k.val = 0 + (13 + k.val); omega
  · change 0 + 1 * l.val = l.val; omega

theorem tail_in (v : Vec Ideal S1x16x3072 .bf16) (j : Fin 16) (l : Fin 3072) : k0_pay84 v (ix3 0 j l) = v (ix3 0 j l) := by
  pointwise [k0_pay84]

theorem tail_out (v : Vec Ideal S1x3x3072 .f32) (k : Fin 3) (l : Fin 3072) : k0_pay85 v (ix3 0 k l) = v (ix3 0 k l) := by
  pointwise [k0_pay85]

theorem tails_succ (s : Fin 4) : tails X (s.val + 1) = ⟨Rect.unit (s := S4x16x3072) ![s.val, 0, 0] S1x16x3072.size (in_put s),
    k0_pay84 (View.ld (Val := Elt Ideal) X.x0 (Rect.unit (s := S4x64x5120) ![s.val, 48, 0] S1x16x3072.size (in_tail s)))⟩ :: tails X s.val := by
  fin_cases s <;> rfl

/-- A sequence's last three convolution inputs. -/
def tailValue (s : Fin 4) : Vec Ideal S1x3x3072 .f32 :=
  k0_pay85 (View.readCov (View.whole cc0_scratch1) (tails X (s.val + 1)) (Rect.unit (s := S4x16x3072) ![s.val, 13, 0] S1x3x3072.size (in_get s)).toLoadRect)

theorem tailPiece_eq (s : Fin 4) : tailPiece X s = ⟨Rect.unit (s := S4x3x3072) ![s.val, 0, 0] S1x3x3072.size (in_out s), tailValue X s⟩ := by
  unfold tailPiece tailValue
  rfl

theorem tailValue_apply (s : Fin 4) (k : Fin 3) (l : Fin 3072) : tailValue X s (ix3 0 k l)
    = X.x0 (ix3 s ⟨61 + k.val, by omega⟩ ⟨l.val, by omega⟩) := by
  unfold tailValue
  rw [tails_succ]
  refine (tail_out _ k l).trans ((tail_here s _ _ k l).trans ((tail_in _ _ _).trans ?_))
  rw [View.ld_unit_apply_of X.x0 _ _ _ _ (ix3 s ⟨61 + k.val, by omega⟩ ⟨l.val, by omega⟩) fun a => by fin_cases a <;> simp <;> omega]

/-- Four stores, one of each sequence's rows, read at a sequence's row. -/
theorem four_eq {R D : ℕ} {e : EltTy} (f : (s : Fin 4) → (⟨3, ![1, R, D]⟩ : Shape).Idx → Elt Ideal e)
    (hi : ∀ s : Fin 4, ∀ a, (![s.val, 0, 0] : Fin 3 → ℕ) a + (![1, R, D] : Fin 3 → ℕ) a ≤ (⟨3, ![4, R, D]⟩ : Shape).size a)
    (P : Fin 4 → View.Piece (Elt Ideal) ⟨3, ![4, R, D]⟩ e) (hP : ∀ s, P s = ⟨Rect.unit (s := ⟨3, ![4, R, D]⟩) ![s.val, 0, 0] ![1, R, D] (hi s), f s⟩)
    (s : Fin 4) (k : Fin R) (l : Fin D) :
    View.canon [P ⟨3, by omega⟩, P ⟨2, by omega⟩, P ⟨1, by omega⟩, P ⟨0, by omega⟩] (ix3 s k l) = f s (ix3 0 k l) := by
  have hx : ∀ (j : Fin 4) (x : (⟨3, ![1, R, D]⟩ : Shape).Idx), f j x
      = (fun y : (⟨3, ![4, R, D]⟩ : Shape).Idx => f ⟨(y 0).val, (y 0).isLt⟩ (ix3 0 ⟨(y 1).val, (y 1).isLt⟩ ⟨(y 2).val, (y 2).isLt⟩))
        ((Rect.unit (s := ⟨3, ![4, R, D]⟩) ![j.val, 0, 0] ![1, R, D] (hi j)).emb x) := by
    intro j x
    obtain ⟨x0, x1, x2, rfl⟩ : ∃ (a : Fin 1) (b : Fin R) (c : Fin D), x = ix3 a b c := ⟨x 0, x 1, x 2, by funext a; fin_cases a <;> rfl⟩
    obtain rfl : x0 = 0 := Subsingleton.elim _ _
    have e0 : (⟨j.val + 1 * 0, by omega⟩ : Fin 4) = j := Fin.ext (by simp)
    have e1 : (⟨0 + 1 * x1.val, by omega⟩ : Fin R) = x1 := Fin.ext (by simp)
    have e2 : (⟨0 + 1 * x2.val, by omega⟩ : Fin D) = x2 := Fin.ext (by simp)
    change f j (ix3 0 x1 x2) = f ⟨j.val + 1 * 0, _⟩ (ix3 0 ⟨0 + 1 * x1.val, _⟩ ⟨0 + 1 * x2.val, _⟩)
    rw [e0, e1, e2]
  refine (View.canon_apply_of_pieces (Val := Elt Ideal) (e := e) (fun y => f ⟨(y 0).val, (y 0).isLt⟩ (ix3 0 ⟨(y 1).val, (y 1).isLt⟩ ⟨(y 2).val, (y 2).isLt⟩)) _ ?_ _ ?_).trans rfl
  · intro p hp
    obtain ⟨j, rfl⟩ : ∃ j, p = P j := by
      simp only [List.mem_cons, List.not_mem_nil, or_false] at hp
      rcases hp with h | h | h | h <;> exact ⟨_, h⟩
    rw [hP]
    exact hx j
  · refine ⟨P s, ?_, ?_⟩
    · fin_cases s <;> simp
    · rw [hP]
      refine (Rect.unit (s := ⟨3, ![4, R, D]⟩) ![s.val, 0, 0] ![1, R, D] (hi s)).mem_set.mpr fun a => ?_
      fin_cases a
      · exact ⟨0, Nat.one_pos, by change s.val = s.val + 1 * 0; omega⟩
      · exact ⟨k.val, k.isLt, by change k.val = 0 + 1 * k.val; omega⟩
      · exact ⟨l.val, l.isLt, by change l.val = 0 + 1 * l.val; omega⟩

theorem results_eq (s : Fin 4) (t : Fin 64) (l : Fin 2048) :
    View.canon [resultPiece X ⟨3, by omega⟩, resultPiece X ⟨2, by omega⟩, resultPiece X ⟨1, by omega⟩, resultPiece X ⟨0, by omega⟩] (ix3 s t l)
      = results X s (ix3 0 t l) :=
  four_eq (results X) in_y (resultPiece X) (fun _ => rfl) s t l

theorem conv_tails_eq (s : Fin 4) (k : Fin 3) (l : Fin 3072) :
    View.canon [tailPiece X ⟨3, by omega⟩, tailPiece X ⟨2, by omega⟩, tailPiece X ⟨1, by omega⟩, tailPiece X ⟨0, by omega⟩] (ix3 s k l)
      = X.x0 (ix3 s ⟨61 + k.val, by omega⟩ ⟨l.val, by omega⟩) := by
  refine Eq.trans ?_ (tailValue_apply X s k l)
  exact four_eq (R := 3) (D := 3072) (e := .f32) (tailValue X) in_out (tailPiece X) (tailPiece_eq X) s k l

end Cert.SsdIdeal.Hand
end
-- ==== Proof.SsdPoint.lean ====
/-
  The parts of a point of the state-space call at an index, over the extended reals.
-/
module

public import proofs.«01_k».proof.Proof.SsdBody

@[expose] public section

set_option maxRecDepth 16384

noncomputable section

namespace Cert.SsdIdeal.Hand

open Cert.SsdIdeal.Gen Cert.Proof.Scan
open Idealize.ShloMosaic Idealize.ShloMosaic.TcCoe Idealize.ShloMosaic.Tactic Idealize.ShloMosaic.Rounds

theorem sums_eq (tri : Vec Ideal S64x64 .bf16) (da : FVec Ideal S64x128 .f32) (t : Fin 64) (h : Fin 128) :
    sums tri da (ix2 t h) = (∑ s : Fin 64, tri (ix2 t s) * da (ix2 s h)) + (∑ s : Fin 64, tri (ix2 t s) * (da (ix2 s h) - da (ix2 s h)))
      + (∑ s : Fin 64, tri (ix2 t s) * ((da (ix2 s h) - da (ix2 s h)) - (da (ix2 s h) - da (ix2 s h)))) := by
  pointwise [sums, k0_pay174, k0_pay171]

theorem wide_first (tri : Vec Ideal S64x64 .bf16) (rep : Vec Ideal S128x2048 .bf16) (dt da : FVec Ideal S64x128 .f32) (t : Fin 64) (l : Fin 2048) :
    wide tri rep dt da (ix2 ⟨t.val, by omega⟩ l) = (∑ k : Fin 128, Ideal.exp (sums tri da (ix2 t k)) * rep (ix2 k l))
      + ∑ k : Fin 128, (Ideal.exp (sums tri da (ix2 t k)) - Ideal.exp (sums tri da (ix2 t k))) * rep (ix2 k l) := by
  pointwise [wide, k0_pay177, k0_pay176]
  rfl

theorem wide_second (tri : Vec Ideal S64x64 .bf16) (rep : Vec Ideal S128x2048 .bf16) (dt da : FVec Ideal S64x128 .f32) (t : Fin 64) (l : Fin 2048) :
    wide tri rep dt da (ix2 ⟨64 + t.val, by omega⟩ l)
      = (∑ k : Fin 128, (dt (ix2 t k) * Ideal.exp (sums tri da (ix2 63 k) - sums tri da (ix2 t k))) * rep (ix2 k l))
      + ∑ k : Fin 128, (dt (ix2 t k) * Ideal.exp (sums tri da (ix2 63 k) - sums tri da (ix2 t k))
        - dt (ix2 t k) * Ideal.exp (sums tri da (ix2 63 k) - sums tri da (ix2 t k))) * rep (ix2 k l) := by
  pointwise [wide, k0_pay177, k0_pay176, k0_pay175]
  rfl

theorem whole_eq (tri : Vec Ideal S64x64 .bf16) (rep : Vec Ideal S128x2048 .bf16) (da : FVec Ideal S64x128 .f32) (l : Fin 2048) :
    whole tri rep da (ix2 0 l) = (∑ k : Fin 128, Ideal.exp (sums tri da (ix2 63 k)) * rep (ix2 k l))
      + ∑ k : Fin 128, (Ideal.exp (sums tri da (ix2 63 k)) - Ideal.exp (sums tri da (ix2 63 k))) * rep (ix2 k l) := by
  pointwise [whole, k0_pay179, k0_pay176, k0_pay175]
  rfl

theorem sources_eq (tri : Vec Ideal S64x64 .bf16) (dt da : FVec Ideal S64x128 .f32) (h : Fin 128) (s : Fin 64) :
    sources tri dt da (ix2 h s) = sums tri da (ix2 s h) - Ideal.log (dt (ix2 s h)) := by
  pointwise [sources, k0_pay181]
  rfl

theorem scores_eq (xc : FVec Ideal S64x3072 .f32) (g : Fin 4) (t s : Fin 64) :
    scores xc g (ix2 t s) = ∑ n : Fin 128, xc (ix2 t ⟨2560 + 128 * g.val + n.val, by omega⟩) * xc (ix2 s ⟨2048 + 128 * g.val + n.val, by omega⟩) := by
  pointwise [scores, queries, keys]

theorem fromState_eq (xc : FVec Ideal S64x3072 .f32) (wd : FVec Ideal S128x2048 .f32) (st : Vec Ideal S1x128x512 .f32) (g : Fin 4) (t : Fin 64)
    (l : Fin 512) : fromState xc wd st g (ix2 t l)
      = (∑ n : Fin 128, xc (ix2 t ⟨2560 + 128 * g.val + n.val, by omega⟩) * st (ix3 0 n l)) * wd (ix2 ⟨t.val, by omega⟩ ⟨512 * g.val + l.val, by omega⟩) := by
  pointwise [fromState, queries]

theorem newState_eq (xc : FVec Ideal S64x3072 .f32) (wd : FVec Ideal S128x2048 .f32) (wh : FVec Ideal S1x2048 .f32) (st : Vec Ideal S1x128x512 .f32)
    (g : Fin 4) (n : Fin 128) (l : Fin 512) : newState xc wd wh st g (ix3 0 n l)
      = st (ix3 0 n l) * wh (ix2 0 ⟨512 * g.val + l.val, by omega⟩)
        + ∑ s : Fin 64, xc (ix2 s ⟨2048 + 128 * g.val + n.val, by omega⟩) * (xc (ix2 s ⟨512 * g.val + l.val, by omega⟩)
          * wd (ix2 ⟨64 + s.val, by omega⟩ ⟨512 * g.val + l.val, by omega⟩)) := by
  pointwise [newState, keys]

theorem below : ∀ t s : Fin 64, IntOp.cmpi .sge (BitVec.ofNat 32 t.val) (BitVec.ofNat 32 s.val) = if s.val ≤ t.val then 1#1 else 0#1 := by
  decide +kernel

theorem bits_bot : Ideal.ofBits .f32 0xFF800000#32 = ⊥ := by simp [Ideal.ofBits, Ideal.ieee]

theorem decayed_eq (cb : FVec Ideal S64x64 .f32) (cum : FVec Ideal S64x128 .f32) (src : FVec Ideal S128x64 .f32) (h : Fin 32) (t s : Fin 64) :
    decayed cb cum src h (ix2 t s) = cb (ix2 t s) * Ideal.exp (if s.val ≤ t.val then cum (ix2 t ⟨h.val, by omega⟩) - src (ix2 ⟨h.val, by omega⟩ s) else ⊥) := by
  pointwise [decayed, k0_pay170]
  rw [below, bits_bot]
  split <;> rfl

theorem normed_eq (y : FVec Ideal S64x2048 .f32) (g : Fin 4) (t : Fin 64) (l : Fin 512) :
    normed y g (ix2 t l) = y (ix2 t ⟨512 * g.val + l.val, by omega⟩) * Ideal.rsqrt (Ideal.div (∑ k : Fin 512, y (ix2 t ⟨512 * g.val + k.val, by omega⟩)
      * y (ix2 t ⟨512 * g.val + k.val, by omega⟩)) (Ideal.ofBits .f32 0x44000000#32) + Ideal.ofBits .f32 0x358637BD#32) := by
  pointwise [normed]

theorem left_half : ∀ l : Fin 128, IntOp.cmpi .slt (BitVec.ofNat 32 l.val) 64#32 = if l.val / 64 = 0 then 1#1 else 0#1 := by decide +kernel

theorem pair_eq (xc : FVec Ideal S64x3072 .f32) (cum : FVec Ideal S64x128 .f32) (src : FVec Ideal S128x64 .f32) (wd : FVec Ideal S128x2048 .f32)
    (st : Vec Ideal S1x128x512 .f32) (p : Fin 16) (t : Fin 64) (l : Fin 128) : pair xc cum src wd st p (ix2 t l)
      = (∑ s : Fin 64, decayed (scores xc ⟨p.val / 4, by omega⟩) cum src ⟨2 * p.val + l.val / 64, by omega⟩ (ix2 t s)
          * xc (ix2 s ⟨128 * p.val + l.val, by omega⟩))
        + fromState xc wd st ⟨p.val / 4, by omega⟩ (ix2 t ⟨128 * (p.val % 4) + l.val, by omega⟩) := by
  unfold pair
  generalize scores xc _ = cb
  generalize fromState xc wd st _ = y
  generalize hA : decayed cb cum src ⟨2 * p.val, _⟩ = A
  generalize hB : decayed cb cum src ⟨2 * p.val + 1, _⟩ = B
  pointwise [k0_pay182]
  rw [left_half]
  have hl : l.val / 64 = 0 ∨ l.val / 64 = 1 := by omega
  rcases hl with h | h
  · simp only [h, if_true]
    subst hA
    rfl
  · simp only [h, if_false]
    subst hB
    rfl

theorem joined_pairs (ps : Fin 16 → FVec Ideal S64x128 .f32) (t : Fin 64) (l : Fin 2048) :
    concatenate S64x2048 1 (List.ofFn fun p : Fin 16 => (⟨S64x128, ps p⟩ : (s : Shape) × (s.Idx → EReal)))
        concatenates_S64x128_S64x128_S64x128_S64x128_S64x128_S64x128_S64x128_S64x128_S64x128_S64x128_S64x128_S64x128_S64x128_S64x128_S64x128_S64x128_S64x2048_d1
        (ix2 t l) = ps ⟨l.val / 128, by omega⟩ (ix2 t ⟨l.val % 128, by omega⟩) :=
  concatenate_ofFn_apply 1 (fun p : Fin 16 => ps p)
    concatenates_S64x128_S64x128_S64x128_S64x128_S64x128_S64x128_S64x128_S64x128_S64x128_S64x128_S64x128_S64x128_S64x128_S64x128_S64x128_S64x128_S64x2048_d1
    rfl 128 rfl (ix2 t l : S64x2048.Idx) ⟨l.val / 128, by omega⟩ rfl (ix2 t ⟨l.val % 128, by omega⟩ : S64x128.Idx) rfl
    (fun b hb => by fin_cases b <;> first | rfl | exact absurd rfl hb)

theorem joined_groups (ps : Fin 4 → FVec Ideal S64x512 .f32) (t : Fin 64) (l : Fin 2048) :
    concatenate S64x2048 1 (List.ofFn fun p : Fin 4 => (⟨S64x512, ps p⟩ : (s : Shape) × (s.Idx → EReal)))
        concatenates_S64x512_S64x512_S64x512_S64x512_S64x2048_d1 (ix2 t l) = ps ⟨l.val / 512, by omega⟩ (ix2 t ⟨l.val % 512, by omega⟩) :=
  concatenate_ofFn_apply 1 (fun p : Fin 4 => ps p) concatenates_S64x512_S64x512_S64x512_S64x512_S64x2048_d1
    rfl 512 rfl (ix2 t l : S64x2048.Idx) ⟨l.val / 512, by omega⟩ rfl (ix2 t ⟨l.val % 512, by omega⟩ : S64x512.Idx) rfl
    (fun b hb => by fin_cases b <;> first | rfl | exact absurd rfl hb)

theorem gated_eq (xc : FVec Ideal S64x3072 .f32) (ps : Fin 16 → FVec Ideal S64x128 .f32) (skip : Vec Ideal S1x2048 .f32) (z : Vec Ideal S1x64x2048 .bf16)
    (t : Fin 64) (l : Fin 2048) : gated xc ps skip z (ix2 t l)
      = (ps ⟨l.val / 128, by omega⟩ (ix2 t ⟨l.val % 128, by omega⟩) + xc (ix2 t ⟨l.val, by omega⟩) * skip (ix2 0 l))
        * (z (ix3 0 t l) * Ideal.logistic (z (ix3 0 t l))) := by
  rw [← joined_pairs ps t l]
  unfold gated
  generalize concatenate S64x2048 1 (List.ofFn fun p : Fin 16 => (⟨S64x128, ps p⟩ : (s : Shape) × (s.Idx → EReal))) _ = C
  pointwise []

theorem final_eq (y : FVec Ideal S64x2048 .f32) (norm : Vec Ideal S1x2048 .f32) (t : Fin 64) (l : Fin 2048) : final y norm (ix3 0 t l)
      = normed y ⟨l.val / 512, by omega⟩ (ix2 t ⟨l.val % 512, by omega⟩) * norm (ix2 0 l) := by
  rw [← joined_groups (normed y) t l]
  unfold final
  generalize concatenate S64x2048 1 (List.ofFn fun g : Fin 4 => (⟨S64x512, normed y g⟩ : (s : Shape) × (s.Idx → EReal))) _ = C
  pointwise []

/-- A sequence's inputs under the 64 rows before them. -/
def stacked (c p : Vec Ideal S1x64x3072 .bf16) : FVec Ideal S128x3072 .bf16 :=
  concatenate S128x3072 0 [⟨S64x3072, shapeCast S64x3072 p shapeCasts_S1x64x3072_S64x3072⟩, ⟨S64x3072, k0_pay160 c⟩]
    concatenates_S64x3072_S64x3072_S128x3072_d0

theorem stacked_first (c p : Vec Ideal S1x64x3072 .bf16) (t : Fin 64) (l : Fin 3072) : stacked c p (ix2 ⟨t.val, by omega⟩ l) = p (ix3 0 t l) := by
  pointwise [stacked]
theorem stacked_second (c p : Vec Ideal S1x64x3072 .bf16) (t : Fin 64) (l : Fin 3072) :
    stacked c p (ix2 ⟨64 + t.val, by omega⟩ l) = c (ix3 0 t l) := by
  pointwise [stacked, k0_pay160]

theorem conv_eq (c p : Vec Ideal S1x64x3072 .bf16) (x11 : Vec Ideal S192x128 .bf16) (b w0 w1 w2 w3 : Vec Ideal S1x3072 .f32) (t : Fin 64) (l : Fin 3072)
    (q : EReal) (hq : q = (b (ix2 0 l) + (∑ j : Fin 128, x11 (ix2 ⟨t.val, by omega⟩ j) * stacked c p (ix2 j l)) * w0 (ix2 0 l)
      + (∑ j : Fin 128, x11 (ix2 ⟨64 + t.val, by omega⟩ j) * stacked c p (ix2 j l)) * w1 (ix2 0 l)
      + (∑ j : Fin 128, x11 (ix2 ⟨128 + t.val, by omega⟩ j) * stacked c p (ix2 j l)) * w2 (ix2 0 l)) + c (ix3 0 t l) * w3 (ix2 0 l)) :
    k0_pay165 (k0_pay161 c p x11 b w0 w1 w2) (k0_pay162 c) (k0_pay163 w3) (ix2 t l) = q * Ideal.logistic q := by
  subst hq
  have h : k0_pay161 c p x11 b w0 w1 w2 (ix2 t l) = b (ix2 0 l) + (∑ j : Fin 128, x11 (ix2 ⟨t.val, by omega⟩ j) * stacked c p (ix2 j l)) * w0 (ix2 0 l)
      + (∑ j : Fin 128, x11 (ix2 ⟨64 + t.val, by omega⟩ j) * stacked c p (ix2 j l)) * w1 (ix2 0 l)
      + (∑ j : Fin 128, x11 (ix2 ⟨128 + t.val, by omega⟩ j) * stacked c p (ix2 j l)) * w2 (ix2 0 l) := by
    dsimp only [k0_pay161]
    change (addf _ _ : FVec Ideal S64x3072 .f32) (ix2 t l) = _
    generalize hC : concatenate S128x3072 0 _ _ = C
    have hC' : stacked c p = C := hC
    rw [hC']
    pointwise []
  rw [← h]
  pointwise [k0_pay165, k0_pay162, k0_pay163, k0_pay160]

theorem lengths_eq (x : Vec Ideal S1x64x128 .f32) (b : Vec Ideal S1x128 .f32) (t : Fin 64) (h : Fin 128) :
    k0_pay168 x b (ix2 t h) = softplus (x (ix3 0 t h) + b (ix2 0 h)) := by
  pointwise [k0_pay168]
  rw [if_neg (not_not.mpr rfl), zero_sub]
  rfl

theorem rates_eq (x : Vec Ideal S1x64x128 .f32) (b a : Vec Ideal S1x128 .f32) (t : Fin 64) (h : Fin 128) :
    k0_pay169 x b a (ix2 t h) = k0_pay168 x b (ix2 t h) * -Ideal.exp (a (ix2 0 h)) := by
  pointwise [k0_pay169]
  rw [zero_sub]

end Cert.SsdIdeal.Hand
end
-- ==== Proof.SsdItem.lean ====
/-
  One sequence of the state-space call at an index: the step that the call and the reference both compute.
-/
module

public import proofs.«01_k».proof.Proof.Scan

@[expose] public section

noncomputable section

namespace Cert.Proof.Scan

open Idealize.ShloMosaic

/-- `x` times its logistic. -/
def act (x : EReal) : EReal := x * Ideal.logistic x

/-- One sequence: its 64 convolution inputs under the three before them, its steps before their bias, its gate and its old state (by channel),
    and the layer's parameters. -/
structure Item where
  inputs : Fin 67 → Fin 3072 → EReal
  raw : Fin 64 → Fin 32 → EReal
  gate : Fin 64 → Fin 2048 → EReal
  state : Fin 2048 → Fin 128 → EReal
  weight : Fin 4 → Fin 3072 → EReal
  offset : Fin 3072 → EReal
  bias : Fin 32 → EReal
  rate : Fin 32 → EReal
  skip : Fin 32 → EReal
  scale : Fin 2048 → EReal

namespace Item

variable (I : Item)

/-- The convolution before its activation. -/
def mixed (t : Fin 64) (l : Fin 3072) : EReal :=
  I.offset l + I.inputs ⟨t.val, by omega⟩ l * I.weight 0 l + I.inputs ⟨t.val + 1, by omega⟩ l * I.weight 1 l
    + I.inputs ⟨t.val + 2, by omega⟩ l * I.weight 2 l + I.inputs ⟨t.val + 3, by omega⟩ l * I.weight 3 l

/-- The convolution. -/
def conv (t : Fin 64) (l : Fin 3072) : EReal := act (I.mixed t l)

/-- The length of a step. -/
def length (t : Fin 64) (h : Fin 32) : EReal := softplus (I.raw t h + I.bias h)

/-- The rate of a head's decay. -/
def decay (h : Fin 32) : EReal := -Ideal.exp (I.rate h)

/-- A head's exponents, summed up to a step. -/
def total (h : Fin 32) (t : Fin 64) : EReal := upto (fun s => I.length s h * I.decay h) t

/-- A channel's head, and its group. -/
def head (l : Fin 2048) : Fin 32 := ⟨l.val / 64, by omega⟩
def group (l : Fin 2048) : Fin 4 := ⟨l.val / 512, by omega⟩

/-- A channel's input. -/
def input (t : Fin 64) (l : Fin 2048) : EReal := I.conv t ⟨l.val, by omega⟩

/-- A group's key and query. -/
def key (g : Fin 4) (t : Fin 64) (n : Fin 128) : EReal := I.conv t ⟨2048 + 128 * g.val + n.val, by omega⟩
def query (g : Fin 4) (t : Fin 64) (n : Fin 128) : EReal := I.conv t ⟨2560 + 128 * g.val + n.val, by omega⟩

/-- The result before the gate. -/
def mix (t : Fin 64) (l : Fin 2048) : EReal :=
  (∑ s : Fin 64, (∑ n : Fin 128, I.query (group l) t n * I.key (group l) s n)
      * Ideal.exp (if s.val ≤ t.val then I.total (head l) t - I.total (head l) s else ⊥) * (I.input s l * I.length s (head l)))
    + (∑ n : Fin 128, I.query (group l) t n * I.state l n) * Ideal.exp (I.total (head l) t)
    + I.input t l * I.skip (head l)

/-- The gated result. -/
def gated (t : Fin 64) (l : Fin 2048) : EReal := I.mix t l * act (I.gate t l)

/-- The gated result over the root of its group's mean square. -/
def result (t : Fin 64) (l : Fin 2048) : EReal :=
  I.gated t l * Ideal.rsqrt (Ideal.div (∑ k : Fin 512, I.gated t ⟨512 * (group l).val + k.val, by omega⟩ * I.gated t ⟨512 * (group l).val + k.val, by omega⟩)
    (Ideal.ofBits .f32 0x44000000#32) + Ideal.ofBits .f32 0x358637BD#32) * I.scale l

/-- The new state. -/
def next (l : Fin 2048) (n : Fin 128) : EReal :=
  I.state l n * Ideal.exp (I.total (head l) 63)
    + ∑ s : Fin 64, Ideal.exp (I.total (head l) 63 - I.total (head l) s) * (I.input s l * I.length s (head l)) * I.key (group l) s n

theorem length_nonneg (t : Fin 64) (h : Fin 32) : 0 ≤ I.length t h := softplus_nonneg _

theorem decay_nonpos (h : Fin 32) : I.decay h ≤ 0 := EReal.neg_le_zero.mpr (exp_nonneg _)

theorem decay_neg (h : Fin 32) (hr : I.rate h ≠ ⊥) : I.decay h < 0 := EReal.neg_lt_zero.mpr (exp_pos _ hr)

theorem step_nonpos (h : Fin 32) (t : Fin 64) : I.length t h * I.decay h ≤ 0 := mul_nonpos_of_nonneg_of_nonpos (I.length_nonneg t h) (I.decay_nonpos h)

theorem total_nonpos (h : Fin 32) (t : Fin 64) : I.total h t ≤ 0 := upto_nonpos _ (fun s => I.step_nonpos h s) t

theorem total_anti (h : Fin 32) (s t : Fin 64) (hs : s.val ≤ t.val) : I.total h t ≤ I.total h s := upto_anti _ (fun s => I.step_nonpos h s) s t hs

/-- The decay with the step's length in its exponent. -/
theorem folded (h : Fin 32) (s t : Fin 64) (x c : EReal) :
    c * Ideal.exp (if s.val ≤ t.val then I.total h t - (I.total h s - Ideal.log (I.length s h)) else ⊥) * x
      = c * Ideal.exp (if s.val ≤ t.val then I.total h t - I.total h s else ⊥) * (x * I.length s h) := by
  by_cases hs : s.val ≤ t.val
  · rw [if_pos hs, if_pos hs, exp_fold _ _ _ (I.length_nonneg s h) (I.total_nonpos h s) (I.total_anti h s t hs)]
    rw [mul_comm x, mul_assoc, mul_assoc, mul_assoc]
  · rw [if_neg hs, if_neg hs, exp_bot, mul_zero, zero_mul, zero_mul]

end Item

end Cert.Proof.Scan
end
-- ==== Proof.SsdReads.lean ====
/-
  The state-space call's point computes one step of a sequence: its results and its new states are the step's.
-/
module

public import proofs.«01_k».proof.Proof.SsdPoint
public import proofs.«01_k».proof.Proof.SsdState
public import proofs.«01_k».proof.Proof.SsdItem

@[expose] public section

set_option maxRecDepth 16384

noncomputable section

namespace Cert.SsdIdeal.Hand

open Cert.SsdIdeal.Gen Cert.Proof.Scan
open Idealize.ShloMosaic Idealize.ShloMosaic.TcCoe Idealize.ShloMosaic.Tactic Idealize.ShloMosaic.Rounds

/-- A point's blocks hold the sequence `I` as their sequence `s`, and the call's constant matrices. -/
structure Reads (X : Blocks) (s : Fin 4) (I : Item) : Prop where
  cur : ∀ (t : Fin 64) (l : Fin 3072), X.x0 (ix3 s t ⟨l.val, by omega⟩) = I.inputs ⟨3 + t.val, by omega⟩ l
  before : ∀ (k : Fin 3) (l : Fin 3072), X.x2 (ix3 s ⟨13 + k.val, by omega⟩ l) = I.inputs ⟨k.val, by omega⟩ l
  gate : ∀ (t : Fin 64) (l : Fin 2048), X.x0 (ix3 s t ⟨3072 + l.val, by omega⟩) = I.gate t l
  raw : ∀ (t : Fin 64) (h : Fin 32), X.x1 (ix3 s t ⟨h.val, by omega⟩) = I.raw t h
  state : ∀ (h : Fin 16) (r n : Fin 128), X.x3 (ix5 0 s h r n) = I.state ⟨128 * h.val + r.val, by omega⟩ n
  weight : ∀ (k : Fin 4) (l : Fin 3072), X.x4 (ix2 k l) = I.weight k l
  offset : ∀ l : Fin 3072, X.x5 (ix2 0 l) = I.offset l
  bias : ∀ h : Fin 32, X.x6 (ix2 0 ⟨h.val, by omega⟩) = I.bias h
  rate : ∀ h : Fin 32, X.x7 (ix2 0 ⟨h.val, by omega⟩) = I.rate h
  skip : ∀ l : Fin 2048, X.x8 (ix2 0 l) = I.skip (Item.head l)
  scale : ∀ l : Fin 2048, X.x9 (ix2 0 l) = I.scale l
  rep : ∀ (k : Fin 128) (l : Fin 2048), X.x10 (ix2 k l) = if k.val = l.val / 64 then 1 else 0
  shift : ∀ (i : Fin 192) (j : Fin 128), X.x11 (ix2 i j) = if j.val = i.val % 64 + 61 + i.val / 64 then 1 else 0
  lower : ∀ t u : Fin 64, X.x12 (ix2 t u) = if u.val ≤ t.val then 1 else 0

variable {X : Blocks} {s : Fin 4} {I : Item} (hX : Reads X s I)
include hX

theorem cur_item (t : Fin 64) (l : Fin 3072) : cur X s (ix3 0 t l) = I.inputs ⟨3 + t.val, by omega⟩ l := by
  unfold cur
  rw [View.ld_unit_apply_of X.x0 _ _ _ _ (ix3 s t ⟨l.val, by omega⟩) fun a => by fin_cases a <;> simp]
  exact hX.cur t l

theorem row_item (k : Fin 4) (l : Fin 3072) : row X k (ix2 0 l) = I.weight k l := by
  unfold row
  rw [View.ld_unit_apply_of X.x4 _ _ _ _ (ix2 k l) fun a => by fin_cases a <;> simp]
  exact hX.weight k l

theorem shifted (i : Fin 192) (l : Fin 3072) :
    (∑ j : Fin 128, X.x11 (ix2 i j) * stacked (cur X s) (prev X s) (ix2 j l)) = I.inputs ⟨i.val % 64 + i.val / 64, by omega⟩ l := by
  rw [Finset.sum_congr rfl fun j _ => mul_comm _ _]
  have hj : i.val % 64 + 61 + i.val / 64 < 128 := by omega
  rw [pick (fun j => stacked (cur X s) (prev X s) (ix2 j l)) _ ⟨i.val % 64 + 61 + i.val / 64, hj⟩ fun j => by
    rw [hX.shift]; simp only [Fin.ext_iff]]
  by_cases h : i.val % 64 + i.val / 64 < 3
  · have e := stacked_first (cur X s) (prev X s) ⟨48 + (13 + (i.val % 64 + i.val / 64)), by omega⟩ l
    have e1 : (⟨48 + (13 + (i.val % 64 + i.val / 64)), by omega⟩ : Fin 128) = ⟨i.val % 64 + 61 + i.val / 64, hj⟩ := Fin.ext (by simp only []; omega)
    rw [← e1]
    refine e.trans ?_
    refine (prev_eq X s ⟨13 + (i.val % 64 + i.val / 64), by omega⟩ l).trans ?_
    exact hX.before ⟨i.val % 64 + i.val / 64, h⟩ l
  · have e := stacked_second (cur X s) (prev X s) ⟨i.val % 64 + i.val / 64 - 3, by omega⟩ l
    have e1 : (⟨64 + (i.val % 64 + i.val / 64 - 3), by omega⟩ : Fin 128) = ⟨i.val % 64 + 61 + i.val / 64, hj⟩ := Fin.ext (by simp only []; omega)
    have e2 : (⟨3 + (i.val % 64 + i.val / 64 - 3), by omega⟩ : Fin 67) = ⟨i.val % 64 + i.val / 64, by omega⟩ := Fin.ext (by simp only []; omega)
    rw [← e1]
    refine e.trans ((cur_item hX _ l).trans ?_)
    rw [e2]

theorem conv_item (t : Fin 64) (l : Fin 3072) : conv X s (ix2 t l) = I.conv t l := by
  unfold conv
  rw [conv_eq _ _ _ _ _ _ _ _ t l _ rfl, shifted hX, shifted hX, shifted hX, row_item hX, row_item hX, row_item hX, row_item hX, cur_item hX, hX.offset]
  have e0 : (⟨(⟨t.val, by omega⟩ : Fin 192).val % 64 + (⟨t.val, by omega⟩ : Fin 192).val / 64, by simp only []; omega⟩ : Fin 67) = ⟨t.val, by omega⟩ :=
    Fin.ext (by simp only []; omega)
  have e1 : (⟨(⟨64 + t.val, by omega⟩ : Fin 192).val % 64 + (⟨64 + t.val, by omega⟩ : Fin 192).val / 64, by simp only []; omega⟩ : Fin 67) = ⟨t.val + 1, by omega⟩ :=
    Fin.ext (by simp only []; omega)
  have e2 : (⟨(⟨128 + t.val, by omega⟩ : Fin 192).val % 64 + (⟨128 + t.val, by omega⟩ : Fin 192).val / 64, by simp only []; omega⟩ : Fin 67) = ⟨t.val + 2, by omega⟩ :=
    Fin.ext (by simp only []; omega)
  have e3 : (⟨3 + t.val, by omega⟩ : Fin 67) = ⟨t.val + 3, by omega⟩ := Fin.ext (by simp only []; omega)
  rw [e0, e1, e2, e3]
  rfl

theorem lengths_item (t : Fin 64) (h : Fin 32) : lengths X s (ix2 t ⟨h.val, by omega⟩) = I.length t h := by
  unfold lengths
  rw [lengths_eq, hX.bias]
  unfold step
  rw [View.ld_unit_apply_of X.x1 _ _ _ _ (ix3 s t ⟨h.val, by omega⟩) fun a => by fin_cases a <;> simp]
  rw [hX.raw]
  rfl

theorem rates_item (t : Fin 64) (h : Fin 32) : rates X s (ix2 t ⟨h.val, by omega⟩) = I.length t h * I.decay h := by
  unfold rates
  rw [rates_eq, hX.rate]
  exact congrArg (· * _) (lengths_item hX t h)

theorem sums_item (t : Fin 64) (h : Fin 32) : sums X.x12 (rates X s) (ix2 t ⟨h.val, by omega⟩) = I.total h t := by
  rw [sums_eq]
  have hr : ∀ u : Fin 64, rates X s (ix2 u ⟨h.val, by omega⟩) = I.length u h * I.decay h := fun u => rates_item hX u h
  simp only [hr]
  exact upto_split (fun u => I.length u h * I.decay h) (fun u => ne_top_of_le_ne_top EReal.zero_ne_top (I.step_nonpos h u)) t _ fun u => hX.lower t u

theorem spread (f : Fin 128 → EReal) (l : Fin 2048) (y : EReal) (hy : f ⟨(Item.head l).val, by omega⟩ = y) (hn : y ≠ ⊤) :
    (∑ k : Fin 128, f k * X.x10 (ix2 k l)) + (∑ k : Fin 128, (f k - f k) * X.x10 (ix2 k l)) = y := by
  subst hy
  exact pick_split f _ ⟨(Item.head l).val, by omega⟩ (fun k => by rw [hX.rep]; simp only [Fin.ext_iff, Item.head]) hn

theorem decayed_item (t : Fin 64) (l : Fin 2048) :
    wide X.x12 X.x10 (lengths X s) (rates X s) (ix2 ⟨t.val, by omega⟩ l) = Ideal.exp (I.total (Item.head l) t) := by
  rw [wide_first]
  exact spread hX (fun k => Ideal.exp (sums X.x12 (rates X s) (ix2 t k))) l _ (congrArg Ideal.exp (sums_item hX t (Item.head l)))
    (exp_ne_top _ (I.total_nonpos _ t))

theorem whole_item (l : Fin 2048) : whole X.x12 X.x10 (rates X s) (ix2 0 l) = Ideal.exp (I.total (Item.head l) 63) := by
  rw [whole_eq]
  exact spread hX (fun k => Ideal.exp (sums X.x12 (rates X s) (ix2 63 k))) l _ (congrArg Ideal.exp (sums_item hX 63 (Item.head l)))
    (exp_ne_top _ (I.total_nonpos _ 63))

theorem rest_item (hr : ∀ h, I.rate h ≠ ⊥) (t : Fin 64) (l : Fin 2048) :
    wide X.x12 X.x10 (lengths X s) (rates X s) (ix2 ⟨64 + t.val, by omega⟩ l)
      = I.length t (Item.head l) * Ideal.exp (I.total (Item.head l) 63 - I.total (Item.head l) t) := by
  rw [wide_second]
  refine spread hX (fun k => lengths X s (ix2 t k) * Ideal.exp (sums X.x12 (rates X s) (ix2 63 k) - sums X.x12 (rates X s) (ix2 t k))) l _ ?_ ?_
  · rw [lengths_item hX t (Item.head l), sums_item hX 63 (Item.head l), sums_item hX t (Item.head l)]
  · exact length_ne_top (fun u => I.length u (Item.head l)) (fun u => I.length_nonneg u _) _ (I.decay_neg _ (hr _)) t 63 (by change t.val ≤ 63; omega)

theorem old_item (g : Fin 4) (n : Fin 128) (c : Fin 512) : old X s g (ix3 0 n c) = I.state ⟨512 * g.val + c.val, by omega⟩ n := by
  rw [old_eq]
  refine (hX.state ⟨4 * g.val + c.val / 128, by omega⟩ ⟨c.val % 128, by omega⟩ n).trans ?_
  congr 1
  exact Fin.ext (by simp only []; omega)

theorem key_item (g : Fin 4) (t : Fin 64) (n : Fin 128) : conv X s (ix2 t ⟨2048 + 128 * g.val + n.val, by omega⟩) = I.key g t n := conv_item hX t _

theorem query_item (g : Fin 4) (t : Fin 64) (n : Fin 128) : conv X s (ix2 t ⟨2560 + 128 * g.val + n.val, by omega⟩) = I.query g t n := conv_item hX t _

theorem update_item (hr : ∀ h, I.rate h ≠ ⊥) (l : Fin 2048) (n : Fin 128) :
    update X s (Item.group l) (old X s (Item.group l)) (ix3 0 n ⟨l.val % 512, by omega⟩) = I.next l n := by
  have e : ∀ h : 512 * (Item.group l).val + l.val % 512 < 2048, (⟨512 * (Item.group l).val + l.val % 512, h⟩ : Fin 2048) = l := fun h => Fin.ext (by simp only [Item.group]; omega)
  unfold update
  rw [newState_eq, old_item hX]
  simp only [e, whole_item hX, key_item hX, rest_item hX hr]
  unfold Item.next
  congr 1
  refine Finset.sum_congr rfl fun u _ => ?_
  have hi : conv X s (ix2 u ⟨512 * (Item.group l).val + l.val % 512, by simp only [Item.group]; omega⟩) = I.input u l :=
    (conv_item hX u _).trans (congrArg (I.conv u) (Fin.ext (by simp only [Item.group]; omega)))
  rw [hi]
  rw [mul_comm (I.key _ _ _)]
  congr 1
  rw [mul_comm (Ideal.exp _), mul_assoc]

theorem pair_item (t : Fin 64) (l : Fin 2048) :
    pair (conv X s) (sums X.x12 (rates X s)) (sources X.x12 (lengths X s) (rates X s)) (wide X.x12 X.x10 (lengths X s) (rates X s))
        (old X s ⟨(⟨l.val / 128, by omega⟩ : Fin 16).val / 4, by simp only []; omega⟩) ⟨l.val / 128, by omega⟩ (ix2 t ⟨l.val % 128, by omega⟩)
        + conv X s (ix2 t ⟨l.val, by omega⟩) * X.x8 (ix2 0 l) = I.mix t l := by
  rw [pair_eq]
  have eg : ∀ h : l.val / 128 / 4 < 4, (⟨l.val / 128 / 4, h⟩ : Fin 4) = Item.group l := fun h => Fin.ext (by simp only [Item.group]; omega)
  have eh : ∀ h : 2 * (l.val / 128) + l.val % 128 / 64 < 32, (⟨2 * (l.val / 128) + l.val % 128 / 64, h⟩ : Fin 32) = Item.head l :=
    fun h => Fin.ext (by simp only [Item.head]; omega)
  have el : ∀ h : 128 * (l.val / 128) + l.val % 128 < 3072, (⟨128 * (l.val / 128) + l.val % 128, h⟩ : Fin 3072) = ⟨l.val, by omega⟩ :=
    fun h => Fin.ext (by simp only []; omega)
  have ec : ∀ h : 128 * (l.val / 128 % 4) + l.val % 128 < 512, (⟨128 * (l.val / 128 % 4) + l.val % 128, h⟩ : Fin 512) = ⟨l.val % 512, by omega⟩ :=
    fun h => Fin.ext (by simp only []; omega)
  simp only [eg, eh, el, ec]
  have e : ∀ h : 512 * (Item.group l).val + l.val % 512 < 2048, (⟨512 * (Item.group l).val + l.val % 512, h⟩ : Fin 2048) = l := fun h => Fin.ext (by simp only [Item.group]; omega)
  rw [fromState_eq]
  simp only [e, decayed_item hX, old_item hX, query_item hX, hX.skip, decayed_eq, scores_eq, key_item hX, sources_eq, sums_item hX, lengths_item hX, conv_item hX]
  unfold Item.mix
  congr 2
  exact Finset.sum_congr rfl fun u _ => I.folded _ _ _ _ _

theorem gated_item (t : Fin 64) (l : Fin 2048) :
    gated (conv X s) (fun p => pair (conv X s) (sums X.x12 (rates X s)) (sources X.x12 (lengths X s) (rates X s))
      (wide X.x12 X.x10 (lengths X s) (rates X s)) (old X s ⟨p.val / 4, by omega⟩) p) X.x8
    (View.ld (Val := Elt Ideal) X.x0 (Rect.unit (s := S4x64x5120) ![s.val, 0, 3072] S1x64x2048.size (in_gate s))) (ix2 t l) = I.gated t l := by
  rw [gated_eq]
  rw [View.ld_unit_apply_of X.x0 _ _ _ _ (ix3 s t ⟨3072 + l.val, by omega⟩) fun a => by fin_cases a <;> simp]
  rw [hX.gate, pair_item hX t l]
  rfl

theorem results_item (t : Fin 64) (l : Fin 2048) : results X s (ix3 0 t l) = I.result t l := by
  unfold results
  rw [final_eq, normed_eq]
  simp only [gated_item hX, hX.scale]
  have e : ∀ h : 512 * (l.val / 512) + l.val % 512 < 2048, (⟨512 * (l.val / 512) + l.val % 512, h⟩ : Fin 2048) = l := fun h => Fin.ext (by simp only []; omega)
  simp only [e]
  rfl

end Cert.SsdIdeal.Hand
end
-- ==== Proof.SsdReference.lean ====
/-
  The reference's sequences are steps of the same kind, and its results are theirs.
-/
module

public import proofs.«01_k».proof.Proof.SsdItem
public import proofs.«01_k».proof.Proof.SsdPoint
public import proofs.«01_k».proof.Proof.Gen.SsdRefIdeal.Read

@[expose] public section

set_option maxRecDepth 16384

noncomputable section

namespace Cert.SsdRefIdeal.Hand

open Cert.SsdRefIdeal.Gen Cert.SsdRefIdeal.Read Cert.Proof.Scan
open Idealize.ShloMosaic Idealize.ShloMosaic.TcCoe Idealize.ShloMosaic.Tactic Idealize.ShloMosaic.Rounds

/-- Parts of a window of 64 rows, its last one the row itself, are the rows up to it. -/
theorem window_sum (f : Fin 64 → EReal) (t : Fin 64) :
    (∑ k : Fin 64, if h : 63 ≤ t.val + k.val then f ⟨t.val + k.val - 63, by omega⟩ else 0) = upto f t := by
  have e : ∀ k : Fin 64, (if h : 63 ≤ t.val + k.val then f ⟨t.val + k.val - 63, by omega⟩ else 0)
      = if 63 ≤ t.val + k.val then f ⟨t.val + k.val - 63, by omega⟩ else 0 := fun k => by split <;> rfl
  unfold upto
  rw [Finset.sum_congr rfl fun k _ => e k, ← Finset.sum_filter, ← Finset.sum_filter]
  refine Finset.sum_bij' (fun k _ => ⟨t.val + k.val - 63, by omega⟩) (fun u _ => ⟨(u.val + 63 - t.val) % 64, by omega⟩) ?_ ?_ ?_ ?_ ?_
  · intro k hk
    simp only [Finset.mem_filter, Finset.mem_univ, true_and] at hk ⊢
    omega
  · intro u hu
    simp only [Finset.mem_filter, Finset.mem_univ, true_and] at hu ⊢
    omega
  · intro k hk
    simp only [Finset.mem_filter, Finset.mem_univ, true_and] at hk
    apply Fin.ext
    simp only []
    omega
  · intro u hu
    simp only [Finset.mem_filter, Finset.mem_univ, true_and] at hu
    apply Fin.ext
    simp only []
    omega
  · intro k hk
    rfl

theorem fold_add {n : ℕ} (g : Fin n → EReal) : ∀ (L : List (Fin n)) (v : EReal), L.foldl (fun r k => r + g k) v = v + (L.map g).sum
  | [], v => (add_zero v).symm
  | k :: L, v => by rw [List.foldl_cons, fold_add g L, List.map_cons, List.sum_cons, add_assoc]

/-- A sum over windows of 64 rows, padded with 63 before the first, is the running sum. -/
theorem running (x : FVec Ideal S16x64x32 .f32) (init : FVec Ideal S_ .f32) (hi : init ix0 = 0)
    (h : S16x64x32.ReduceWindows (![1, 64, 1] : Fin 3 → ℕ) ![1, 1, 1] ![0, 63, 0] ![0, 0, 0] S16x64x32) (hu : 0 < S_.numel)
    (b : Fin 16) (t : Fin 64) (l : Fin 32) :
    Host.reduceWindowAdd ![1, 64, 1] ![1, 1, 1] ![0, 63, 0] ![0, 0, 0] x init h hu (ix3 b t l) = upto (fun u => x (ix3 b u l)) t := by
  have hv : init (Shape.Idx.first hu) = 0 := (congrArg init (ix0_eta _).symm).trans hi
  let W : Shape := ⟨3, ![1, 64, 1]⟩
  let E : Fin 64 ≃ W.Idx := ⟨fun k => (ix3 0 k 0 : (⟨3, ![1, 64, 1]⟩ : Shape).Idx), fun w => w 1, fun _ => rfl, fun w => by
    funext a
    fin_cases a
    · exact Subsingleton.elim (α := Fin 1) _ _
    · rfl
    · exact Subsingleton.elim (α := Fin 1) _ _⟩
  unfold Host.reduceWindowAdd
  rw [Ideal.hostReduceWindowAdd_def, hv]
  unfold Ideal.hostReduceWindowAdd Host.reduceWindow
  refine (fold_add _ _ _).trans ?_
  rw [← Fin.sum_univ_def, zero_add, ← window_sum, ← Equiv.sum_comp (E.trans W.rowMajor)]
  refine Finset.sum_congr rfl fun k _ => ?_
  have hw : ∀ a, ((⟨S16x64x32.rank, ![1, 64, 1]⟩ : Shape).rowMajor.symm ((E.trans W.rowMajor) k) a).val = (E k a).val :=
    fun a => congrArg Fin.val (congrFun (W.rowMajor.symm_apply_apply (E k)) a)
  by_cases hk : 63 ≤ t.val + k.val
  · rw [dif_pos hk]
    refine (dif_pos (fun a => ?_)).trans (congrArg x (funext fun a => Fin.ext ?_))
    · dsimp only
      rw [hw a]
      fin_cases a
      · change 0 ≤ b.val * 1 + 0 ∧ b.val * 1 + 0 - 0 < 16; omega
      · change 63 ≤ t.val * 1 + k.val ∧ t.val * 1 + k.val - 63 < 64; omega
      · change 0 ≤ l.val * 1 + 0 ∧ l.val * 1 + 0 - 0 < 32; omega
    · dsimp only
      rw [hw a]
      fin_cases a
      · change b.val * 1 + 0 - 0 = b.val; omega
      · change t.val * 1 + k.val - 63 = t.val + k.val - 63; omega
      · change l.val * 1 + 0 - 0 = l.val; omega
  · rw [dif_neg hk]
    refine (dif_neg fun hin => hk ?_)
    have h1 := (hin 1).1
    dsimp only at h1
    rw [hw 1] at h1
    change 63 ≤ t.val * 1 + k.val at h1
    omega

variable (z : Vec Ideal S16x64x2048 .f32) (xbc : Vec Ideal S16x64x3072 .f32) (raw : Vec Ideal S16x64x32 .f32) (before : Vec Ideal S2x16x3x3072 .f32) (st : Vec Ideal S2x16x32x64x128 .f32) (cw : Vec Ideal S2x4x3072 .f32) (cb : Vec Ideal S2x3072 .f32) (bias : Vec Ideal S2x32 .f32) (rate : Vec Ideal S2x32 .f32) (skip : Vec Ideal S2x32 .f32) (scale : Vec Ideal S2x2048 .f32)

/-- A sequence of the arguments, with the first layer's parameters. -/
def item (b : Fin 16) : Item where
  inputs r l := if h : r.val < 3 then before (ix4 0 b ⟨r.val, h⟩ l) else xbc (ix3 b ⟨r.val - 3, by omega⟩ l)
  raw t h := raw (ix3 b t h)
  gate t l := z (ix3 b t l)
  state l n := st (ix5 0 b ⟨l.val / 64, by omega⟩ ⟨l.val % 64, by omega⟩ n)
  weight k l := cw (ix3 0 k l)
  offset l := cb (ix2 0 l)
  bias h := bias (ix2 0 h)
  rate h := rate (ix2 0 h)
  skip h := skip (ix2 0 h)
  scale l := scale (ix2 0 l)

theorem reference_inputs (b : Fin 16) (r : Fin 67) (l : Fin 3072) :
    (val_main_v2 xbc before (ix3 b r l) : EReal) = (item z xbc raw before st cw cb bias rate skip scale b).inputs r l := by
  pointwise [val_main_v2, val_main_v1, val_main_v0, item]

theorem reference_mixed (b : Fin 16) (t : Fin 64) (l : Fin 3072) :
    (val_main_v34 xbc before cw cb (ix3 b t l) : EReal) = (item z xbc raw before st cw cb bias rate skip scale b).mixed t l := by
  pointwise [val_main_v34, val_main_v27, val_main_v20, val_main_v13, val_main_v12, val_main_v11, val_main_v4, val_main_v3, val_main_v10,
    val_main_v5, val_main_v9, val_main_v8, val_main_v7, val_main_v6, val_main_v19, val_main_v14, val_main_v18, val_main_v17, val_main_v16,
    val_main_v15, val_main_v26, val_main_v21, val_main_v25, val_main_v24, val_main_v23, val_main_v22, val_main_v33, val_main_v28,
    val_main_v32, val_main_v31, val_main_v30, val_main_v29, reference_inputs z xbc raw before st cw cb bias rate skip scale]
  have e : ∀ k : ℕ, k + t.val = t.val + k := fun k => Nat.add_comm _ _
  simp only [e]
  rfl

theorem reference_conv (b : Fin 16) (t : Fin 64) (l : Fin 3072) :
    (val_main_v35 xbc before cw cb (ix3 b t l) : EReal) = (item z xbc raw before st cw cb bias rate skip scale b).conv t l := by
  pointwise [val_main_v35, val_main_call0_v5, val_main_call0_v4, val_main_call0_cst_0, val_main_call0_v3, val_main_call0_v2,
    val_main_call0_cst, val_main_call0_v1, val_main_call0_v0, reference_mixed z xbc raw before st cw cb bias rate skip scale, Item.conv, act]
  rfl

theorem reference_length (b : Fin 16) (t : Fin 64) (h : Fin 32) :
    (val_main_v47 raw bias (ix3 b t h) : EReal) = (item z xbc raw before st cw cb bias rate skip scale b).length t h := by
  pointwise [val_main_v47, val_main_call1_v4, val_main_call1_v3, val_main_v46, val_main_v45, val_main_v44, val_main_v43, val_main_v42,
    val_main_call1_v2, val_main_call1_cst, val_main_call1_v6, val_main_call1_v5, val_main_call1_v11, val_main_call1_v1, val_main_call1_v0,
    val_main_call1_v10, val_main_call1_v9, val_main_call1_v8, val_main_call1_v7, Item.length, softplus, item]
  rw [if_neg (not_not.mpr rfl)]
  rfl

theorem reference_step (b : Fin 16) (t : Fin 64) (h : Fin 32) :
    (val_main_v58 raw bias rate (ix3 b t h) : EReal) = (item z xbc raw before st cw cb bias rate skip scale b).length t h * (item z xbc raw before st cw cb bias rate skip scale b).decay h := by
  pointwise [val_main_v58, val_main_v57, val_main_v56, val_main_v51, val_main_v50, val_main_v49, val_main_v48,
    reference_length z xbc raw before st cw cb bias rate skip scale, Item.decay, item]

theorem reference_total (b : Fin 16) (t : Fin 64) (h : Fin 32) :
    (val_main_v59 raw bias rate (ix3 b t h) : EReal) = (item z xbc raw before st cw cb bias rate skip scale b).total h t := by
  refine (running (val_main_v58 raw bias rate) _ (by pointwise [val_main_call3_call0_v0, val_main_call3_call0_cst]) _ _ b t h).trans ?_
  exact congrArg (fun f => upto f t) (funext fun u => reference_step z xbc raw before st cw cb bias rate skip scale b u h)

theorem reference_mask (t u : Fin 64) : (val_main_v53 (F := Ideal) (ix2 t u) : BitVec 1) = if u.val ≤ t.val then 1#1 else 0#1 := by
  pointwise [val_main_v53, val_main_call2_v4, val_main_call2_v2, val_main_call2_v0, val_main_call2_v1, val_main_call2_c, val_main_call2_v3,
    val_main_v52, val_main_c, val_main_call2_v5, val_main_call2_c_0, id_eq]
  rw [show IntOp.addi (BitVec.ofNat 32 t.val) 0#32 = BitVec.ofNat 32 t.val from BitVec.add_zero _, Cert.SsdIdeal.Hand.below]
  split <;> rfl

theorem reference_decay (b : Fin 16) (t u : Fin 64) (h : Fin 32) :
    (val_main_v67 raw bias rate (ix4 b t u h) : EReal) = Ideal.exp (if u.val ≤ t.val then (item z xbc raw before st cw cb bias rate skip scale b).total h t - (item z xbc raw before st cw cb bias rate skip scale b).total h u else ⊥) := by
  pointwise [val_main_v67, val_main_v66, val_main_call4_v1, val_main_v65, val_main_v64, val_main_v62, val_main_v60, val_main_v63,
    val_main_v61, val_main_call4_v2, val_main_call4_v0, val_main_cst, reference_total z xbc raw before st cw cb bias rate skip scale,
    reference_mask]
  have e : ∀ x : EReal, Scalar.select (if u.val ≤ t.val then 1#1 else 0#1) x (id (constant (F := Ideal) S_ .f32 0xFF800000#32) ix0)
      = if u.val ≤ t.val then x else ⊥ := fun x => by
    split
    · rfl
    · exact Cert.SsdIdeal.Hand.bits_bot
  exact congrArg Ideal.exp (e _)

theorem reference_score (b : Fin 16) (t u : Fin 64) (h : Fin 32) :
    (val_main_v71 xbc before cw cb (ix4 b t u h) : EReal) = ∑ n : Fin 128, (item z xbc raw before st cw cb bias rate skip scale b).query ⟨h.val / 8, by omega⟩ t n * (item z xbc raw before st cw cb bias rate skip scale b).key ⟨h.val / 8, by omega⟩ u n := by
  pointwise [val_main_v71, val_main_v70, val_main_v69, val_main_v68, val_main_v39, val_main_v38, val_main_v41, val_main_v40,
    reference_conv z xbc raw before st cw cb bias rate skip scale, Item.query, Item.key]
  refine Finset.sum_congr rfl fun n _ => (mul_comm _ _).trans (congrArg₂ (· * ·) (congrArg (Item.conv _ t) (Fin.ext (by dsimp only; omega))) (congrArg (Item.conv _ u) (Fin.ext (by dsimp only; omega))))

theorem reference_source (b : Fin 16) (u : Fin 64) (h : Fin 32) (p : Fin 64) :
    (val_main_v74 xbc raw before cw cb bias (ix4 b u h p) : EReal) = (item z xbc raw before st cw cb bias rate skip scale b).input u ⟨64 * h.val + p.val, by omega⟩ * (item z xbc raw before st cw cb bias rate skip scale b).length u h := by
  pointwise [val_main_v74, val_main_v37, val_main_v36, val_main_v73, val_main_v72,
    reference_conv z xbc raw before st cw cb bias rate skip scale, reference_length z xbc raw before st cw cb bias rate skip scale,
    Item.input]
  exact congrArg (· * _) (congrArg (Item.conv _ u) (Fin.ext (by dsimp only; omega)))

theorem reference_within (b : Fin 16) (t : Fin 64) (h : Fin 32) (p : Fin 64) :
    (val_main_v77 xbc raw before cw cb bias rate (ix4 b t h p) : EReal) = ∑ u : Fin 64, (∑ n : Fin 128, (item z xbc raw before st cw cb bias rate skip scale b).query ⟨h.val / 8, by omega⟩ t n * (item z xbc raw before st cw cb bias rate skip scale b).key ⟨h.val / 8, by omega⟩ u n)
      * Ideal.exp (if u.val ≤ t.val then (item z xbc raw before st cw cb bias rate skip scale b).total h t - (item z xbc raw before st cw cb bias rate skip scale b).total h u else ⊥)
      * ((item z xbc raw before st cw cb bias rate skip scale b).input u ⟨64 * h.val + p.val, by omega⟩ * (item z xbc raw before st cw cb bias rate skip scale b).length u h) := by
  pointwise [val_main_v77, val_main_v76, val_main_v75, reference_decay z xbc raw before st cw cb bias rate skip scale,
    reference_score z xbc raw before st cw cb bias rate skip scale, reference_source z xbc raw before st cw cb bias rate skip scale]
  exact Finset.sum_congr rfl fun u _ => mul_comm _ _

theorem reference_across (b : Fin 16) (t : Fin 64) (h : Fin 32) (p : Fin 64) :
    (val_main_v85 xbc raw before st cw cb bias rate (ix4 b t h p) : EReal) = (∑ n : Fin 128, (item z xbc raw before st cw cb bias rate skip scale b).query ⟨h.val / 8, by omega⟩ t n * (item z xbc raw before st cw cb bias rate skip scale b).state ⟨64 * h.val + p.val, by omega⟩ n) * Ideal.exp ((item z xbc raw before st cw cb bias rate skip scale b).total h t) := by
  pointwise [val_main_v85, val_main_v81, val_main_v80, val_main_v79, val_main_v78, val_main_v55, val_main_v54, val_main_v41, val_main_v40,
    val_main_v84, val_main_v83, val_main_v82, reference_total z xbc raw before st cw cb bias rate skip scale,
    reference_conv z xbc raw before st cw cb bias rate skip scale, Item.query]
  have e1 : ∀ (n : Fin 128) (g : 2560 + (h.val / 8 * 128 + n.val) < 3072), (⟨2560 + (h.val / 8 * 128 + n.val), g⟩ : Fin 3072)
      = ⟨2560 + 128 * (h.val / 8) + n.val, by omega⟩ := fun n g => Fin.ext (by dsimp only; omega)
  have e2 : ∀ n : Fin 128, (item z xbc raw before st cw cb bias rate skip scale b).state ⟨64 * h.val + p.val, by omega⟩ n = st (ix5 0 b h p n) := fun n =>
    congrArg₂ (fun x y => st (ix5 0 b x y n)) (Fin.ext (by dsimp only; omega)) (Fin.ext (by dsimp only; omega))
  simp only [e1, e2]
  exact congrArg (· * _) (Finset.sum_congr rfl fun n _ => mul_comm _ _)

theorem reference_mix (b : Fin 16) (t : Fin 64) (l : Fin 2048) :
    (val_main_v111 xbc raw before st cw cb bias rate skip (ix3 b t l) : EReal) = (item z xbc raw before st cw cb bias rate skip scale b).mix t l := by
  pointwise [val_main_v111, val_main_v110, val_main_v103, val_main_v109, val_main_v37, val_main_v36, val_main_v108, val_main_v107,
    val_main_v106, val_main_v105, val_main_v104, reference_within z xbc raw before st cw cb bias rate skip scale,
    reference_across z xbc raw before st cw cb bias rate skip scale, reference_conv z xbc raw before st cw cb bias rate skip scale]
  have e1 : ∀ h : 64 * (l.val / 64) + l.val % 64 < 2048, (⟨64 * (l.val / 64) + l.val % 64, h⟩ : Fin 2048) = l :=
    fun h => Fin.ext (by dsimp only; omega)
  have e2 : ∀ h : l.val / 64 / 8 < 4, (⟨l.val / 64 / 8, h⟩ : Fin 4) = Item.group l := fun h => Fin.ext (by simp only [Item.group]; omega)
  simp only [e1, e2]
  rfl

theorem reference_gated (b : Fin 16) (t : Fin 64) (l : Fin 2048) :
    (val_main_v113 z xbc raw before st cw cb bias rate skip (ix3 b t l) : EReal) = (item z xbc raw before st cw cb bias rate skip scale b).gated t l := by
  pointwise [val_main_v113, val_main_v112, val_main_call5_v5, val_main_call5_v4, val_main_call5_cst_0, val_main_call5_v3, val_main_call5_v2,
    val_main_call5_cst, val_main_call5_v1, val_main_call5_v0, reference_mix z xbc raw before st cw cb bias rate skip scale, Item.gated, act]
  rfl

theorem reference_result (b : Fin 16) (t : Fin 64) (l : Fin 2048) :
    (val_main_v131 z xbc raw before st cw cb bias rate skip scale (ix3 b t l) : EReal) = (item z xbc raw before st cw cb bias rate skip scale b).result t l := by
  pointwise [val_main_v131, val_main_v130, val_main_v125, val_main_v124, val_main_v114, val_main_v123, val_main_v122, val_main_v121,
    val_main_v119, val_main_v117, val_main_v116, val_main_v115, val_main_cst_0, val_main_v118, val_main_cst_1, val_main_v120, val_main_cst_2,
    val_main_v129, val_main_v128, val_main_v127, val_main_v126, reference_gated z xbc raw before st cw cb bias rate skip scale, Item.result]
  have e : ∀ (k : Fin 512) (h : l.val / 512 * 512 + k.val < 2048),
      (⟨l.val / 512 * 512 + k.val, h⟩ : Fin 2048) = ⟨512 * (Item.group l).val + k.val, by simp only [Item.group]; omega⟩ :=
    fun k h => Fin.ext (by simp only [Item.group]; omega)
  simp only [e]
  rfl

theorem reference_tail (b : Fin 16) (k : Fin 3) (l : Fin 3072) :
    (val_main_v132 xbc before (ix3 b k l) : EReal) = (item z xbc raw before st cw cb bias rate skip scale b).inputs ⟨64 + k.val, by omega⟩ l := by
  pointwise [val_main_v132, reference_inputs z xbc raw before st cw cb bias rate skip scale]

theorem reference_next (b : Fin 16) (q : Fin 16) (r n : Fin 128) :
    (val_main_v133 xbc raw before st cw cb bias rate (ix4 b q r n) : EReal) = (item z xbc raw before st cw cb bias rate skip scale b).next ⟨128 * q.val + r.val, by omega⟩ n := by
  pointwise [val_main_v133, val_main_v102, val_main_v97, val_main_v55, val_main_v54, val_main_v96, val_main_v95, val_main_v94, val_main_v93,
    val_main_v92, val_main_v101, val_main_v100, val_main_v99, val_main_v98, val_main_v89, val_main_v88, val_main_v87, val_main_v86,
    val_main_v91, val_main_v90, val_main_v39, val_main_v38, reference_total z xbc raw before st cw cb bias rate skip scale,
    reference_source z xbc raw before st cw cb bias rate skip scale, reference_conv z xbc raw before st cw cb bias rate skip scale,
    Item.next]
  have e1 : ∀ h : 64 * (q.val * 2 + r.val / 64) + r.val % 64 < 2048,
      (⟨64 * (q.val * 2 + r.val / 64) + r.val % 64, h⟩ : Fin 2048) = ⟨128 * q.val + r.val, by omega⟩ := fun h => Fin.ext (by dsimp only; omega)
  have e2 : ∀ h : q.val * 2 + r.val / 64 < 32, (⟨q.val * 2 + r.val / 64, h⟩ : Fin 32) = Item.head ⟨128 * q.val + r.val, by omega⟩ :=
    fun h => Fin.ext (by simp only [Item.head]; omega)
  have e3 : ∀ h : r.val % 64 < 64, (⟨r.val % 64, h⟩ : Fin 64) = ⟨(128 * q.val + r.val) % 64, by omega⟩ := fun h => Fin.ext (by dsimp only; omega)
  have e4 : ∀ h : 2048 + ((q.val * 2 + r.val / 64) / 8 * 128 + n.val) < 3072, (⟨2048 + ((q.val * 2 + r.val / 64) / 8 * 128 + n.val), h⟩ : Fin 3072)
      = ⟨2048 + 128 * (Item.group ⟨128 * q.val + r.val, by omega⟩).val + n.val, by simp only [Item.group]; omega⟩ :=
    fun h => Fin.ext (by simp only [Item.group]; omega)
  simp only [e1, e2, e3, e4]
  rfl

end Cert.SsdRefIdeal.Hand
end
-- ==== Proof.SsdEntries.lean ====
/-
  The state-space call's result arrays, over the extended reals, and the reference's.
-/
module

public import proofs.«01_k».proof.Proof.SsdState
public import proofs.«01_k».proof.Proof.SsdReads
public import proofs.«01_k».proof.Proof.SsdReference

@[expose] public section

set_option maxRecDepth 16384

noncomputable section

namespace Cert.SsdIdeal.Hand

open Cert.SsdIdeal.Gen Cert.Proof.Scan
open Idealize.ShloMosaic Idealize.ShloMosaic.TcCoe Idealize.ShloMosaic.Tactic Idealize.ShloMosaic.Rounds
open Idealize.ShloMosaic.Pipeline (Dat Cfg Window)

variable (m : (ℓ : Loc nD τ sig) → Buf (Elt Ideal) ℓ)

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 5) = 0 ∧ win0_3.index t (1 : Fin 5) = t.val ∧ win0_3.index t (2 : Fin 5) = 0 ∧ win0_3.index t (3 : Fin 5) = 0 ∧ win0_3.index t (4 : Fin 5) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 3) = t.val ∧ win0_13.index t (1 : Fin 3) = 0 ∧ win0_13.index t (2 : Fin 3) = 0 :=
  (by decide +kernel : ∀ t : Fin grid0.N, _)
theorem index14 : ∀ t : Fin cfg0.N, win0_14.index t (0 : Fin 3) = t.val ∧ win0_14.index t (1 : Fin 3) = 0 ∧ win0_14.index t (2 : Fin 3) = 0 :=
  (by decide +kernel : ∀ t : Fin grid0.N, _)
theorem index15 : ∀ t : Fin cfg0.N, win0_15.index t (0 : Fin 4) = t.val ∧ win0_15.index t (1 : Fin 4) = 0 ∧ win0_15.index t (2 : Fin 4) = 0 ∧ win0_15.index t (3 : Fin 4) = 0 :=
  (by decide +kernel : ∀ t : Fin grid0.N, _)

/-- The projection's layout: the rows of the convolution's inputs and of the gate, before 7168 columns that the call does not read. -/
def projection (z : FVec Ideal S16x64x2048 .f32) (xbc : FVec Ideal S16x64x3072 .f32) (p : FVec Ideal S_ .bf16) : FVec Ideal S16x64x12288 .bf16 :=
  shapeCast S16x64x12288 (pad S1024x12288 ![0, 0] ![0, 7168] ![0, 0] (truncf .bf16 (shapeCast S1024x5120 (concatenate S16x64x5120 2
    [⟨S16x64x3072, xbc⟩, ⟨S16x64x2048, z⟩] concatenates_S16x64x3072_S16x64x2048_S16x64x5120_d2) shapeCasts_S16x64x5120_S1024x5120 : FVec Ideal S1024x5120 .f32)
    bitsLt_bf16_f32) p pads_S1024x5120_S1024x12288_000_071680 h_S_) shapeCasts_S1024x12288_S16x64x12288

theorem projection_cur (z : Vec Ideal S16x64x2048 .f32) (xbc : Vec Ideal S16x64x3072 .f32) (p : FVec Ideal S_ .bf16) (b : Fin 16) (t : Fin 64)
    (l : Fin 3072) : projection z xbc p (ix3 b t ⟨l.val, by omega⟩) = xbc (ix3 b t l) := by
  pointwise [projection]
  exact dif_pos (by omega)

theorem projection_gate (z : Vec Ideal S16x64x2048 .f32) (xbc : Vec Ideal S16x64x3072 .f32) (p : FVec Ideal S_ .bf16) (b : Fin 16) (t : Fin 64)
    (l : Fin 2048) : projection z xbc p (ix3 b t ⟨3072 + l.val, by omega⟩) = z (ix3 b t l) := by
  pointwise [projection]
  exact dif_pos (by omega)

/-- The steps' lengths before their bias, behind 96 lanes that no head reads. -/
def rawLanes (raw : FVec Ideal S16x64x32 .f32) (p : FVec Ideal S_ .f32) : FVec Ideal S16x64x128 .f32 :=
  shapeCast S16x64x128 (pad S1024x128 ![0, 0] ![0, 96] ![0, 0] (shapeCast S1024x32 raw shapeCasts_S16x64x32_S1024x32) p
    pads_S1024x32_S1024x128_000_0960 h_S_) shapeCasts_S1024x128_S16x64x128

theorem rawLanes_eq (raw : Vec Ideal S16x64x32 .f32) (p : FVec Ideal S_ .f32) (b : Fin 16) (t : Fin 64) (h : Fin 32) :
    rawLanes raw p (ix3 b t ⟨h.val, by omega⟩) = raw (ix3 b t h) := by
  pointwise [rawLanes]
  exact dif_pos (by omega)

/-- The first layer's parameter of each head, likewise. -/
def headLanes (v : FVec Ideal S2x32 .f32) (p : FVec Ideal S_ .f32) : FVec Ideal S1x128 .f32 :=
  pad S1x128 ![0, 0] ![0, 96] ![0, 0] (shapeCast S1x32 (shapeCast S32 (extractStridedSlice S1x32 ![0, 0] v slices_S2x32_S1x32_0_0) shapeCasts_S1x32_S32)
    shapeCasts_S32_S1x32) p pads_S1x32_S1x128_000_0960 h_S_

theorem headLanes_eq (v : Vec Ideal S2x32 .f32) (p : FVec Ideal S_ .f32) (h : Fin 32) :
    headLanes v p (ix2 0 ⟨h.val, by omega⟩) = v (ix2 0 h) := by
  pointwise [headLanes]

/-- The three rows before the sequences, behind 13 rows that the convolution does not read. -/
def tailRows (v : FVec Ideal S2x16x3x3072 .f32) (p : FVec Ideal S_ .f32) : FVec Ideal S16x16x3072 .f32 :=
  pad S16x16x3072 ![0, 13, 0] ![0, 0, 0] ![0, 0, 0] (shapeCast S16x3x3072 (extractStridedSlice S1x16x3x3072 ![0, 0, 0, 0] v
    slices_S2x16x3x3072_S1x16x3x3072_0_0_0_0) shapeCasts_S1x16x3x3072_S16x3x3072) p pads_S16x3x3072_S16x16x3072_000_1300_000 h_S_

theorem tailRows_eq (v : Vec Ideal S2x16x3x3072 .f32) (p : FVec Ideal S_ .f32) (b : Fin 16) (k : Fin 3) (l : Fin 3072) :
    tailRows v p (ix3 b ⟨13 + k.val, by omega⟩ l) = v (ix4 0 b k l) := by
  pointwise [tailRows]

theorem same_word {n k : ℕ} (hn : n < 4294967296) (hk : k < 4294967296) :
    IntOp.cmpi .eq (BitVec.ofNat 32 n) (BitVec.ofNat 32 k) = if n = k then 1#1 else 0#1 := by
  have e : (BitVec.ofNat 32 n == BitVec.ofNat 32 k) = decide (n = k) := by
    rw [Bool.eq_iff_iff, beq_iff_eq, decide_eq_true_iff]
    refine ⟨fun h => ?_, fun h => by rw [h]⟩
    have := congrArg BitVec.toNat h
    rwa [BitVec.toNat_ofNat, BitVec.toNat_ofNat, Nat.mod_eq_of_lt hn, Nat.mod_eq_of_lt hk] at this
  show BitVec.ofBool _ = _
  rw [e]
  by_cases h : n = k <;> simp [h]

theorem bit_real (p : Prop) [Decidable p] : (FloatOps.uitofp .bf16 (if p then 1#1 else 0#1) : Ideal .bf16) = if p then (1 : EReal) else (0 : EReal) := by
  split
  · show (((1#1 : BitVec 1).toNat : ℝ) : EReal) = 1
    simp
  · show (((0#1 : BitVec 1).toNat : ℝ) : EReal) = 0
    simp

/-- The head of each channel, as a word. -/
def channelHead : IVec S2048 32 :=
  select (andi (cmpi .ne (signi (iotaInDim S2048 32 0)) (broadcastInDim S2048 ![] bcast_S_S2048 (signi (constantI S_ 32 64#32))))
    (cmpi .ne (Host.remsi (iotaInDim S2048 32 0) (broadcastInDim S2048 ![] bcast_S_S2048 (constantI S_ 32 64#32)))
      (broadcastInDim S2048 ![] bcast_S_S2048 (constantI S_ 32 0#32))))
    (subi (Host.divsi (iotaInDim S2048 32 0) (broadcastInDim S2048 ![] bcast_S_S2048 (constantI S_ 32 64#32)))
      (broadcastInDim S2048 ![] bcast_S_S2048 (constantI S_ 32 1#32)))
    (Host.divsi (iotaInDim S2048 32 0) (broadcastInDim S2048 ![] bcast_S_S2048 (constantI S_ 32 64#32)))

theorem channelHead_eq (l : Fin 2048) : channelHead (ix1 l) = BitVec.ofNat 32 (l.val / 64) := by
  pointwise [channelHead]
  revert l
  decide +kernel

/-- Which head each channel is of. -/
def headMask : FVec Ideal S128x2048 .bf16 :=
  uitofp .bf16 (cmpi .eq (broadcastInDim S128x2048 ![0, 1] bcast_S128x1_S128x2048_0_1 (broadcastInDim S128x1 ![0] bcast_S128_S128x1_0 (iotaInDim S128 32 0)))
    (broadcastInDim S128x2048 ![0, 1] bcast_S1x2048_S128x2048_0_1 (broadcastInDim S1x2048 ![1] bcast_S2048_S1x2048_1 channelHead)))

theorem headMask_eq (k : Fin 128) (l : Fin 2048) : (headMask (ix2 k l) : EReal) = if k.val = l.val / 64 then (1 : EReal) else (0 : EReal) := by
  pointwise [headMask, channelHead_eq]
  rw [same_word (by omega) (by omega)]
  exact bit_real _

/-- Which row of the doubled block a row of the convolution's `k`-th part reads. -/
def shiftMask (k : BitVec 32) : IVec S64x128 1 :=
  cmpi .eq (broadcastInDim S64x128 ![0, 1] bcast_S1x128_S64x128_0_1 (broadcastInDim S1x128 ![1] bcast_S128_S1x128_1 (iotaInDim S128 32 0)))
    (broadcastInDim S64x128 ![0, 1] bcast_S64x1_S64x128_0_1 (addi (broadcastInDim S64x1 ![0] bcast_S64_S64x1_0 (iotaInDim S64 32 0))
      (broadcastInDim S64x1 ![] bcast_S_S64x1 (constantI S_ 32 k))))

def shiftMasks : FVec Ideal S192x128 .bf16 :=
  uitofp .bf16 (concatenate S192x128 0 [⟨S64x128, shiftMask 61#32⟩, ⟨S64x128, shiftMask 62#32⟩, ⟨S64x128, shiftMask 63#32⟩]
    concatenates_S64x128_S64x128_S64x128_S192x128_d0)

theorem shiftMasks_eq (i : Fin 192) (j : Fin 128) : (shiftMasks (ix2 i j) : EReal)
    = if j.val = i.val % 64 + 61 + i.val / 64 then (1 : EReal) else (0 : EReal) := by
  pointwise [shiftMasks, shiftMask]
  have e : ∀ a d : ℕ, IntOp.addi (BitVec.ofNat 32 a) (BitVec.ofNat 32 d) = BitVec.ofNat 32 (a + d) := fun a d => (BitVec.ofNat_add ..).symm
  rw [show (61#32 : BitVec 32) = BitVec.ofNat 32 61 from rfl, show (62#32 : BitVec 32) = BitVec.ofNat 32 62 from rfl,
    show (63#32 : BitVec 32) = BitVec.ofNat 32 63 from rfl, e, e, e, same_word (by omega) (by omega), same_word (by omega) (by omega),
    same_word (by omega) (by omega)]
  split
  · exact (bit_real _).trans (if_congr (by omega) rfl rfl)
  · split
    · exact (bit_real _).trans (if_congr (by omega) rfl rfl)
    · exact (bit_real _).trans (if_congr (by omega) rfl rfl)

theorem entry_proj (c : Dev nD) : ∃ p : FVec Ideal S_ .bf16, (V m c main_v40 : Vec Ideal S16x64x12288 .bf16)
    = projection (m ((c.tc : Thread nD τ).loc main_arg0)) (m ((c.tc : Thread nD τ).loc main_arg1)) p := by
  refine ⟨sitofp .bf16 (constantI S_ 32 0#32), ?_⟩
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_raws (c : Dev nD) : ∃ p : FVec Ideal S_ .f32, (V m c main_v41 : Vec Ideal S16x64x128 .f32)
    = rawLanes (m ((c.tc : Thread nD τ).loc main_arg2)) p := by
  refine ⟨sitofp .f32 (constantI S_ 32 0#32), ?_⟩
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_biases (c : Dev nD) : ∃ p : FVec Ideal S_ .f32, (V m c main_v21 : Vec Ideal S1x128 .f32)
    = headLanes (m ((c.tc : Thread nD τ).loc main_arg7)) p := by
  refine ⟨sitofp .f32 (constantI S_ 32 0#32), ?_⟩
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_rates (c : Dev nD) : ∃ p : FVec Ideal S_ .f32, (V m c main_v25 : Vec Ideal S1x128 .f32)
    = headLanes (m ((c.tc : Thread nD τ).loc main_arg8)) p := by
  refine ⟨sitofp .f32 (constantI S_ 32 0#32), ?_⟩
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_befores (c : Dev nD) : ∃ p : FVec Ideal S_ .f32, (V m c main_v39 : Vec Ideal S16x16x3072 .f32)
    = tailRows (m ((c.tc : Thread nD τ).loc main_arg3)) p := by
  refine ⟨sitofp .f32 (constantI S_ 32 0#32), ?_⟩
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_head (c : Dev nD) : (V m c main_v12 : Vec Ideal S128x2048 .bf16) = headMask := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_shifts (c : Dev nD) : (V m c main_v62 : Vec Ideal S192x128 .bf16) = shiftMasks := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl
theorem entry_state (c : Dev nD) (b : Fin 16) (h : Fin 16) (r n : Fin 128) : (V m c main_v38 : Vec Ideal S2x16x16x128x128 .f32) (ix5 0 b h r n)
    = (m ((c.tc : Thread nD τ).loc main_arg4) : Vec Ideal S2x16x32x64x128 .f32) (ix5 0 b ⟨(128 * h.val + r.val) / 64, by omega⟩ ⟨(128 * h.val + r.val) % 64, by omega⟩ n) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  pointwise []
  have e1 : ∀ h' : _ < 32, (⟨h.val * 2 + r.val / 64, h'⟩ : Fin 32) = ⟨(128 * h.val + r.val) / 64, by omega⟩ := fun _ => Fin.ext (by dsimp only; omega)
  have e2 : ∀ h' : _ < 64, (⟨r.val % 64, h'⟩ : Fin 64) = ⟨(128 * h.val + r.val) % 64, by omega⟩ := fun _ => Fin.ext (by dsimp only; omega)
  rw [e1, e2]
theorem entry_weight (c : Dev nD) (k : Fin 4) (l : Fin 3072) : (V m c main_v14 : Vec Ideal S4x3072 .f32) (ix2 k l)
    = (m ((c.tc : Thread nD τ).loc main_arg5) : Vec Ideal S2x4x3072 .f32) (ix3 0 k l) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  pointwise []
theorem entry_offset (c : Dev nD) (l : Fin 3072) : (V m c main_v17 : Vec Ideal S1x3072 .f32) (ix2 0 l)
    = (m ((c.tc : Thread nD τ).loc main_arg6) : Vec Ideal S2x3072 .f32) (ix2 0 l) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  pointwise []
theorem entry_skip (c : Dev nD) (l : Fin 2048) : (V m c main_v30 : Vec Ideal S1x2048 .f32) (ix2 0 l)
    = (m ((c.tc : Thread nD τ).loc main_arg9) : Vec Ideal S2x32 .f32) (ix2 0 (Item.head l)) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  pointwise [Item.head]
theorem entry_scale (c : Dev nD) (l : Fin 2048) : (V m c main_v33 : Vec Ideal S1x2048 .f32) (ix2 0 l)
    = (m ((c.tc : Thread nD τ).loc main_arg10) : Vec Ideal S2x2048 .f32) (ix2 0 l) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  pointwise []
theorem entry_lower (c : Dev nD) (t u : Fin 64) : (V m c main_v68 : Vec Ideal S64x64 .bf16) (ix2 t u)
    = if u.val ≤ t.val then (1 : EReal) else (0 : EReal) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  pointwise []
  rw [show IntOp.addi (BitVec.ofNat 32 t.val) 0#32 = BitVec.ofNat 32 t.val from BitVec.add_zero _, below]
  exact bit_real _

end Cert.SsdIdeal.Hand
end
-- ==== Proof.SsdPieces.lean ====
/-
  The stores of a point of the state-space call are the ones put together from parts.
-/
module

public import proofs.«01_k».proof.Proof.SsdBody

@[expose] public section

set_option maxRecDepth 100000
set_option maxHeartbeats 4000000

noncomputable section

namespace Cert.SsdIdeal.Hand

open Cert.SsdIdeal.Gen
open Idealize.ShloMosaic Idealize.ShloMosaic.TcCoe Idealize.ShloMosaic.Tactic Idealize.ShloMosaic.Rounds

theorem ofFn4 {α : Type*} (f : Fin 4 → α) : List.ofFn f = [f ⟨0, by omega⟩, f ⟨1, by omega⟩, f ⟨2, by omega⟩, f ⟨3, by omega⟩] := rfl
theorem ofFn16 {α : Type*} (f : Fin 16 → α) : List.ofFn f = [f ⟨0, by omega⟩, f ⟨1, by omega⟩, f ⟨2, by omega⟩, f ⟨3, by omega⟩, f ⟨4, by omega⟩, f
    ⟨5, by omega⟩, f ⟨6, by omega⟩, f ⟨7, by omega⟩, f ⟨8, by omega⟩, f ⟨9, by omega⟩, f ⟨10, by omega⟩, f ⟨11, by omega⟩, f ⟨12, by omega⟩, f ⟨13, by
    omega⟩, f ⟨14, by omega⟩, f ⟨15, by omega⟩] := rfl
theorem ofFn64 {α : Type*} (f : Fin 64 → α) : List.ofFn f = [f ⟨0, by omega⟩, f ⟨1, by omega⟩, f ⟨2, by omega⟩, f ⟨3, by omega⟩, f ⟨4, by omega⟩, f
    ⟨5, by omega⟩, f ⟨6, by omega⟩, f ⟨7, by omega⟩, f ⟨8, by omega⟩, f ⟨9, by omega⟩, f ⟨10, by omega⟩, f ⟨11, by omega⟩, f ⟨12, by omega⟩, f ⟨13, by
    omega⟩, f ⟨14, by omega⟩, f ⟨15, by omega⟩, f ⟨16, by omega⟩, f ⟨17, by omega⟩, f ⟨18, by omega⟩, f ⟨19, by omega⟩, f ⟨20, by omega⟩, f ⟨21, by
    omega⟩, f ⟨22, by omega⟩, f ⟨23, by omega⟩, f ⟨24, by omega⟩, f ⟨25, by omega⟩, f ⟨26, by omega⟩, f ⟨27, by omega⟩, f ⟨28, by omega⟩, f ⟨29, by
    omega⟩, f ⟨30, by omega⟩, f ⟨31, by omega⟩, f ⟨32, by omega⟩, f ⟨33, by omega⟩, f ⟨34, by omega⟩, f ⟨35, by omega⟩, f ⟨36, by omega⟩, f ⟨37, by
    omega⟩, f ⟨38, by omega⟩, f ⟨39, by omega⟩, f ⟨40, by omega⟩, f ⟨41, by omega⟩, f ⟨42, by omega⟩, f ⟨43, by omega⟩, f ⟨44, by omega⟩, f ⟨45, by
    omega⟩, f ⟨46, by omega⟩, f ⟨47, by omega⟩, f ⟨48, by omega⟩, f ⟨49, by omega⟩, f ⟨50, by omega⟩, f ⟨51, by omega⟩, f ⟨52, by omega⟩, f ⟨53, by
    omega⟩, f ⟨54, by omega⟩, f ⟨55, by omega⟩, f ⟨56, by omega⟩, f ⟨57, by omega⟩, f ⟨58, by omega⟩, f ⟨59, by omega⟩, f ⟨60, by omega⟩, f ⟨61, by
    omega⟩, f ⟨62, by omega⟩, f ⟨63, by omega⟩] := rfl

variable (m : (ℓ : Loc nD τ sig) → Buf (Elt Ideal) ℓ) (c : Dev nD) (t : Fin cfg0.N)

theorem tails_eq : (outsAt0 m c t).2.1 = View.canon [tailPiece (blocks m c t) ⟨3, by omega⟩, tailPiece (blocks m c t) ⟨2, by omega⟩,
    tailPiece (blocks m c t) ⟨1, by omega⟩, tailPiece (blocks m c t) ⟨0, by omega⟩] := by
  simp only [outsAt0]
  frame_out
  rfl

theorem states_results_eq :
    (outsAt0 m c t).2.2 = View.canon (List.ofFn fun i : Fin 64 => newHead (blocks m c t) ⟨3 - i.val / 16, by omega⟩ ⟨15 - i.val % 16, by omega⟩)
    ∧ (outsAt0 m c t).1 = View.canon [resultPiece (blocks m c t) ⟨3, by omega⟩, resultPiece (blocks m c t) ⟨2, by omega⟩,
      resultPiece (blocks m c t) ⟨1, by omega⟩, resultPiece (blocks m c t) ⟨0, by omega⟩] := by
  constructor
  all_goals
    simp only [outsAt0]
    frame_out
    dsimp only [blocks, newHead, resultPiece, results, old, stores, oldHead, held, kept, update, rates, lengths, step, conv, row, prev, rowsBefore,
      cleared, carried, cur, final, normed, gated, pair, decayed, newState, fromState, scores, queries, keys, sources, whole, wide, sums, window,
      place, ofFn4, ofFn16, ofFn64, Nat.reduceDiv, Nat.reduceMod, Nat.reduceMul, Nat.reduceAdd, Nat.reduceSub]
    dsimp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96, k0_pay97, k0_pay98,
      k0_pay99, k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199, k0_pay200, k0_pay201, k0_pay202,
      k0_pay203, k0_pay204, k0_pay205, k0_pay206, k0_pay207, k0_pay208, k0_pay209, k0_pay210, k0_pay211, k0_pay212, k0_pay213, k0_pay214, k0_pay215,
      k0_pay216, k0_pay217, k0_pay218, k0_pay219, k0_pay220, k0_pay221, k0_pay222, k0_pay223, k0_pay224, k0_pay225, k0_pay226, k0_pay227, k0_pay228,
      k0_pay229, k0_pay230, k0_pay231, k0_pay232, k0_pay233, k0_pay234, k0_pay235, k0_pay236, k0_pay237, k0_pay238, k0_pay239, k0_pay240, k0_pay241,
      k0_pay242, k0_pay243, k0_pay244, k0_pay245, k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279, k0_pay280,
      k0_pay281, k0_pay282, k0_pay283, k0_pay284, k0_pay285, k0_pay286, k0_pay287, k0_pay288, k0_pay289, k0_pay290, k0_pay291, k0_pay292, k0_pay293,
      k0_pay294, k0_pay295, k0_pay296, k0_pay297, k0_pay298, k0_pay299, k0_pay300, k0_pay301, k0_pay302, k0_pay303, k0_pay304, k0_pay305, k0_pay306,
      k0_pay307, k0_pay308, k0_pay309, k0_pay310, k0_pay311, k0_pay312, k0_pay313, k0_pay314, k0_pay315, k0_pay316, k0_pay317, k0_pay318, k0_pay319,
      k0_pay320, k0_pay321, k0_pay322, k0_pay323, k0_pay324, k0_pay325, k0_pay326, k0_pay327, k0_pay328, k0_pay329, k0_pay330, k0_pay331, k0_pay332,
      k0_pay333, k0_pay334, k0_pay335, k0_pay336, k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354, k0_pay355, k0_pay356, k0_pay357, k0_pay358,
      k0_pay359, k0_pay360, k0_pay361, k0_pay362, k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380, k0_pay381, k0_pay382, k0_pay383, k0_pay384,
      k0_pay385, k0_pay386, k0_pay387, k0_pay388, k0_pay389, k0_pay390, k0_pay391, k0_pay392, k0_pay393, k0_pay394, k0_pay395, k0_pay396, k0_pay397,
      k0_pay398, k0_pay399, k0_pay400, k0_pay401, k0_pay402, k0_pay403, k0_pay404, k0_pay405, k0_pay406, k0_pay407, k0_pay408, k0_pay409, k0_pay410,
      k0_pay411, k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435, k0_pay436,
      k0_pay437, k0_pay438, k0_pay439, k0_pay440, k0_pay441, k0_pay442, k0_pay443, k0_pay444, k0_pay445, k0_pay446, k0_pay447, k0_pay448, k0_pay449,
      k0_pay450, k0_pay451, k0_pay452, k0_pay453, k0_pay454, k0_pay455, k0_pay456, k0_pay457, k0_pay458, k0_pay459, k0_pay460, k0_pay461, k0_pay462,
      k0_pay463, k0_pay464, k0_pay465, k0_pay466, k0_pay467, k0_pay468, k0_pay469, k0_pay470, k0_pay471, k0_pay472, k0_pay473, k0_pay474, k0_pay475,
      k0_pay476, k0_pay477, k0_pay478, k0_pay479, k0_pay480, k0_pay481, k0_pay482, k0_pay483, k0_pay484, k0_pay485, k0_pay486, k0_pay487, k0_pay488,
      k0_pay489, k0_pay490, k0_pay491, k0_pay492, k0_pay493, k0_pay494, Nat.reduceDiv, Nat.reduceMod, Nat.reduceMul, Nat.reduceAdd, Nat.reduceSub]

end Cert.SsdIdeal.Hand

end
-- ==== Proof.SsdBlocks.lean ====
/-
  What the state-space call's blocks hold at a point: the arguments of the sequences of that point.
-/
module

public import proofs.«01_k».proof.Proof.SsdEntries
public import proofs.«01_k».proof.Proof.SsdPieces

@[expose] public section

set_option maxRecDepth 16384

noncomputable section

namespace Cert.SsdIdeal.Hand

open Cert.SsdIdeal.Gen Cert.Proof.Scan
open Idealize.ShloMosaic Idealize.ShloMosaic.TcCoe Idealize.ShloMosaic.Tactic Idealize.ShloMosaic.Rounds
open Idealize.ShloMosaic.Pipeline (Dat Cfg Window)

variable (m : (ℓ : Loc nD τ sig) → Buf (Elt Ideal) ℓ)

/-- The item of the arguments at a sequence. -/
def own (c : Dev nD) : Fin 16 → Item := Cert.SsdRefIdeal.Hand.item (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The first window's block is fetched whole: no lane of it is past the array's end. -/
theorem block0 (c : Dev nD) (t : Fin cfg0.N) (s : Fin 4) (r : Fin 64) (k : Fin 5120) (b : Fin 16) (hb : b.val = 4 * t.val + s.val) :
    (X0_0 m c t : Vec Ideal S4x64x5120 .bf16) (ix3 s r k) = (V m c main_v40 : Vec Ideal S16x64x12288 .bf16) (ix3 b r ⟨k.val, by omega⟩) := by
  unfold X0_0 Pipeline.Window.fill
  rw [dif_pos (moved0_0 t _)]
  refine congrArg (V m c main_v40 : Vec Ideal S16x64x12288 .bf16) ?_
  funext a
  refine Fin.ext ?_
  fin_cases a
  all_goals blk_simp [index0 t]
  · show t.val * 4 + s.val = b.val
    omega
  · rfl
  · rfl

theorem block1 (c : Dev nD) (t : Fin cfg0.N) (s : Fin 4) (r : Fin 64) (k : Fin 128) (b : Fin 16) (hb : b.val = 4 * t.val + s.val) :
    (iblk m c 1 t : Vec Ideal S4x64x128 .f32) (ix3 s r k) = (V m c main_v41 : Vec Ideal S16x64x128 .f32) (ix3 b r k) := by
  blk_ext [iblk, index1 t]

theorem block2 (c : Dev nD) (t : Fin cfg0.N) (s : Fin 4) (r : Fin 16) (k : Fin 3072) (b : Fin 16) (hb : b.val = 4 * t.val + s.val) :
    (iblk m c 2 t : Vec Ideal S4x16x3072 .f32) (ix3 s r k) = (V m c main_v39 : Vec Ideal S16x16x3072 .f32) (ix3 b r k) := by
  blk_ext [iblk, index2 t]

theorem block3 (c : Dev nD) (t : Fin cfg0.N) (s : Fin 4) (h : Fin 16) (r n : Fin 128) (b : Fin 16) (hb : b.val = 4 * t.val + s.val) :
    (iblk m c 3 t : Vec Ideal S1x4x16x128x128 .f32) (ix5 0 s h r n) = (V m c main_v38 : Vec Ideal S2x16x16x128x128 .f32) (ix5 0 b h r n) := by
  blk_ext [iblk, index3 t]

theorem block4 (c : Dev nD) (t : Fin cfg0.N) (i : Fin 4) (j : Fin 3072) :
    (iblk m c 4 t : Vec Ideal S4x3072 .f32) (ix2 i j) = (V m c main_v14 : Vec Ideal S4x3072 .f32) (ix2 i j) := by
  blk_ext [iblk, index4 t]

theorem block5 (c : Dev nD) (t : Fin cfg0.N) (i : Fin 1) (j : Fin 3072) :
    (iblk m c 5 t : Vec Ideal S1x3072 .f32) (ix2 i j) = (V m c main_v17 : Vec Ideal S1x3072 .f32) (ix2 i j) := by
  blk_ext [iblk, index5 t]

theorem block6 (c : Dev nD) (t : Fin cfg0.N) (i : Fin 1) (j : Fin 128) :
    (iblk m c 6 t : Vec Ideal S1x128 .f32) (ix2 i j) = (V m c main_v21 : Vec Ideal S1x128 .f32) (ix2 i j) := by
  blk_ext [iblk, index6 t]

theorem block7 (c : Dev nD) (t : Fin cfg0.N) (i : Fin 1) (j : Fin 128) :
    (iblk m c 7 t : Vec Ideal S1x128 .f32) (ix2 i j) = (V m c main_v25 : Vec Ideal S1x128 .f32) (ix2 i j) := by
  blk_ext [iblk, index7 t]

theorem block8 (c : Dev nD) (t : Fin cfg0.N) (i : Fin 1) (j : Fin 2048) :
    (iblk m c 8 t : Vec Ideal S1x2048 .f32) (ix2 i j) = (V m c main_v30 : Vec Ideal S1x2048 .f32) (ix2 i j) := by
  blk_ext [iblk, index8 t]

theorem block9 (c : Dev nD) (t : Fin cfg0.N) (i : Fin 1) (j : Fin 2048) :
    (iblk m c 9 t : Vec Ideal S1x2048 .f32) (ix2 i j) = (V m c main_v33 : Vec Ideal S1x2048 .f32) (ix2 i j) := by
  blk_ext [iblk, index9 t]

theorem block10 (c : Dev nD) (t : Fin cfg0.N) (i : Fin 128) (j : Fin 2048) :
    (iblk m c 10 t : Vec Ideal S128x2048 .bf16) (ix2 i j) = (V m c main_v12 : Vec Ideal S128x2048 .bf16) (ix2 i j) := by
  blk_ext [iblk, index10 t]

theorem block11 (c : Dev nD) (t : Fin cfg0.N) (i : Fin 192) (j : Fin 128) :
    (iblk m c 11 t : Vec Ideal S192x128 .bf16) (ix2 i j) = (V m c main_v62 : Vec Ideal S192x128 .bf16) (ix2 i j) := by
  blk_ext [iblk, index11 t]

theorem block12 (c : Dev nD) (t : Fin cfg0.N) (i : Fin 64) (j : Fin 64) :
    (iblk m c 12 t : Vec Ideal S64x64 .bf16) (ix2 i j) = (V m c main_v68 : Vec Ideal S64x64 .bf16) (ix2 i j) := by
  blk_ext [iblk, index12 t]

theorem read_cur (c : Dev nD) (t : Fin cfg0.N) (s : Fin 4) (b : Fin 16) (hb : b.val = 4 * t.val + s.val) (r : Fin 64) (l : Fin 3072) :
    (blocks m c t).x0 (ix3 s r ⟨l.val, by omega⟩) = (own m c b).inputs ⟨3 + r.val, by omega⟩ l := by
  dsimp only [blocks]
  obtain ⟨p, h⟩ := entry_proj m c
  refine (block0 m c t s r ⟨l.val, by omega⟩ b hb).trans ((congrFun h _).trans ?_)
  refine (projection_cur _ _ p b r l).trans (Eq.symm ?_)
  refine (dif_neg (by dsimp only; omega)).trans ?_
  exact congrArg (fun x => (m ((c.tc : Thread nD τ).loc main_arg1) : Vec Ideal S16x64x3072 .f32) (ix3 b x l)) (Fin.ext (by dsimp only; omega))

theorem read_before (c : Dev nD) (t : Fin cfg0.N) (s : Fin 4) (b : Fin 16) (hb : b.val = 4 * t.val + s.val) (k : Fin 3) (l : Fin 3072) :
    (blocks m c t).x2 (ix3 s ⟨13 + k.val, by omega⟩ l) = (own m c b).inputs ⟨k.val, by omega⟩ l := by
  dsimp only [blocks]
  obtain ⟨p, h⟩ := entry_befores m c
  refine (block2 m c t s ⟨13 + k.val, by omega⟩ l b hb).trans ((congrFun h _).trans ?_)
  refine (tailRows_eq _ p b k l).trans (Eq.symm ?_)
  exact dif_pos k.isLt

theorem read_gate (c : Dev nD) (t : Fin cfg0.N) (s : Fin 4) (b : Fin 16) (hb : b.val = 4 * t.val + s.val) (r : Fin 64) (l : Fin 2048) :
    (blocks m c t).x0 (ix3 s r ⟨3072 + l.val, by omega⟩) = (own m c b).gate r l := by
  dsimp only [blocks]
  obtain ⟨p, h⟩ := entry_proj m c
  exact (block0 m c t s r ⟨3072 + l.val, by omega⟩ b hb).trans ((congrFun h _).trans (projection_gate _ _ p b r l))

theorem read_raw (c : Dev nD) (t : Fin cfg0.N) (s : Fin 4) (b : Fin 16) (hb : b.val = 4 * t.val + s.val) (r : Fin 64) (h : Fin 32) :
    (blocks m c t).x1 (ix3 s r ⟨h.val, by omega⟩) = (own m c b).raw r h := by
  dsimp only [blocks]
  obtain ⟨p, e⟩ := entry_raws m c
  exact (block1 m c t s r ⟨h.val, by omega⟩ b hb).trans ((congrFun e _).trans (rawLanes_eq _ p b r h))

theorem read_state (c : Dev nD) (t : Fin cfg0.N) (s : Fin 4) (b : Fin 16) (hb : b.val = 4 * t.val + s.val) (h : Fin 16) (r n : Fin 128) :
    (blocks m c t).x3 (ix5 0 s h r n) = (own m c b).state ⟨128 * h.val + r.val, by omega⟩ n := by
  dsimp only [blocks]
  exact (block3 m c t s h r n b hb).trans (entry_state m c b h r n)

theorem read_weight (c : Dev nD) (t : Fin cfg0.N) (b : Fin 16) (k : Fin 4) (l : Fin 3072) :
    (blocks m c t).x4 (ix2 k l) = (own m c b).weight k l := by
  dsimp only [blocks]
  exact (block4 m c t k l).trans (entry_weight m c k l)

theorem read_offset (c : Dev nD) (t : Fin cfg0.N) (b : Fin 16) (l : Fin 3072) :
    (blocks m c t).x5 (ix2 0 l) = (own m c b).offset l := by
  dsimp only [blocks]
  exact (block5 m c t 0 l).trans (entry_offset m c l)

theorem read_bias (c : Dev nD) (t : Fin cfg0.N) (b : Fin 16) (h : Fin 32) :
    (blocks m c t).x6 (ix2 0 ⟨h.val, by omega⟩) = (own m c b).bias h := by
  dsimp only [blocks]
  obtain ⟨p, e⟩ := entry_biases m c
  exact (block6 m c t 0 ⟨h.val, by omega⟩).trans ((congrFun e _).trans (headLanes_eq _ p h))

theorem read_rate (c : Dev nD) (t : Fin cfg0.N) (b : Fin 16) (h : Fin 32) :
    (blocks m c t).x7 (ix2 0 ⟨h.val, by omega⟩) = (own m c b).rate h := by
  dsimp only [blocks]
  obtain ⟨p, e⟩ := entry_rates m c
  exact (block7 m c t 0 ⟨h.val, by omega⟩).trans ((congrFun e _).trans (headLanes_eq _ p h))

theorem read_skip (c : Dev nD) (t : Fin cfg0.N) (b : Fin 16) (l : Fin 2048) :
    (blocks m c t).x8 (ix2 0 l) = (own m c b).skip (Item.head l) := by
  dsimp only [blocks]
  exact (block8 m c t 0 l).trans (entry_skip m c l)

theorem read_scale (c : Dev nD) (t : Fin cfg0.N) (b : Fin 16) (l : Fin 2048) :
    (blocks m c t).x9 (ix2 0 l) = (own m c b).scale l := by
  dsimp only [blocks]
  exact (block9 m c t 0 l).trans (entry_scale m c l)

theorem read_rep (c : Dev nD) (t : Fin cfg0.N) (k : Fin 128) (l : Fin 2048) :
    (blocks m c t).x10 (ix2 k l) = if k.val = l.val / 64 then 1 else 0 := by
  dsimp only [blocks]
  exact (block10 m c t k l).trans ((congrFun (entry_head m c) _).trans (headMask_eq k l))

theorem read_shift (c : Dev nD) (t : Fin cfg0.N) (i : Fin 192) (j : Fin 128) :
    (blocks m c t).x11 (ix2 i j) = if j.val = i.val % 64 + 61 + i.val / 64 then 1 else 0 := by
  dsimp only [blocks]
  exact (block11 m c t i j).trans ((congrFun (entry_shifts m c) _).trans (shiftMasks_eq i j))

theorem read_lower (c : Dev nD) (t : Fin cfg0.N) (r u : Fin 64) :
    (blocks m c t).x12 (ix2 r u) = if u.val ≤ r.val then 1 else 0 := by
  dsimp only [blocks]
  exact (block12 m c t r u).trans (entry_lower m c r u)

/-- At a point, the blocks of its `s`-th sequence read that sequence's item. -/
theorem blocks_reads (c : Dev nD) (t : Fin cfg0.N) (s : Fin 4) (b : Fin 16) (hb : b.val = 4 * t.val + s.val) :
    Reads (blocks m c t) s (own m c b) where
  cur := read_cur m c t s b hb
  before := read_before m c t s b hb
  gate := read_gate m c t s b hb
  raw := read_raw m c t s b hb
  state := read_state m c t s b hb
  weight := read_weight m c t b
  offset := read_offset m c t b
  bias := read_bias m c t b
  rate := read_rate m c t b
  skip := read_skip m c t b
  scale := read_scale m c t b
  rep := read_rep m c t
  shift := read_shift m c t
  lower := read_lower m c t

end Cert.SsdIdeal.Hand
end
-- ==== Proof.SsdValue.lean ====
/-
  The state-space call's three result arrays, over the extended reals: each is the reference's.
-/
module

public import proofs.«01_k».proof.Proof.SsdBlocks
public import proofs.«01_k».proof.Proof.SsdPieces

@[expose] public section

set_option maxRecDepth 16384

noncomputable section

namespace Cert.SsdIdeal.Hand

open Cert.SsdIdeal.Gen Cert.Proof.Scan
open Idealize.ShloMosaic Idealize.ShloMosaic.TcCoe Idealize.ShloMosaic.Tactic Idealize.ShloMosaic.Rounds
open Idealize.ShloMosaic.Pipeline (Dat Cfg Window)

variable (m : (ℓ : Loc nD τ sig) → Buf (Elt Ideal) ℓ)

/-- The gated, normed result of every sequence. -/
def resultArray (c : Dev nD) : Vec Ideal S16x64x2048 .f32 := fun i => (own m c (i 0)).result (i 1) (i 2)

theorem array13 (c : Dev nD) : (dats m 0 c).arrAt 13 cfg0.N = resultArray m c := by
  refine (dats m 0 c).arrAt_eq_of_covers 13 _ (by decide +kernel) (fun t hf y => ?_)
  blk_simp
  rw [after0_13]
  idx_vars y
  have h0 : (((win0_13.blk t).view.emb (ix3 y0 y1 y2)) (0 : Fin 3) : ℕ) = 4 * t.val + y0.val := by
    blk_simp [index13 t]; omega
  have h1 : (((win0_13.blk t).view.emb (ix3 y0 y1 y2)) (1 : Fin 3) : ℕ) = y1.val := by
    blk_simp [index13 t]
  have h2 : (((win0_13.blk t).view.emb (ix3 y0 y1 y2)) (2 : Fin 3) : ℕ) = y2.val := by
    blk_simp [index13 t]
  have e1 : ((win0_13.blk t).view.emb (ix3 y0 y1 y2)) (1 : Fin 3) = y1 := Fin.ext h1
  have e2 : ((win0_13.blk t).view.emb (ix3 y0 y1 y2)) (2 : Fin 3) = y2 := Fin.ext h2
  unfold resultArray
  rw [e1, e2, (states_results_eq m c t).2, results_eq]
  exact results_item (blocks_reads m c t y0 _ h0) y1 y2

/-- One entry of the last three rows of a sequence's inputs. -/
def tailOf (c : Dev nD) (b : Fin 16) (k : Fin 3) (l : Fin 3072) : EReal := (own m c b).inputs ⟨64 + k.val, by omega⟩ l

/-- One entry of a sequence's next state. -/
def stateOf (c : Dev nD) (b q : Fin 16) (r n : Fin 128) : EReal := (own m c b).next ⟨128 * q.val + r.val, by omega⟩ n

/-- The last three rows of every sequence's inputs. -/
def tailArray (c : Dev nD) : Vec Ideal S16x3x3072 .f32 := fun i => tailOf m c (i 0) (i 1) (i 2)

theorem array14 (c : Dev nD) : (dats m 0 c).arrAt 14 cfg0.N = tailArray m c := by
  refine (dats m 0 c).arrAt_eq_of_covers 14 _ (by decide +kernel) (fun t hf y => ?_)
  blk_simp
  rw [after0_14]
  idx_vars y
  have h0 : (((win0_14.blk t).view.emb (ix3 y0 y1 y2)) (0 : Fin 3) : ℕ) = 4 * t.val + y0.val := by
    blk_simp [index14 t]; omega
  have h1 : (((win0_14.blk t).view.emb (ix3 y0 y1 y2)) (1 : Fin 3) : ℕ) = y1.val := by
    blk_simp [index14 t]
  have h2 : (((win0_14.blk t).view.emb (ix3 y0 y1 y2)) (2 : Fin 3) : ℕ) = y2.val := by
    blk_simp [index14 t]
  have e1 : ((win0_14.blk t).view.emb (ix3 y0 y1 y2)) (1 : Fin 3) = y1 := Fin.ext h1
  have e2 : ((win0_14.blk t).view.emb (ix3 y0 y1 y2)) (2 : Fin 3) = y2 := Fin.ext h2
  unfold tailArray
  rw [e1, e2, tails_eq m c t, conv_tails_eq]
  unfold tailOf
  refine ((blocks_reads m c t y0 _ h0).cur ⟨61 + y1.val, by omega⟩ y2).trans ?_
  exact congrArg (fun x => (own m c _).inputs x y2) (Fin.ext (by dsimp only; omega))

/-- Every sequence's next state. -/
def stateArray (c : Dev nD) : Vec Ideal S16x16x128x128 .f32 := fun i => stateOf m c (i 0) (i 1) (i 2) (i 3)

theorem array15 (c : Dev nD) (hr : ∀ b h, (own m c b).rate h ≠ ⊥) : (dats m 0 c).arrAt 15 cfg0.N = stateArray m c := by
  refine (dats m 0 c).arrAt_eq_of_covers 15 _ (by decide +kernel) (fun t hf y => ?_)
  blk_simp
  rw [after0_15]
  idx_vars y
  have h0 : (((win0_15.blk t).view.emb (ix4 y0 y1 y2 y3)) (0 : Fin 4) : ℕ) = 4 * t.val + y0.val := by
    blk_simp [index15 t]; omega
  have h1 : (((win0_15.blk t).view.emb (ix4 y0 y1 y2 y3)) (1 : Fin 4) : ℕ) = y1.val := by
    blk_simp [index15 t]
  have h2 : (((win0_15.blk t).view.emb (ix4 y0 y1 y2 y3)) (2 : Fin 4) : ℕ) = y2.val := by
    blk_simp [index15 t]
  have h3 : (((win0_15.blk t).view.emb (ix4 y0 y1 y2 y3)) (3 : Fin 4) : ℕ) = y3.val := by
    blk_simp [index15 t]
  have e1 : ((win0_15.blk t).view.emb (ix4 y0 y1 y2 y3)) (1 : Fin 4) = y1 := Fin.ext h1
  have e2 : ((win0_15.blk t).view.emb (ix4 y0 y1 y2 y3)) (2 : Fin 4) = y2 := Fin.ext h2
  have e3 : ((win0_15.blk t).view.emb (ix4 y0 y1 y2 y3)) (3 : Fin 4) = y3 := Fin.ext h3
  unfold stateArray
  rw [e1, e2, e3, (states_results_eq m c t).1, states_eq]
  unfold stateOf
  refine Eq.trans ?_ (update_item (blocks_reads m c t y0 _ h0) (hr _) ⟨128 * y1.val + y2.val, by omega⟩ y3)
  have eg : (⟨y1.val / 4, by omega⟩ : Fin 4) = Item.group ⟨128 * y1.val + y2.val, by omega⟩ := Fin.ext (by simp only [Item.group]; omega)
  have el : (⟨128 * (y1.val % 4) + y2.val, by omega⟩ : Fin 512) = ⟨(128 * y1.val + y2.val) % 512, by omega⟩ := Fin.ext (by dsimp only; omega)
  rw [eg, el]

theorem result_mixed (c : Dev nD) : (dats m 0 c).arrAt 13 cfg0.N = Cert.SsdRefIdeal.Read.val_main_v131 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [array13 m c]
  funext i
  idx_vars i
  exact (Cert.SsdRefIdeal.Hand.reference_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i0 i1 i2).symm

theorem result_tail (c : Dev nD) : (dats m 0 c).arrAt 14 cfg0.N = Cert.SsdRefIdeal.Read.val_main_v132 (m ((c.tc : Thread nD τ).loc main_arg1)) (m ((c.tc : Thread nD τ).loc main_arg3)) := by
  rw [array14 m c]
  funext i
  idx_vars i
  exact (Cert.SsdRefIdeal.Hand.reference_tail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i0 i1 i2).symm

theorem result_state (c : Dev nD) (hr : ∀ b h, (own m c b).rate h ≠ ⊥) : (dats m 0 c).arrAt 15 cfg0.N = Cert.SsdRefIdeal.Read.val_main_v133 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [array15 m c hr]
  funext i
  idx_vars i
  exact (Cert.SsdRefIdeal.Hand.reference_next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i0 i1 i2 i3).symm

end Cert.SsdIdeal.Hand
end
-- ==== Proof.SsdClaims.lean ====
/-
  The state-space call's claims: its frames, and that its idealized form computes the reference's three results where no rate is −∞.
-/
module

public import proofs.«01_k».proof.Defs
public import proofs.«01_k».proof.Proof.SsdValue
public import proofs.«01_k».proof.Proof.Gen.Ssd.Frame
public import Idealize.ShloMosaic.Lib.Quiescent

@[expose] public section

noncomputable section

open Idealize.ShloMosaic Idealize.ShloMosaic.TcCoe Idealize.ShloMosaic.Tactic Idealize.SL.Sem

namespace Cert.Proof.SsdClaims

instance : Cert.Ssd.Facts := Cert.Ssd.Gen.facts
instance : Cert.SsdIdeal.Facts := Cert.SsdIdeal.Gen.facts
instance : Cert.SsdRefIdeal.Facts := Cert.SsdRefIdeal.Gen.facts
instance : Cert.Pre_rates_above_minus_infinity.Facts where
  slices_S2x32_S1x32_0_0 := by decide
  shapeCasts_S1x32_S32 := by decide
  bcast_S_S32 := by decide

theorem frame_kernel : Cert.quiescent_Ssd := fun m ρ _ => Cert.Ssd.Gen.frame m ρ

theorem frame_ideal : Cert.quiescent_SsdIdeal := fun m ρ _ => Cert.SsdIdeal.Gen.frame m ρ

theorem frame_ideal_pre : Cert.quiescent_SsdIdeal_pre_rates_above_minus_infinity := fun m ρ _ => Cert.SsdIdeal.Gen.frame m ρ

theorem frame_reference : Cert.quiescent_SsdRefIdeal := fun m ρ _ =>
  (θ_run Cert.SsdRefIdeal.defs _ _).mono
    (fun r h => ⟨fun c => (h c).2.2.2, Idealize.ShloMosaic.sem_eq_zero_of_no_sems (by decide) r.2⟩)
    (Cert.SsdRefIdeal.Value.run (F := Ideal) m ρ)

theorem frame_reference_pre : Cert.quiescent_SsdRefIdeal_pre_rates_above_minus_infinity := fun m ρ _ => frame_reference m ρ trivial

/-- No operation is rewritten, so nothing is to be preserved. -/
theorem preserves : Cert.preserves_Ssd_SsdIdeal := trivial

/-- Where the precondition holds, no sequence's rate is −∞. -/
theorem rate_ne_bot (m : (ℓ : Loc Cert.SsdIdeal.nD Cert.SsdIdeal.τ Cert.SsdIdeal.sig) → Buf (Elt Ideal) ℓ)
    (hpre : Cert.Pre_SsdIdeal_rates_above_minus_infinity m) (c : Dev Cert.SsdIdeal.nD) (b : Fin 16) (h : Fin 32) :
    (Cert.SsdIdeal.Hand.own m c b).rate h ≠ ⊥ := by
  have e : (Cert.SsdIdeal.Hand.own m c b).rate h
      = (m ((c.tc : Thread Cert.SsdIdeal.nD Cert.SsdIdeal.τ).loc Cert.SsdIdeal.main_arg8) : Vec Ideal Cert.SsdIdeal.S2x32 .f32) (ix2 0 h) := rfl
  have hp := congrFun (hpre c) (ix1 h)
  rw [e]
  revert hp
  generalize (m ((c.tc : Thread Cert.SsdIdeal.nD Cert.SsdIdeal.τ).loc Cert.SsdIdeal.main_arg8) : Vec Ideal Cert.SsdIdeal.S2x32 .f32) = v
  intro hp hv
  have hp' : FloatOps.cmpf (F := Ideal) (φ := .f32) .ogt (v (ix2 0 h)) (Ideal.ofBits .f32 0xFF800000#32) = 1#1 := by
    refine Eq.trans ?_ hp
    pointwise [Cert.Pre_rates_above_minus_infinity.fn]
  rw [hv, Cert.SsdIdeal.Hand.bits_bot] at hp'
  have hc : Ideal.cmp .ogt (⊥ : EReal) ⊥ = 1#1 := hp'
  simp [Ideal.cmp] at hc

/-- All three results are the reference's, at arguments that agree. -/
theorem algebraic : Cert.algebraic_SsdIdeal_SsdRefIdeal_pre_rates_above_minus_infinity := by
  intro m ρ m' ρ' hpre hagree
  refine ⟨_, _, _, (θ_run Cert.SsdIdeal.defs _ _).mono (fun r h c =>
    ⟨(h c).1.trans (Cert.SsdIdeal.Hand.result_mixed m c), (h c).2.1.trans (Cert.SsdIdeal.Hand.result_tail m c),
      (h c).2.2.1.trans (Cert.SsdIdeal.Hand.result_state m c (rate_ne_bot m hpre c)), (h c).2.2.2⟩)
    (Cert.SsdIdeal.Value.run_blocks (F := Ideal) m ρ), ?_⟩
  refine (θ_run Cert.SsdRefIdeal.defs _ _).mono (fun r h c => ?_) (Cert.SsdRefIdeal.Value.run (F := Ideal) m' ρ')
  obtain ⟨hmixed, htail, hstate, hargs⟩ := h c
  obtain ⟨a0, a1, a2, a3, a4, a5, a6, a7, a8, a9, a10⟩ := hagree c
  have b0 : StableHlo.launchContents m' c (Proc.devRef .tc Cert.SsdRefIdeal.main_arg0) = m ((c.tc : Thread Cert.SsdIdeal.nD Cert.SsdIdeal.τ).loc Cert.SsdIdeal.main_arg0) := a0
  have b1 : StableHlo.launchContents m' c (Proc.devRef .tc Cert.SsdRefIdeal.main_arg1) = m ((c.tc : Thread Cert.SsdIdeal.nD Cert.SsdIdeal.τ).loc Cert.SsdIdeal.main_arg1) := a1
  have b2 : StableHlo.launchContents m' c (Proc.devRef .tc Cert.SsdRefIdeal.main_arg2) = m ((c.tc : Thread Cert.SsdIdeal.nD Cert.SsdIdeal.τ).loc Cert.SsdIdeal.main_arg2) := a2
  have b3 : StableHlo.launchContents m' c (Proc.devRef .tc Cert.SsdRefIdeal.main_arg3) = m ((c.tc : Thread Cert.SsdIdeal.nD Cert.SsdIdeal.τ).loc Cert.SsdIdeal.main_arg3) := a3
  have b4 : StableHlo.launchContents m' c (Proc.devRef .tc Cert.SsdRefIdeal.main_arg4) = m ((c.tc : Thread Cert.SsdIdeal.nD Cert.SsdIdeal.τ).loc Cert.SsdIdeal.main_arg4) := a4
  have b5 : StableHlo.launchContents m' c (Proc.devRef .tc Cert.SsdRefIdeal.main_arg5) = m ((c.tc : Thread Cert.SsdIdeal.nD Cert.SsdIdeal.τ).loc Cert.SsdIdeal.main_arg5) := a5
  have b6 : StableHlo.launchContents m' c (Proc.devRef .tc Cert.SsdRefIdeal.main_arg6) = m ((c.tc : Thread Cert.SsdIdeal.nD Cert.SsdIdeal.τ).loc Cert.SsdIdeal.main_arg6) := a6
  have b7 : StableHlo.launchContents m' c (Proc.devRef .tc Cert.SsdRefIdeal.main_arg7) = m ((c.tc : Thread Cert.SsdIdeal.nD Cert.SsdIdeal.τ).loc Cert.SsdIdeal.main_arg7) := a7
  have b8 : StableHlo.launchContents m' c (Proc.devRef .tc Cert.SsdRefIdeal.main_arg8) = m ((c.tc : Thread Cert.SsdIdeal.nD Cert.SsdIdeal.τ).loc Cert.SsdIdeal.main_arg8) := a8
  have b9 : StableHlo.launchContents m' c (Proc.devRef .tc Cert.SsdRefIdeal.main_arg9) = m ((c.tc : Thread Cert.SsdIdeal.nD Cert.SsdIdeal.τ).loc Cert.SsdIdeal.main_arg9) := a9
  have b10 : StableHlo.launchContents m' c (Proc.devRef .tc Cert.SsdRefIdeal.main_arg10) = m ((c.tc : Thread Cert.SsdIdeal.nD Cert.SsdIdeal.τ).loc Cert.SsdIdeal.main_arg10) := a10
  refine ⟨hmixed.trans ?_, htail.trans ?_, hstate.trans ?_, hargs⟩
  · rw [Cert.SsdRefIdeal.Read.val_main_v131_eq (StableHlo.launchContents m' c), b0, b1, b2, b3, b4, b5, b6, b7, b8, b9, b10]
  · rw [Cert.SsdRefIdeal.Read.val_main_v132_eq (StableHlo.launchContents m' c), b1, b3]
  · rw [Cert.SsdRefIdeal.Read.val_main_v133_eq (StableHlo.launchContents m' c), b1, b2, b3, b4, b5, b6, b7, b8]

end Cert.Proof.SsdClaims

end
-- ==== Proof.Gated.lean ====
/-
  The mathematics of the spatial gating branch and of the merge, over the extended reals, for one row of one chunk of 64 positions.

  A chunk is given by its rows `uv`, 2048 entries each: the first 1024 become `u`, the others `v`, both through the gelu.
-/
module

public import Idealize.ShloMosaic.Lib.Pointwise
public import Idealize.ShloMosaic.Lib.Pipeline.ValueKit

@[expose] public section

set_option maxRecDepth 16384

noncomputable section

namespace Cert.Proof.Gated

open Idealize.ShloMosaic Idealize.ShloMosaic.TcCoe Idealize.ShloMosaic.Tactic

/-- The coefficient of the gelu's cube, 0.044715 as a 32-bit literal. -/
def cubic : EReal := Ideal.ofBits .f32 0x3D372713#32

/-- The gelu's root of two over pi, as a 32-bit literal. -/
def root : EReal := Ideal.ofBits .f32 0x3F4C422A#32

/-- The gelu, by the hyperbolic tangent. -/
def gelu (x : EReal) : EReal :=
  x * (Ideal.ofBits .f32 0x3F000000#32 * (Ideal.ofBits .f32 0x3F800000#32 + Ideal.tanh (root * (x + cubic * (x * (x * x))))))

/-- The gating half of a row. -/
def value (row : Fin 2048 → EReal) (k : Fin 1024) : EReal := gelu (row ⟨1024 + k.val, by omega⟩)

/-- A row's deviation from its mean. -/
def deviation (row : Fin 2048 → EReal) (k : Fin 1024) : EReal :=
  value row k - Ideal.div (∑ l : Fin 1024, value row l) (Ideal.ofBits .f32 0x44800000#32)

/-- A row's layer norm, with gain `g` and bias `b`. -/
def normed (row : Fin 2048 → EReal) (g b : Fin 1024 → EReal) (k : Fin 1024) : EReal :=
  deviation row k * Ideal.rsqrt (Ideal.div (∑ l : Fin 1024, deviation row l * deviation row l) (Ideal.ofBits .f32 0x44800000#32)
    + Ideal.ofBits .f32 0x358637BD#32) * g k + b k

/-- The column's group: 128 columns each. -/
def group (k : Fin 1024) : Fin 8 := ⟨k.val / 128, by omega⟩

/-- The gate at position `t`: the earlier rows of the chunk and the row itself, weighted by the group's lower triangle, and the bias. -/
def gate (uv : Fin 64 → Fin 2048 → EReal) (g b : Fin 1024 → EReal) (w : Fin 8 → Fin 64 → Fin 64 → EReal) (c : Fin 8 → Fin 64 → EReal)
    (t : Fin 64) (k : Fin 1024) : EReal :=
  (∑ s : Fin 64, (if s.val ≤ t.val then w (group k) t s else 0) * normed (uv s) g b k) + c (group k) t

/-- The branch's result. -/
def gated (uv : Fin 64 → Fin 2048 → EReal) (g b : Fin 1024 → EReal) (w : Fin 8 → Fin 64 → Fin 64 → EReal) (c : Fin 8 → Fin 64 → EReal)
    (t : Fin 64) (k : Fin 1024) : EReal :=
  gelu (uv t ⟨k.val, by omega⟩) * gate uv g b w c t k

/-- The two branches' projections, each under the logistic of its gate. -/
def merged (ya : Fin 2048 → EReal) (yb : Fin 1024 → EReal) (gates : Fin 4096 → EReal) (wa : Fin 2048 → Fin 2048 → EReal)
    (wb : Fin 1024 → Fin 2048 → EReal) (l : Fin 2048) : EReal :=
  Ideal.logistic (gates ⟨l.val, by omega⟩) * (∑ k : Fin 2048, ya k * wa k l)
    + Ideal.logistic (gates ⟨2048 + l.val, by omega⟩) * (∑ k : Fin 1024, yb k * wb k l)

/-- The merge: a row `x` and the projection of the merged branches. -/
def joined (x ya : Fin 2048 → EReal) (yb : Fin 1024 → EReal) (gates : Fin 4096 → EReal) (wa : Fin 2048 → Fin 2048 → EReal)
    (wb : Fin 1024 → Fin 2048 → EReal) (wo : Fin 2048 → Fin 2048 → EReal) (l : Fin 2048) : EReal :=
  x l + ∑ k : Fin 2048, merged ya yb gates wa wb k * wo k l

end Cert.Proof.Gated
end
-- ==== Proof.MergePoint.lean ====
/-
  The merge call's stored tiles at an index, over the extended reals.

  A point takes 256 rows, four chunks of 64 positions. The gate is computed chunk by chunk and group by group, 64 rows by 128 columns each,
  and put together from these 32 pieces.
-/
module

public import proofs.«01_k».proof.Proof.Gated
public import proofs.«01_k».proof.Proof.Gen.MergeIdeal.Value

@[expose] public section

set_option maxRecDepth 16384

noncomputable section

namespace Cert.MergeIdeal.Hand

open Cert.MergeIdeal.Gen Cert.Proof.Gated
open Idealize.ShloMosaic Idealize.ShloMosaic.TcCoe Idealize.ShloMosaic.Tactic Idealize.ShloMosaic.Rounds

theorem corner (g : Fin 8) : ∀ a, (![g.val, 0, 0] : Fin 3 → Nat) a + S1x64x64.size a ≤ S8x128x128.size a := by
  revert g; decide
theorem column (g : Fin 8) : ∀ a, (![0, g.val] : Fin 2 → Nat) a + S64x1.size a ≤ S128x8.size a := by
  revert g; decide
theorem slices (n : Fin 4) (g : Fin 8) : S256x1024.Slices ![64 * n.val, 128 * g.val] S64x128 := by
  revert n g; decide

/-- The gate's piece for chunk `n` and group `g`: the group's lower triangle times the chunk's rows and the group's columns, and the bias. -/
def piece (v : FVec Ideal S256x1024 .bf16) (w : Vec Ideal S8x128x128 .f32) (c : Vec Ideal S128x8 .f32) (n : Fin 4) (g : Fin 8) :
    FVec Ideal S64x128 .f32 :=
  addf (matmul dot_S64x64_S64x128_S64x128_1_0_0_1_n_n none
      (truncf .bf16 (select k0_pay11 (shapeCast S64x64 (View.ld (Val := Elt Ideal) w
        (Rect.unit (s := S8x128x128) ![g.val, 0, 0] S1x64x64.size (corner g))) shapeCasts_S1x64x64_S64x64)
        (broadcast S64x64 (Scalar.ofBits .f32 0x00000000#32))) bitsLt_bf16_f32)
      (extractStridedSlice S64x128 ![64 * n.val, 128 * g.val] v (slices n g)) (constant S64x128 .f32 0x00000000#32))
    (broadcastTo S64x128 (shapeCast S64x1 (View.ld (Val := Elt Ideal) c
      (Rect.unit (s := S128x8) ![0, g.val] S64x1.size (column g))) shapeCasts_S64x1_S64x1) broadcasts_S64x1_S64x128)

/-- The gate of a chunk: its eight groups side by side. -/
def chunk (v : FVec Ideal S256x1024 .bf16) (w : Vec Ideal S8x128x128 .f32) (c : Vec Ideal S128x8 .f32) (n : Fin 4) : FVec Ideal S64x1024 .f32 :=
  concatenate S64x1024 1 (List.ofFn fun g : Fin 8 => (⟨S64x128, piece v w c n g⟩ : (s : Shape) × (s.Idx → EReal)))
    concatenates_S64x128_S64x128_S64x128_S64x128_S64x128_S64x128_S64x128_S64x128_S64x1024_d1

/-- The gate of a tile: its four chunks one under the other. -/
def gates (v : FVec Ideal S256x1024 .bf16) (w : Vec Ideal S8x128x128 .f32) (c : Vec Ideal S128x8 .f32) : FVec Ideal S256x1024 .f32 :=
  concatenate S256x1024 0 (List.ofFn fun n : Fin 4 => (⟨S64x1024, chunk v w c n⟩ : (s : Shape) × (s.Idx → EReal)))
    concatenates_S64x1024_S64x1024_S64x1024_S64x1024_S256x1024_d0

/-- The normalised rows of a tile. -/
def norms (x1 : Vec Ideal S256x6144 .bf16) (x3 x4 : Vec Ideal S1x1024 .f32) : FVec Ideal S256x1024 .bf16 :=
  k0_pay10 (k0_pay7 (View.ld x1 r0_4)) (k0_pay8 (View.ld x1 r0_4)) (View.ld x3 r0_5) (View.ld x4 r0_5)

/-- What the point stores, with the gate put together from its pieces. -/
theorem out_eq (x0 : Vec Ideal S256x2048 .bf16) (x1 : Vec Ideal S256x6144 .bf16) (x2 : Vec Ideal S256x2048 .f32) (x3 x4 : Vec Ideal S1x1024 .f32)
    (x5 : Vec Ideal S8x128x128 .f32) (x6 : Vec Ideal S128x8 .f32) (x7 : Vec Ideal S1x2048x2048 .bf16) (x8 : Vec Ideal S1x1024x2048 .bf16)
    (x9 : Vec Ideal S1x2048x2048 .bf16) :
    out0_10 x0 x1 x2 x3 x4 x5 x6 x7 x8 x9 = View.canon [⟨r0_2, k0_pay1 (k0_pay3 (View.ld x1 r0_1))
      (truncf .bf16 (mulf (k0_pay6 (View.ld x1 r0_4)) (gates (norms x1 x3 x4) x5 x6)) bitsLt_bf16_f32)
      (k0_pay54 (k0_pay2 (View.ld x1 r0_0)) (k0_pay4 (View.ld x0 r0_2) (View.ld x7 r0_3))) (View.ld x8 r0_23) (View.ld x2 r0_2)
      (View.ld x9 r0_3)⟩] := by
  rfl

theorem named_cubic (b : BitVec 16) : Named.named (F := Ideal) κ "gelu_cubic" (φ := .bf16) b = cubic := by
  show ((12003091 / 268435456 : ℝ) : EReal) = Ideal.ofBits .f32 0x3D372713#32
  simp [Ideal.ofBits, Ideal.ieee, -EReal.coe_mul]; norm_num
theorem named_root (b : BitVec 16) : Named.named (F := Ideal) κ "sqrt_2_over_pi" (φ := .bf16) b = root := by
  show ((6693141 / 8388608 : ℝ) : EReal) = Ideal.ofBits .f32 0x3F4C422A#32
  simp [Ideal.ofBits, Ideal.ieee, -EReal.coe_mul]; norm_num

theorem half_bf16 : Ideal.ofBits .bf16 0x3F00#16 = Ideal.ofBits .f32 0x3F000000#32 := by
  simp [Ideal.ofBits, Ideal.ieee, -EReal.coe_mul]; norm_num
theorem one_bf16 : Ideal.ofBits .bf16 0x3F80#16 = Ideal.ofBits .f32 0x3F800000#32 := by
  simp [Ideal.ofBits, Ideal.ieee, -EReal.coe_mul]; norm_num

theorem gelu_apply (x : Vec Ideal S256x2048 .bf16) (r : Fin 256) (k : Fin 2048) : k0_pay5 x (ix2 r k) = gelu (x (ix2 r k)) := by
  pointwise [k0_pay5, gelu, named_cubic, named_root, half_bf16, one_bf16]

theorem first_apply (x : Vec Ideal S256x2048 .bf16) (r : Fin 256) (k : Fin 1024) :
    k0_pay6 x (ix2 r k) = gelu (x (ix2 r ⟨k.val, by omega⟩)) := by
  pointwise [k0_pay6, gelu_apply]

theorem deviation_apply (x : Vec Ideal S256x2048 .bf16) (r : Fin 256) (k : Fin 1024) :
    k0_pay7 x (ix2 r k) = deviation (fun l => x (ix2 r l)) k := by
  pointwise [k0_pay7, gelu_apply, deviation, value]

theorem norm_apply (x : Vec Ideal S256x2048 .bf16) (g b : Vec Ideal S1x1024 .f32) (r : Fin 256) (k : Fin 1024) :
    k0_pay9 (k0_pay7 x) (k0_pay8 x) g b (ix2 r k)
      = normed (fun l => x (ix2 r l)) (fun l => g (ix2 0 l)) (fun l => b (ix2 0 l)) k := by
  pointwise [k0_pay9, k0_pay8, deviation_apply, normed]

theorem below : ∀ t s : Fin 64, IntOp.cmpi .sge (BitVec.ofNat 32 t.val) (BitVec.ofNat 32 s.val) = if s.val ≤ t.val then 1#1 else 0#1 := by
  decide +kernel

/-- The lower triangle, at an index. -/
theorem triangle_apply (w : Vec Ideal S1x64x64 .f32) (t s : Fin 64) :
    (truncf .bf16 (select k0_pay11 (shapeCast S64x64 w shapeCasts_S1x64x64_S64x64) (broadcast S64x64 (Scalar.ofBits .f32 0x00000000#32)))
      bitsLt_bf16_f32 : FVec Ideal S64x64 .bf16) (ix2 t s) = if s.val ≤ t.val then w (ix3 0 t s) else 0 := by
  pointwise [k0_pay11]
  rw [below]
  split <;> rfl

theorem weight_apply (w : Vec Ideal S8x128x128 .f32) (g : Fin 8) (t s : Fin 64) :
    (View.ld (Val := Elt Ideal) w (Rect.unit (s := S8x128x128) ![g.val, 0, 0] S1x64x64.size (corner g)) : Vec Ideal S1x64x64 .f32) (ix3 0 t s)
      = w (ix3 g ⟨t.val, by omega⟩ ⟨s.val, by omega⟩) :=
  View.ld_unit_apply_of w _ _ _ _ _ fun a => by
    fin_cases a
    · exact (Nat.add_zero _).symm
    · exact (Nat.zero_add _).symm
    · exact (Nat.zero_add _).symm

theorem bias_apply (c : Vec Ideal S128x8 .f32) (g : Fin 8) (t : Fin 64) :
    (View.ld (Val := Elt Ideal) c (Rect.unit (s := S128x8) ![0, g.val] S64x1.size (column g)) : Vec Ideal S64x1 .f32) (ix2 t 0)
      = c (ix2 ⟨t.val, by omega⟩ g) :=
  View.ld_unit_apply_of c _ _ _ _ _ fun a => by
    fin_cases a
    · exact (Nat.zero_add _).symm
    · exact (Nat.add_zero _).symm

theorem slice_apply (v : FVec Ideal S256x1024 .bf16) (n : Fin 4) (g : Fin 8) (s : Fin 64) (l : Fin 128) :
    extractStridedSlice S64x128 ![64 * n.val, 128 * g.val] v (slices n g) (ix2 s l)
      = v (ix2 ⟨64 * n.val + s.val, by omega⟩ ⟨128 * g.val + l.val, by omega⟩) := by
  pointwise []

theorem piece_apply (v : FVec Ideal S256x1024 .bf16) (w : Vec Ideal S8x128x128 .f32) (c : Vec Ideal S128x8 .f32) (n : Fin 4) (g : Fin 8)
    (t : Fin 64) (l : Fin 128) :
    piece v w c n g (ix2 t l) = (∑ s : Fin 64, (if s.val ≤ t.val then w (ix3 g ⟨t.val, by omega⟩ ⟨s.val, by omega⟩) else 0)
        * v (ix2 ⟨64 * n.val + s.val, by omega⟩ ⟨128 * g.val + l.val, by omega⟩)) + c (ix2 ⟨t.val, by omega⟩ g) := by
  unfold piece
  generalize hA : (truncf .bf16 _ bitsLt_bf16_f32 : FVec Ideal S64x64 .bf16) = A
  generalize hB : extractStridedSlice S64x128 _ v _ = B
  generalize hC : View.ld (Val := Elt Ideal) c _ = C
  pointwise []
  subst hA hB hC
  refine congrArg₂ (· + ·) (Finset.sum_congr rfl fun s _ => congrArg₂ (· * ·) ((triangle_apply _ t s).trans ?_) (slice_apply v n g s l))
    (bias_apply c g t)
  rw [weight_apply]

theorem gates_apply (v : FVec Ideal S256x1024 .bf16) (w : Vec Ideal S8x128x128 .f32) (c : Vec Ideal S128x8 .f32) (r : Fin 256) (k : Fin 1024) :
    gates v w c (ix2 r k)
      = (∑ s : Fin 64, (if s.val ≤ r.val % 64 then w (ix3 (group k) ⟨r.val % 64, by omega⟩ ⟨s.val, by omega⟩) else 0)
        * v (ix2 ⟨64 * (r.val / 64) + s.val, by omega⟩ k)) + c (ix2 ⟨r.val % 64, by omega⟩ (group k)) := by
  unfold gates
  rw [concatenate_ofFn_apply 0 (fun n : Fin 4 => chunk v w c n) concatenates_S64x1024_S64x1024_S64x1024_S64x1024_S256x1024_d0 rfl 64 rfl
    (ix2 r k) ⟨r.val / 64, by omega⟩ rfl (ix2 ⟨r.val % 64, by omega⟩ k) rfl (fun b hb => by fin_cases b <;> first | rfl | exact absurd rfl hb)]
  unfold chunk
  rw [concatenate_ofFn_apply 1 (fun g : Fin 8 => piece v w c ⟨r.val / 64, by omega⟩ g)
    concatenates_S64x128_S64x128_S64x128_S64x128_S64x128_S64x128_S64x128_S64x128_S64x1024_d1 rfl 128 rfl
    (ix2 ⟨r.val % 64, by omega⟩ k) (group k) rfl (ix2 ⟨r.val % 64, by omega⟩ ⟨k.val % 128, by omega⟩) rfl
    (fun b hb => by fin_cases b <;> first | rfl | exact absurd rfl hb)]
  rw [piece_apply]
  have hk : (⟨128 * (group k).val + k.val % 128, by have := (group k).isLt; omega⟩ : Fin 1024) = k := Fin.ext (Nat.div_add_mod k.val 128)
  simp only [hk]

theorem whole_gain (x : Vec Ideal S1x1024 .f32) : View.ld x r0_5 = x := View.ld_unit_lit _ x (by decide)
theorem whole_rows {t : EltTy} (x : Vec Ideal S256x2048 t) : View.ld x r0_2 = x := View.ld_unit_lit _ x (by decide)
theorem whole_square (x : Vec Ideal S1x2048x2048 .bf16) : View.ld x r0_3 = x := View.ld_unit_lit _ x (by decide)
theorem whole_half (x : Vec Ideal S1x1024x2048 .bf16) : View.ld x r0_23 = x := View.ld_unit_lit _ x (by decide)

theorem norms_eq (x1 : Vec Ideal S256x6144 .bf16) (x3 x4 : Vec Ideal S1x1024 .f32) (r : Fin 256) (k : Fin 1024) : norms x1 x3 x4 (ix2 r k)
    = k0_pay9 (k0_pay7 (View.ld x1 r0_4)) (k0_pay8 (View.ld x1 r0_4)) (View.ld x3 r0_5) (View.ld x4 r0_5) (ix2 r k) := by
  pointwise [norms, k0_pay10]

theorem norms_apply (x1 : Vec Ideal S256x6144 .bf16) (x3 x4 : Vec Ideal S1x1024 .f32) (r : Fin 256) (k : Fin 1024) :
    norms x1 x3 x4 (ix2 r k)
      = normed (fun l => x1 (ix2 r ⟨l.val, by omega⟩)) (fun l => x3 (ix2 0 l)) (fun l => x4 (ix2 0 l)) k := by
  rw [norms_eq, norm_apply]
  congr 1
  · funext l
    exact View.ld_unit_apply_of x1 _ _ _ _ _ fun a => by fin_cases a <;> exact (Nat.zero_add _).symm
  · rw [whole_gain]
  · rw [whole_gain]

/-- The merge of a tile, in terms of its gates and the branches' rows. -/
theorem merge_apply (a b : Vec Ideal S256x2048 .bf16) (y : FVec Ideal S256x1024 .bf16) (x0 : Vec Ideal S256x2048 .bf16)
    (x2 : Vec Ideal S256x2048 .f32) (x7 : Vec Ideal S1x2048x2048 .bf16) (x8 : Vec Ideal S1x1024x2048 .bf16) (x9 : Vec Ideal S1x2048x2048 .bf16)
    (r : Fin 256) (l : Fin 2048) :
    k0_pay1 (k0_pay3 b) y (k0_pay54 (k0_pay2 a) (k0_pay4 x0 x7)) x8 x2 x9 (ix2 r l)
      = x2 (ix2 r l) + ∑ k : Fin 2048, (Ideal.logistic (a (ix2 r k)) * (∑ j : Fin 2048, x0 (ix2 r j) * x7 (ix3 0 j k))
          + Ideal.logistic (b (ix2 r k)) * (∑ j : Fin 1024, y (ix2 r j) * x8 (ix3 0 j k))) * x9 (ix3 0 k l) := by
  pointwise [k0_pay1, k0_pay3, k0_pay54, k0_pay2, k0_pay4]

/-- The rows of the chunk that row `r` of a tile lies in. -/
def rows (x1 : Vec Ideal S256x6144 .bf16) (r : Fin 256) (s : Fin 64) (l : Fin 2048) : EReal :=
  x1 (ix2 ⟨64 * (r.val / 64) + s.val, by omega⟩ ⟨l.val, by omega⟩)

/-- The branch's rows of a tile. -/
theorem branch_apply (x1 : Vec Ideal S256x6144 .bf16) (x3 x4 : Vec Ideal S1x1024 .f32) (x5 : Vec Ideal S8x128x128 .f32) (x6 : Vec Ideal S128x8 .f32)
    (r : Fin 256) (k : Fin 1024) :
    (truncf .bf16 (mulf (k0_pay6 (View.ld x1 r0_4)) (gates (norms x1 x3 x4) x5 x6)) bitsLt_bf16_f32 : FVec Ideal S256x1024 .bf16) (ix2 r k)
      = gated (rows x1 r) (fun l => x3 (ix2 0 l)) (fun l => x4 (ix2 0 l)) (fun g t s => x5 (ix3 g ⟨t.val, by omega⟩ ⟨s.val, by omega⟩))
        (fun g t => x6 (ix2 ⟨t.val, by omega⟩ g)) ⟨r.val % 64, by omega⟩ k := by
  have h : (truncf .bf16 (mulf (k0_pay6 (View.ld x1 r0_4)) (gates (norms x1 x3 x4) x5 x6)) bitsLt_bf16_f32 : FVec Ideal S256x1024 .bf16) (ix2 r k)
      = k0_pay6 (View.ld x1 r0_4) (ix2 r k) * gates (norms x1 x3 x4) x5 x6 (ix2 r k) := rfl
  rw [h, first_apply, gates_apply]
  unfold gated gate rows
  simp only [norms_apply]
  have hr : (⟨64 * (r.val / 64) + r.val % 64, by omega⟩ : Fin 256) = r := Fin.ext (Nat.div_add_mod r.val 64)
  simp only [hr]
  congr 2
  exact View.ld_unit_apply_of x1 _ _ _ _ _ fun a => by fin_cases a <;> exact (Nat.zero_add _).symm

/-- What a point stores of the merge. -/
theorem out_apply (x0 : Vec Ideal S256x2048 .bf16) (x1 : Vec Ideal S256x6144 .bf16) (x2 : Vec Ideal S256x2048 .f32) (x3 x4 : Vec Ideal S1x1024 .f32)
    (x5 : Vec Ideal S8x128x128 .f32) (x6 : Vec Ideal S128x8 .f32) (x7 : Vec Ideal S1x2048x2048 .bf16) (x8 : Vec Ideal S1x1024x2048 .bf16)
    (x9 : Vec Ideal S1x2048x2048 .bf16) (r : Fin 256) (l : Fin 2048) :
    out0_10 x0 x1 x2 x3 x4 x5 x6 x7 x8 x9 (ix2 r l)
      = joined (fun k => x2 (ix2 r k)) (fun k => x0 (ix2 r k))
        (gated (rows x1 r) (fun l => x3 (ix2 0 l)) (fun l => x4 (ix2 0 l)) (fun g t s => x5 (ix3 g ⟨t.val, by omega⟩ ⟨s.val, by omega⟩))
          (fun g t => x6 (ix2 ⟨t.val, by omega⟩ g)) ⟨r.val % 64, by omega⟩)
        (fun k => x1 (ix2 r ⟨2048 + k.val, by omega⟩)) (fun j k => x7 (ix3 0 j k)) (fun j k => x8 (ix3 0 j k)) (fun j k => x9 (ix3 0 j k)) l := by
  rw [out_eq, whole_rows, whole_rows, whole_square, whole_square, whole_half]
  refine (congrFun (View.canon_cons_unit_lit _ _ _ (by decide)) (ix2 r l)).trans ?_
  rw [merge_apply]
  simp only [branch_apply]
  unfold joined merged
  have ha (k : Fin 2048) : View.ld x1 r0_0 (ix2 r k) = x1 (ix2 r ⟨2048 + k.val, by omega⟩) :=
    View.ld_unit_apply_of x1 _ _ _ _ _ fun a => by
      fin_cases a
      · exact (Nat.zero_add _).symm
      · rfl
  have hb (k : Fin 2048) : View.ld x1 r0_1 (ix2 r k) = x1 (ix2 r ⟨2048 + (2048 + k.val), by omega⟩) :=
    View.ld_unit_apply_of x1 _ _ _ _ _ fun a => by
      fin_cases a
      · exact (Nat.zero_add _).symm
      · exact (Nat.add_assoc 2048 2048 _).symm
  simp only [ha, hb]

/-- What a point stores of the normalised rows. -/
theorem out_norm_apply (x0 : Vec Ideal S256x2048 .bf16) (x1 : Vec Ideal S256x6144 .bf16) (x2 : Vec Ideal S256x2048 .f32) (x3 x4 : Vec Ideal S1x1024 .f32)
    (x5 : Vec Ideal S8x128x128 .f32) (x6 : Vec Ideal S128x8 .f32) (x7 : Vec Ideal S1x2048x2048 .bf16) (x8 : Vec Ideal S1x1024x2048 .bf16)
    (x9 : Vec Ideal S1x2048x2048 .bf16) (r : Fin 256) (k : Fin 1024) :
    out0_11 x0 x1 x2 x3 x4 x5 x6 x7 x8 x9 (ix2 r k)
      = normed (fun l => x1 (ix2 r ⟨l.val, by omega⟩)) (fun l => x3 (ix2 0 l)) (fun l => x4 (ix2 0 l)) k := by
  rw [← norms_apply]
  rw [norms_eq]
  exact congrFun (View.canon_cons_unit_lit _ _ _ (by decide)) (ix2 r k)

end Cert.MergeIdeal.Hand
end
-- ==== Proof.MergeValue.lean ====
/-
  The merge call's result arrays, over the extended reals, and the reference's.
-/
module

public import proofs.«01_k».proof.Proof.MergePoint
public import proofs.«01_k».proof.Proof.Gen.MergeRefIdeal.Read

@[expose] public section

set_option maxRecDepth 16384

noncomputable section

namespace Cert.MergeIdeal.Hand

open Cert.MergeIdeal.Gen Cert.Proof.Gated
open Idealize.ShloMosaic Idealize.ShloMosaic.TcCoe Idealize.ShloMosaic.Tactic Idealize.ShloMosaic.Rounds
open Idealize.ShloMosaic.Pipeline (Dat Cfg Window)

/-- The sample that row `i` of 1024 belongs to. -/
def sample (i : Fin 1024) : Fin 16 := ⟨i.val / 64, by omega⟩

/-- The row's position in its sample. -/
def position (i : Fin 1024) : Fin 64 := ⟨i.val % 64, by omega⟩

/-- The normalised rows of the gating half. -/
def normedRows (uv : Vec Ideal S16x64x2048 .f32) (g b : Vec Ideal S2x1024 .f32) : Vec Ideal S1024x1024 .f32 := fun i =>
  normed (fun l => uv (ix3 (sample (i 0)) (position (i 0)) l)) (fun l => g (ix2 0 l)) (fun l => b (ix2 0 l)) (i 1)

/-- The gating branch at a sample's position, with the first layer's parameters. -/
def branch (uv : Vec Ideal S16x64x2048 .f32) (g b : Vec Ideal S2x1024 .f32) (w : Vec Ideal S2x8x128x128 .f32) (c : Vec Ideal S2x8x128 .f32)
    (n : Fin 16) (t : Fin 64) : Fin 1024 → EReal :=
  gated (fun s l => uv (ix3 n s l)) (fun l => g (ix2 0 l)) (fun l => b (ix2 0 l)) (fun q t s => w (ix4 0 q ⟨t.val, by omega⟩ ⟨s.val, by omega⟩))
    (fun q t => c (ix3 0 q ⟨t.val, by omega⟩)) t

/-- The merged rows, with the first layer's parameters. -/
def joinedRows (ya uv : Vec Ideal S16x64x2048 .f32) (gates : Vec Ideal S16x64x4096 .f32) (x : Vec Ideal S16x64x2048 .f32)
    (g b : Vec Ideal S2x1024 .f32) (w : Vec Ideal S2x8x128x128 .f32) (c : Vec Ideal S2x8x128 .f32) (wa : Vec Ideal S2x2048x2048 .f32)
    (wb : Vec Ideal S2x1024x2048 .f32) (wo : Vec Ideal S2x2048x2048 .f32) : Vec Ideal S1024x2048 .f32 := fun i =>
  joined (fun k => x (ix3 (sample (i 0)) (position (i 0)) k)) (fun k => ya (ix3 (sample (i 0)) (position (i 0)) k))
    (branch uv g b w c (sample (i 0)) (position (i 0))) (fun k => gates (ix3 (sample (i 0)) (position (i 0)) k))
    (fun j k => wa (ix3 0 j k)) (fun j k => wb (ix3 0 j k)) (fun j k => wo (ix3 0 j k)) (i 1)

/-- The projection's layout: the rows of `uv` and of the gates behind 6144 columns that the call does not read. -/
def projection (uv : FVec Ideal S16x64x2048 .f32) (gates : FVec Ideal S16x64x4096 .f32) (z : FVec Ideal S_ .bf16) : FVec Ideal S1024x12288 .bf16 :=
  pad S1024x12288 ![0, 6144] ![0, 0] ![0, 0] (truncf .bf16 (shapeCast S1024x6144 (concatenate S16x64x6144 2 [⟨S16x64x2048, uv⟩, ⟨S16x64x4096, gates⟩]
    concatenates_S16x64x2048_S16x64x4096_S16x64x6144_d2) shapeCasts_S16x64x6144_S1024x6144 : FVec Ideal S1024x6144 .f32)
    bitsLt_bf16_f32) z pads_S1024x6144_S1024x12288_000_614400 h_S_

theorem projection_uv (uv : Vec Ideal S16x64x2048 .f32) (gates : Vec Ideal S16x64x4096 .f32) (z : FVec Ideal S_ .bf16) (i : Fin 1024) (k : Fin 2048) :
    projection uv gates z (ix2 i ⟨6144 + k.val, by omega⟩) = uv (ix3 (sample i) (position i) k) := by
  pointwise [projection, sample, position]
  exact dif_pos (by omega)

theorem projection_gates (uv : Vec Ideal S16x64x2048 .f32) (gates : Vec Ideal S16x64x4096 .f32) (z : FVec Ideal S_ .bf16) (i : Fin 1024)
    (k : Fin 4096) : projection uv gates z (ix2 i ⟨6144 + (2048 + k.val), by omega⟩) = gates (ix3 (sample i) (position i) k) := by
  pointwise [projection, sample, position]
  exact dif_pos (by omega)

section Kernel

variable (m : (ℓ : Loc nD τ sig) → Buf (Elt Ideal) ℓ)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 1 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 3) = 0 ∧ win0_7.index t (1 : Fin 3) = 0 ∧ win0_7.index t (2 : Fin 3) = 0 :=
  (by decide +kernel : ∀ t : Fin grid0.N, _)
theorem index8 : ∀ t : Fin cfg0.N, win0_8.index t (0 : Fin 3) = 0 ∧ win0_8.index t (1 : Fin 3) = 0 ∧ win0_8.index t (2 : Fin 3) = 0 :=
  (by decide +kernel : ∀ t : Fin grid0.N, _)
theorem index9 : ∀ t : Fin cfg0.N, win0_9.index t (0 : Fin 3) = 0 ∧ win0_9.index t (1 : Fin 3) = 0 ∧ win0_9.index t (2 : Fin 3) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)

theorem entry_proj (c : Dev nD) : ∃ z : FVec Ideal S_ .bf16,
    (V m c main_v3 : Vec Ideal S1024x12288 .bf16) = projection (m ((c.tc : Thread nD τ).loc main_arg1)) (m ((c.tc : Thread nD τ).loc main_arg2)) z := by
  refine ⟨sitofp .bf16 (constantI S_ 32 0#32), ?_⟩
  unfold V
  simp only [hostOps0, hostOps0_1, hostOps0_2, List.flatten_cons, List.flatten_nil, List.append_nil, List.cons_append, List.nil_append]
  after_results
  rfl
theorem entry_uv (c : Dev nD) (i : Fin 1024) (k : Fin 2048) : (V m c main_v3 : Vec Ideal S1024x12288 .bf16) (ix2 i ⟨6144 + k.val, by omega⟩)
    = ((m ((c.tc : Thread nD τ).loc main_arg1)) : Vec Ideal S16x64x2048 .f32) (ix3 (sample i) (position i) k) := by
  obtain ⟨z, h⟩ := entry_proj m c
  rw [h, projection_uv]
theorem entry_gates (c : Dev nD) (i : Fin 1024) (k : Fin 4096) :
    (V m c main_v3 : Vec Ideal S1024x12288 .bf16) (ix2 i ⟨6144 + (2048 + k.val), by omega⟩)
    = ((m ((c.tc : Thread nD τ).loc main_arg2)) : Vec Ideal S16x64x4096 .f32) (ix3 (sample i) (position i) k) := by
  obtain ⟨z, h⟩ := entry_proj m c
  rw [h, projection_gates]
theorem entry_ya (c : Dev nD) (i : Fin 1024) (k : Fin 2048) : (V m c main_v16 : Vec Ideal S1024x2048 .bf16) (ix2 i k)
    = ((m ((c.tc : Thread nD τ).loc main_arg0)) : Vec Ideal S16x64x2048 .f32) (ix3 (sample i) (position i) k) := by
  unfold V
  simp only [hostOps0, hostOps0_1, hostOps0_2, List.flatten_cons, List.flatten_nil, List.append_nil, List.cons_append, List.nil_append]
  after_results
  pointwise [sample, position]
theorem entry_x (c : Dev nD) (i : Fin 1024) (k : Fin 2048) : (V m c main_v17 : Vec Ideal S1024x2048 .f32) (ix2 i k)
    = ((m ((c.tc : Thread nD τ).loc main_arg3)) : Vec Ideal S16x64x2048 .f32) (ix3 (sample i) (position i) k) := by
  unfold V
  simp only [hostOps0, hostOps0_1, hostOps0_2, List.flatten_cons, List.flatten_nil, List.append_nil, List.cons_append, List.nil_append]
  after_results
  pointwise [sample, position]
theorem entry_gain (c : Dev nD) (k : Fin 1024) : (V m c main_v6 : Vec Ideal S1x1024 .f32) (ix2 0 k)
    = ((m ((c.tc : Thread nD τ).loc main_arg4)) : Vec Ideal S2x1024 .f32) (ix2 0 k) := by
  unfold V
  simp only [hostOps0, hostOps0_1, hostOps0_2, List.flatten_cons, List.flatten_nil, List.append_nil, List.cons_append, List.nil_append]
  after_results
  pointwise []
theorem entry_shift (c : Dev nD) (k : Fin 1024) : (V m c main_v9 : Vec Ideal S1x1024 .f32) (ix2 0 k)
    = ((m ((c.tc : Thread nD τ).loc main_arg5)) : Vec Ideal S2x1024 .f32) (ix2 0 k) := by
  unfold V
  simp only [hostOps0, hostOps0_1, hostOps0_2, List.flatten_cons, List.flatten_nil, List.append_nil, List.cons_append, List.nil_append]
  after_results
  pointwise []
theorem entry_weight (c : Dev nD) (q : Fin 8) (t s : Fin 128) : (V m c main_v11 : Vec Ideal S8x128x128 .f32) (ix3 q t s)
    = ((m ((c.tc : Thread nD τ).loc main_arg6)) : Vec Ideal S2x8x128x128 .f32) (ix4 0 q t s) := by
  unfold V
  simp only [hostOps0, hostOps0_1, hostOps0_2, List.flatten_cons, List.flatten_nil, List.append_nil, List.cons_append, List.nil_append]
  after_results
  pointwise []
theorem entry_bias (c : Dev nD) (q : Fin 8) (t : Fin 128) : (V m c main_v14 : Vec Ideal S128x8 .f32) (ix2 t q)
    = ((m ((c.tc : Thread nD τ).loc main_arg7)) : Vec Ideal S2x8x128 .f32) (ix3 0 q t) := by
  unfold V
  simp only [hostOps0, hostOps0_1, hostOps0_2, List.flatten_cons, List.flatten_nil, List.append_nil, List.cons_append, List.nil_append]
  after_results
  pointwise []
theorem entry_wa (c : Dev nD) (j k : Fin 2048) : (V m c main_v18 : Vec Ideal S2x2048x2048 .bf16) (ix3 0 j k)
    = ((m ((c.tc : Thread nD τ).loc main_arg8)) : Vec Ideal S2x2048x2048 .f32) (ix3 0 j k) := by
  unfold V
  simp only [hostOps0, hostOps0_1, hostOps0_2, List.flatten_cons, List.flatten_nil, List.append_nil, List.cons_append, List.nil_append]
  after_results
  pointwise []
theorem entry_wb (c : Dev nD) (j : Fin 1024) (k : Fin 2048) : (V m c main_v19 : Vec Ideal S2x1024x2048 .bf16) (ix3 0 j k)
    = ((m ((c.tc : Thread nD τ).loc main_arg9)) : Vec Ideal S2x1024x2048 .f32) (ix3 0 j k) := by
  unfold V
  simp only [hostOps0, hostOps0_1, hostOps0_2, List.flatten_cons, List.flatten_nil, List.append_nil, List.cons_append, List.nil_append]
  after_results
  pointwise []
theorem entry_wo (c : Dev nD) (j k : Fin 2048) : (V m c main_v20 : Vec Ideal S2x2048x2048 .bf16) (ix3 0 j k)
    = ((m ((c.tc : Thread nD τ).loc main_arg10)) : Vec Ideal S2x2048x2048 .f32) (ix3 0 j k) := by
  unfold V
  simp only [hostOps0, hostOps0_1, hostOps0_2, List.flatten_cons, List.flatten_nil, List.append_nil, List.cons_append, List.nil_append]
  after_results
  pointwise []

theorem block_ya (c : Dev nD) (t : Fin cfg0.N) (r : Fin 256) (k : Fin 2048) (i : Fin 1024) (hi : i.val = 256 * t.val + r.val) :
    (iblk m c 0 t : Vec Ideal S256x2048 .bf16) (ix2 r k) = (V m c main_v16 : Vec Ideal S1024x2048 .bf16) (ix2 i k) := by
  blk_ext [iblk, index0 t]
theorem block_proj (c : Dev nD) (t : Fin cfg0.N) (r : Fin 256) (k : Fin 6144) (i : Fin 1024) (hi : i.val = 256 * t.val + r.val) :
    (iblk m c 1 t : Vec Ideal S256x6144 .bf16) (ix2 r k) = (V m c main_v3 : Vec Ideal S1024x12288 .bf16) (ix2 i ⟨6144 + k.val, by omega⟩) := by
  blk_ext [iblk, index1 t]
theorem block_x (c : Dev nD) (t : Fin cfg0.N) (r : Fin 256) (k : Fin 2048) (i : Fin 1024) (hi : i.val = 256 * t.val + r.val) :
    (iblk m c 2 t : Vec Ideal S256x2048 .f32) (ix2 r k) = (V m c main_v17 : Vec Ideal S1024x2048 .f32) (ix2 i k) := by
  blk_ext [iblk, index2 t]
theorem block_gain (c : Dev nD) (t : Fin cfg0.N) (k : Fin 1024) :
    (iblk m c 3 t : Vec Ideal S1x1024 .f32) (ix2 0 k) = (V m c main_v6 : Vec Ideal S1x1024 .f32) (ix2 0 k) := by
  blk_ext [iblk, index3 t]
theorem block_shift (c : Dev nD) (t : Fin cfg0.N) (k : Fin 1024) :
    (iblk m c 4 t : Vec Ideal S1x1024 .f32) (ix2 0 k) = (V m c main_v9 : Vec Ideal S1x1024 .f32) (ix2 0 k) := by
  blk_ext [iblk, index4 t]
theorem block_weight (c : Dev nD) (t : Fin cfg0.N) (q : Fin 8) (a b : Fin 128) :
    (iblk m c 5 t : Vec Ideal S8x128x128 .f32) (ix3 q a b) = (V m c main_v11 : Vec Ideal S8x128x128 .f32) (ix3 q a b) := by
  blk_ext [iblk, index5 t]
theorem block_bias (c : Dev nD) (t : Fin cfg0.N) (a : Fin 128) (q : Fin 8) :
    (iblk m c 6 t : Vec Ideal S128x8 .f32) (ix2 a q) = (V m c main_v14 : Vec Ideal S128x8 .f32) (ix2 a q) := by
  blk_ext [iblk, index6 t]
theorem block_wa (c : Dev nD) (t : Fin cfg0.N) (j k : Fin 2048) :
    (iblk m c 7 t : Vec Ideal S1x2048x2048 .bf16) (ix3 0 j k) = (V m c main_v18 : Vec Ideal S2x2048x2048 .bf16) (ix3 0 j k) := by
  blk_ext [iblk, index7 t]
theorem block_wb (c : Dev nD) (t : Fin cfg0.N) (j : Fin 1024) (k : Fin 2048) :
    (iblk m c 8 t : Vec Ideal S1x1024x2048 .bf16) (ix3 0 j k) = (V m c main_v19 : Vec Ideal S2x1024x2048 .bf16) (ix3 0 j k) := by
  blk_ext [iblk, index8 t]
theorem block_wo (c : Dev nD) (t : Fin cfg0.N) (j k : Fin 2048) :
    (iblk m c 9 t : Vec Ideal S1x2048x2048 .bf16) (ix3 0 j k) = (V m c main_v20 : Vec Ideal S2x2048x2048 .bf16) (ix3 0 j k) := by
  blk_ext [iblk, index9 t]

theorem array11 (c : Dev nD) : (dats m 0 c).arrAt 11 cfg0.N = normedRows (m ((c.tc : Thread nD τ).loc main_arg1)) (m ((c.tc : Thread nD τ).loc main_arg4)) (m ((c.tc : Thread nD τ).loc main_arg5)) := by
  refine (dats m 0 c).arrAt_eq_of_covers 11 _ (by decide +kernel) (fun t hf y => ?_)
  blk_simp
  rw [after0_11]
  idx_vars y
  have h0 : (((win0_11.blk t).view.emb (ix2 y0 y1)) (0 : Fin 2) : ℕ) = 256 * t.val + y0.val := by
    blk_simp [index11 t]; omega
  have h1 : (((win0_11.blk t).view.emb (ix2 y0 y1)) (1 : Fin 2) : ℕ) = y1.val := by
    blk_simp [index11 t]
  have e1 : ((win0_11.blk t).view.emb (ix2 y0 y1)) (1 : Fin 2) = y1 := Fin.ext h1
  refine (out_norm_apply _ _ _ _ _ _ _ _ _ _ y0 y1).trans ?_
  unfold normedRows
  rw [e1]
  simp only [fun k : Fin 2048 => (block_proj m c t y0 ⟨k.val, by omega⟩ _ h0).trans (entry_uv m c _ k),
    fun k => (block_gain m c t k).trans (entry_gain m c k), fun k => (block_shift m c t k).trans (entry_shift m c k)]

theorem array10 (c : Dev nD) : (dats m 0 c).arrAt 10 cfg0.N
    = joinedRows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  refine (dats m 0 c).arrAt_eq_of_covers 10 _ (by decide +kernel) (fun t hf y => ?_)
  blk_simp
  rw [after0_10]
  idx_vars y
  have h0 : (((win0_10.blk t).view.emb (ix2 y0 y1)) (0 : Fin 2) : ℕ) = 256 * t.val + y0.val := by
    blk_simp [index10 t]; omega
  have h1 : (((win0_10.blk t).view.emb (ix2 y0 y1)) (1 : Fin 2) : ℕ) = y1.val := by
    blk_simp [index10 t]
  have e1 : ((win0_10.blk t).view.emb (ix2 y0 y1)) (1 : Fin 2) = y1 := Fin.ext h1
  refine (out_apply _ _ _ _ _ _ _ _ _ _ y0 y1).trans ?_
  unfold joinedRows branch
  rw [e1]
  have hrow (s : Fin 64) (l : Fin 2048) : rows (iblk m c 1 t) y0 s l = (m ((c.tc : Thread nD τ).loc main_arg1) : Vec Ideal S16x64x2048 .f32)
      (ix3 (sample (((win0_10.blk t).view.emb (ix2 y0 y1)) (0 : Fin 2))) s l) := by
    generalize ((win0_10.blk t).view.emb (ix2 y0 y1)) (0 : Fin 2) = i at h0
    have hi : i.val < 1024 := i.isLt
    refine ((block_proj m c t _ ⟨l.val, by omega⟩ ⟨64 * (i.val / 64) + s.val, by omega⟩ (by show _ = 256 * t.val + _; dsimp only; omega)).trans
      (entry_uv m c _ l)).trans ?_
    congr 1
    have e : sample ⟨64 * (i.val / 64) + s.val, by omega⟩ = sample i := Fin.ext (by dsimp only [sample]; omega)
    have e' : position ⟨64 * (i.val / 64) + s.val, by omega⟩ = s := Fin.ext (by dsimp only [position]; omega)
    rw [e, e']
  have hp : (⟨y0.val % 64, by omega⟩ : Fin 64) = position (((win0_10.blk t).view.emb (ix2 y0 y1)) (0 : Fin 2)) :=
    Fin.ext (by dsimp only [position]; rw [h0]; omega)
  rw [hp]
  simp only [show rows (iblk m c 1 t) y0 = _ from funext fun s => funext (hrow s),
    fun k : Fin 4096 => (block_proj m c t y0 ⟨2048 + k.val, by omega⟩ _ h0).trans (entry_gates m c _ k),
    fun k => (block_ya m c t y0 k _ h0).trans (entry_ya m c _ k), fun k => (block_x m c t y0 k _ h0).trans (entry_x m c _ k),
    fun k => (block_gain m c t k).trans (entry_gain m c k), fun k => (block_shift m c t k).trans (entry_shift m c k),
    fun q a b => (block_weight m c t q a b).trans (entry_weight m c q a b), fun a q => (block_bias m c t a q).trans (entry_bias m c q a),
    fun j k => (block_wa m c t j k).trans (entry_wa m c j k), fun j k => (block_wb m c t j k).trans (entry_wb m c j k),
    fun j k => (block_wo m c t j k).trans (entry_wo m c j k)]

end Kernel

section Reference

open Cert.MergeRefIdeal.Read

theorem reference_gelu (uv : Vec Ideal S16x64x2048 .f32) (n : Fin 16) (t : Fin 64) (k : Fin 2048) :
    (val_main_v20 uv (ix3 n t k) : EReal) = gelu (uv (ix3 n t k)) := by
  unfold gelu
  rw [mul_comm (uv (ix3 n t k)) (uv (ix3 n t k) * uv (ix3 n t k))]
  pointwise [val_main_v20, val_main_v19, val_main_v18, val_main_cst_2, val_main_v17, val_main_v16, val_main_cst_1, val_main_v15, val_main_v14, val_main_v13, val_main_cst_0, val_main_v12, val_main_v11, val_main_v10, val_main_cst, val_main_v9, val_main_v8, cubic, root]

theorem reference_deviation (uv : Vec Ideal S16x64x2048 .f32) (n : Fin 16) (t : Fin 64) (k : Fin 1024) :
    (val_main_v28 uv (ix3 n t k) : EReal) = deviation (fun l => uv (ix3 n t l)) k := by
  pointwise [val_main_v28, val_main_v27, val_main_v26, val_main_v25, val_main_cst_4, val_main_v24, val_main_v23, val_main_cst_3, val_main_v22, reference_gelu, deviation, value]

theorem reference_deviation' (uv : Vec Ideal S16x64x2048 .f32) (n : Fin 16) (t : Fin 64) (k : Fin 1024) :
    (val_main_v35 uv (ix3 n t k) : EReal) = deviation (fun l => uv (ix3 n t l)) k := reference_deviation uv n t k

theorem reference_normed (uv : Vec Ideal S16x64x2048 .f32) (g : Vec Ideal S2x1024 .f32) (b : Vec Ideal S2x1024 .f32) (n : Fin 16) (t : Fin 64) (k : Fin 1024) :
    (val_main_v46 uv g b (ix3 n t k) : EReal)
      = normed (fun l => uv (ix3 n t l)) (fun l => g (ix2 0 l)) (fun l => b (ix2 0 l)) k := by
  pointwise [val_main_v46, val_main_v45, val_main_v44, val_main_v43, val_main_v42, val_main_v41, val_main_v40, val_main_v39, val_main_v38, val_main_v37, val_main_v36, val_main_v33, val_main_v32, val_main_cst_6, val_main_v31, val_main_v30, val_main_cst_5, val_main_v29, val_main_cst_7, val_main_v3, val_main_v2, val_main_v1, val_main_v0, reference_deviation, reference_deviation', normed]

theorem reference_triangle (w : Vec Ideal S2x8x128x128 .f32) (q : Fin 8) (t s : Fin 64) :
    (val_main_v51 w (ix3 q t s) : EReal) = if s.val ≤ t.val then w (ix4 0 q ⟨t.val, by omega⟩ ⟨s.val, by omega⟩) else 0 := by
  pointwise [val_main_v51, val_main_call1_v2, val_main_call1_v1, val_main_call1_v0, val_main_cst_8, val_main_v50, val_main_v49, val_main_v48, val_main_call0_v5, val_main_call0_c_0, val_main_call0_v4, val_main_call0_v3, val_main_call0_v2, val_main_call0_v1, val_main_call0_c, val_main_call0_v0, val_main_v47, val_main_c, val_main_v5, val_main_v4, id_eq]
  rw [show IntOp.addi (BitVec.ofNat 32 t.val) 0#32 = BitVec.ofNat 32 t.val from BitVec.add_zero _, below]
  split <;> rfl

theorem reference_gate (uv : Vec Ideal S16x64x2048 .f32) (g : Vec Ideal S2x1024 .f32) (b : Vec Ideal S2x1024 .f32) (w : Vec Ideal S2x8x128x128 .f32) (c : Vec Ideal S2x8x128 .f32) (n : Fin 16) (t : Fin 64) (k : Fin 1024) :
    (val_main_v60 uv g b w c (ix3 n t k) : EReal)
      = gate (fun s l => uv (ix3 n s l)) (fun l => g (ix2 0 l)) (fun l => b (ix2 0 l)) (fun q t s => w (ix4 0 q ⟨t.val, by omega⟩ ⟨s.val, by omega⟩))
          (fun q t => c (ix3 0 q ⟨t.val, by omega⟩)) t k := by
  pointwise [val_main_v60, val_main_v59, val_main_v58, val_main_v57, val_main_v56, val_main_v55, val_main_v54, val_main_v53, val_main_v52, val_main_v7, val_main_v6, reference_triangle, reference_normed, gate, group]
  exact congrArg (· + _) (Finset.sum_congr rfl fun _ _ => mul_comm _ _)

theorem reference_branch (uv : Vec Ideal S16x64x2048 .f32) (g : Vec Ideal S2x1024 .f32) (b : Vec Ideal S2x1024 .f32) (w : Vec Ideal S2x8x128x128 .f32) (c : Vec Ideal S2x8x128 .f32) (n : Fin 16) (t : Fin 64) (k : Fin 1024) :
    (val_main_v61 uv g b w c (ix3 n t k) : EReal) = branch uv g b w c n t k := by
  pointwise [val_main_v61, val_main_v21, reference_gelu, reference_gate, branch, gated]

theorem reference_merged (ya : Vec Ideal S16x64x2048 .f32) (uv : Vec Ideal S16x64x2048 .f32) (gt : Vec Ideal S16x64x4096 .f32) (g : Vec Ideal S2x1024 .f32) (b : Vec Ideal S2x1024 .f32) (w : Vec Ideal S2x8x128x128 .f32) (c : Vec Ideal S2x8x128 .f32) (wa : Vec Ideal S2x2048x2048 .f32) (wb : Vec Ideal S2x1024x2048 .f32) (n : Fin 16) (t : Fin 64) (l : Fin 2048) :
    (val_main_v84 ya uv gt g b w c wa wb (ix3 n t l) : EReal)
      = merged (fun k => ya (ix3 n t k)) (branch uv g b w c n t) (fun k => gt (ix3 n t k)) (fun j k => wa (ix3 0 j k)) (fun j k => wb (ix3 0 j k)) l := by
  pointwise [val_main_v84, val_main_v83, val_main_v82, val_main_v81, val_main_v80, val_main_v79, val_main_v78, val_main_v77, val_main_v76, val_main_v75, val_main_v74, val_main_cst_12, val_main_v73, val_main_v72, val_main_cst_11, val_main_v71, val_main_v70, val_main_v69, val_main_v68, val_main_v67, val_main_cst_10, val_main_v66, val_main_v65, val_main_cst_9, val_main_v64, val_main_v63, val_main_v62, reference_branch, merged, Ideal.logistic]

theorem reference_joined (ya : Vec Ideal S16x64x2048 .f32) (uv : Vec Ideal S16x64x2048 .f32) (gt : Vec Ideal S16x64x4096 .f32) (x : Vec Ideal S16x64x2048 .f32) (g : Vec Ideal S2x1024 .f32) (b : Vec Ideal S2x1024 .f32) (w : Vec Ideal S2x8x128x128 .f32) (c : Vec Ideal S2x8x128 .f32) (wa : Vec Ideal S2x2048x2048 .f32) (wb : Vec Ideal S2x1024x2048 .f32) (wo : Vec Ideal S2x2048x2048 .f32) (i : Fin 1024) (l : Fin 2048) :
    (val_main_v89 ya uv gt x g b w c wa wb wo (ix2 i l) : EReal) = joinedRows ya uv gt x g b w c wa wb wo (ix2 i l) := by
  pointwise [val_main_v89, val_main_v88, val_main_v87, val_main_v86, val_main_v85, reference_merged, joinedRows, joined, sample, position]

theorem reference_rows (uv : Vec Ideal S16x64x2048 .f32) (g : Vec Ideal S2x1024 .f32) (b : Vec Ideal S2x1024 .f32) (i : Fin 1024) (k : Fin 1024) :
    (val_main_v90 uv g b (ix2 i k) : EReal) = normedRows uv g b (ix2 i k) := by
  pointwise [val_main_v90, reference_normed, normedRows, sample, position]

end Reference

section Results

variable (m : (ℓ : Loc nD τ sig) → Buf (Elt Ideal) ℓ)

open Cert.MergeRefIdeal.Read

/-- The merged rows are the reference's. -/
theorem result_rows (c : Dev nD) : (dats m 0 c).arrAt 10 cfg0.N
    = val_main_v89 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  rw [array10]
  funext j
  idx_vars j
  exact (reference_joined _ _ _ _ _ _ _ _ _ _ _ j0 j1).symm

/-- The normalised rows are the reference's. -/
theorem result_normed (c : Dev nD) : (dats m 0 c).arrAt 11 cfg0.N
    = val_main_v90 (m ((c.tc : Thread nD τ).loc main_arg1)) (m ((c.tc : Thread nD τ).loc main_arg4)) (m ((c.tc : Thread nD τ).loc main_arg5)) := by
  rw [array11]
  funext j
  idx_vars j
  exact (reference_rows _ _ _ j0 j1).symm

end Results

end Cert.MergeIdeal.Hand
end
-- ==== Proof.MergeClaims.lean ====
/-
  The merge call's claims: its three frames, what its named literals are, and that its idealized form computes the reference's two results.
-/
module

public import proofs.«01_k».proof.Defs
public import proofs.«01_k».proof.Proof.MergeValue
public import proofs.«01_k».proof.Proof.Gen.Merge.Frame
public import Idealize.ShloMosaic.Lib.Quiescent

@[expose] public section

noncomputable section

open Idealize.ShloMosaic Idealize.ShloMosaic.TcCoe Idealize.SL.Sem

namespace Cert.Proof.MergeClaims

instance : Cert.Merge.Facts := Cert.Merge.Gen.facts
instance : Cert.MergeIdeal.Facts := Cert.MergeIdeal.Gen.facts
instance : Cert.MergeRefIdeal.Facts := Cert.MergeRefIdeal.Gen.facts

theorem frame_kernel : Cert.quiescent_Merge := fun m ρ _ => Cert.Merge.Gen.frame m ρ

theorem frame_ideal : Cert.quiescent_MergeIdeal := fun m ρ _ => Cert.MergeIdeal.Gen.frame m ρ

theorem frame_reference : Cert.quiescent_MergeRefIdeal := fun m ρ _ =>
  (θ_run Cert.MergeRefIdeal.defs _ _).mono
    (fun r h => ⟨fun c => (h c).2.2, Idealize.ShloMosaic.sem_eq_zero_of_no_sems (by decide) r.2⟩)
    (Cert.MergeRefIdeal.Value.run (F := Ideal) m ρ)

/-- The gelu's two literals, each read as the reference's. -/
theorem preserves : Cert.preserves_Merge_MergeIdeal :=
  ⟨IdealRules.named_const.statement Cert.MergeIdeal.κ "gelu_cubic" .bf16 0x3D37#16 ((12003091 / 268435456 : ℝ) : EReal) rfl,
    IdealRules.named_const.statement Cert.MergeIdeal.κ "sqrt_2_over_pi" .bf16 0x3F4C#16 ((6693141 / 8388608 : ℝ) : EReal) rfl⟩

/-- Both results are the reference's, at arguments that agree. -/
theorem algebraic : Cert.algebraic_MergeIdeal_MergeRefIdeal := by
  intro m ρ m' ρ' _ hagree
  refine ⟨_, _, (θ_run Cert.MergeIdeal.defs _ _).mono (fun r h c =>
    ⟨(h c).1.trans (Cert.MergeIdeal.Hand.result_rows m c), (h c).2.1.trans (Cert.MergeIdeal.Hand.result_normed m c), (h c).2.2⟩)
    (Cert.MergeIdeal.Value.run_blocks (F := Ideal) m ρ), ?_⟩
  refine (θ_run Cert.MergeRefIdeal.defs _ _).mono (fun r h c => ?_) (Cert.MergeRefIdeal.Value.run (F := Ideal) m' ρ')
  obtain ⟨hrows, hnormed, hargs⟩ := h c
  obtain ⟨a0, a1, a2, a3, a4, a5, a6, a7, a8, a9, a10⟩ := hagree c
  refine ⟨hrows.trans ?_, hnormed.trans ?_, hargs⟩
  · rw [Cert.MergeRefIdeal.Read.val_main_v89_eq m' c, a0, a1, a2, a3, a4, a5, a6, a7, a8, a9, a10]
  · rw [Cert.MergeRefIdeal.Read.val_main_v90_eq m' c, a1, a4, a5]

end Cert.Proof.MergeClaims

end
-- ==== Proof.lean ====
/-
  The proof of `Cert.Claim`: for the input projection, the feed-forward call, the last call of the layer, the merge, the embedding
  call without the final norm and the state-space call, the frames of the kernel, of its idealized form and of the reference, and that
  the last two compute the same results. The modules `InprojClaims`, `FfnClaims`, `PleClaims`, `MergeClaims`, `PleFirstClaims` and
  `SsdClaims` prove each call's claims.
-/
module

public import proofs.«01_k».proof.Defs
public import proofs.«01_k».proof.Proof.InprojClaims
public import proofs.«01_k».proof.Proof.FfnClaims
public import proofs.«01_k».proof.Proof.PleClaims
public import proofs.«01_k».proof.Proof.PleFirstClaims
public import proofs.«01_k».proof.Proof.SsdClaims
public import proofs.«01_k».proof.Proof.MergeClaims

@[expose] public section

noncomputable section

namespace Cert.Proof

theorem claim : Cert.Claim :=
  ⟨Cert.Inproj.Gen.facts, Cert.InprojIdeal.Gen.facts, Cert.InprojRefIdeal.Gen.facts,
   Cert.Ffn.Gen.facts, Cert.FfnIdeal.Gen.facts, Cert.FfnRefIdeal.Gen.facts,
   Cert.Ple.Gen.facts, Cert.PleIdeal.Gen.facts, Cert.PleRefIdeal.Gen.facts,
   Cert.Merge.Gen.facts, Cert.MergeIdeal.Gen.facts, Cert.MergeRefIdeal.Gen.facts,
   Cert.PleFirst.Gen.facts, Cert.PleFirstIdeal.Gen.facts, Cert.PleFirstRefIdeal.Gen.facts,
   Cert.Ssd.Gen.facts, Cert.SsdIdeal.Gen.facts, Cert.SsdRefIdeal.Gen.facts, inferInstance,
   InprojClaims.frame_kernel, InprojClaims.frame_ideal, InprojClaims.frame_reference,
   FfnClaims.frame_kernel, FfnClaims.frame_ideal, FfnClaims.frame_reference,
   PleClaims.frame_kernel, PleClaims.frame_ideal, PleClaims.frame_reference,
   MergeClaims.frame_kernel, MergeClaims.frame_ideal, MergeClaims.frame_reference,
   PleFirstClaims.frame_kernel, PleFirstClaims.frame_ideal, PleFirstClaims.frame_reference,
   SsdClaims.frame_kernel, SsdClaims.frame_ideal, SsdClaims.frame_ideal_pre, SsdClaims.frame_reference, SsdClaims.frame_reference_pre,
   InprojClaims.preserves, InprojClaims.algebraic,
   FfnClaims.preserves, FfnClaims.algebraic,
   PleClaims.preserves, PleClaims.algebraic,
   MergeClaims.preserves, MergeClaims.algebraic,
   PleFirstClaims.preserves, PleFirstClaims.algebraic,
   SsdClaims.preserves, SsdClaims.algebraic⟩

end Cert.Proof

end
